-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)) (v4 : (c : Dev Cert.Kernel2Ideal.nD) → Buf (Elt Ideal) ((c.tc : Thread Cert.Kernel2Ideal.nD Cert.Kernel2Ideal.τ).loc Cert.Kernel2Ideal.main_v23_4)) (v5 : (c : Dev Cert.Kernel2Ideal.nD) → Buf (Elt Ideal) ((c.tc : Thread Cert.Kernel2Ideal.nD Cert.Kernel2Ideal.τ).loc Cert.Kernel2Ideal.main_v23_5)) (v6 : (c : Dev Cert.Kernel2Ideal.nD) → Buf (Elt Ideal) ((c.tc : Thread Cert.Kernel2Ideal.nD Cert.Kernel2Ideal.τ).loc Cert.Kernel2Ideal.main_v23_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_v23_5) = v5 c
          ∧ r.2.mem ((c.tc : Thread Cert.Kernel2Ideal.nD Cert.Kernel2Ideal.τ).loc Cert.Kernel2Ideal.main_v23_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v64) = v2 c
          ∧ r.2.mem ((c.tc : Thread Cert.Reference2Ideal.nD Cert.Reference2Ideal.τ).loc Cert.Reference2Ideal.main_v65) = v3 c
          ∧ r.2.mem ((c.tc : Thread Cert.Reference2Ideal.nD Cert.Reference2Ideal.τ).loc Cert.Reference2Ideal.main_v66) = v4 c
          ∧ r.2.mem ((c.tc : Thread Cert.Reference2Ideal.nD Cert.Reference2Ideal.τ).loc Cert.Reference2Ideal.main_v67) = v5 c
          ∧ r.2.mem ((c.tc : Thread Cert.Reference2Ideal.nD Cert.Reference2Ideal.τ).loc Cert.Reference2Ideal.main_v61) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x4096x1024 : Shape := ⟨3, ![8, 4096, 1024]⟩
abbrev S8x4096x512 : Shape := ⟨3, ![8, 4096, 512]⟩
abbrev S1x1024 : Shape := ⟨2, ![1, 1024]⟩
abbrev S1x1024x4808 : Shape := ⟨3, ![1, 1024, 4808]⟩
abbrev S1x2048 : Shape := ⟨2, ![1, 2048]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x4808 : Shape := ⟨2, ![1024, 4808]⟩
abbrev S1024x512 : Shape := ⟨2, ![1024, 512]⟩
abbrev S1024x64 : Shape := ⟨2, ![1024, 64]⟩
abbrev S1024x8 : Shape := ⟨2, ![1024, 8]⟩
abbrev S1024x1024 : Shape := ⟨2, ![1024, 1024]⟩
abbrev S1024x2048 : Shape := ⟨2, ![1024, 2048]⟩
abbrev S2048 : Shape := ⟨1, ![2048]⟩
abbrev S512x1024 : Shape := ⟨2, ![512, 1024]⟩
abbrev S1024x2816 : Shape := ⟨2, ![1024, 2816]⟩
abbrev S2816x1024 : Shape := ⟨2, ![2816, 1024]⟩
abbrev S1x512x512 : Shape := ⟨3, ![1, 512, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S1x256x512 : Shape := ⟨3, ![1, 256, 512]⟩
abbrev S256x512 : Shape := ⟨2, ![256, 512]⟩
abbrev S256x2816 : Shape := ⟨2, ![256, 2816]⟩

abbrev nBuf : Space → Nat
  | .hbm => 48
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024, .f32⟩
  | .hbm, ⟨4, _⟩ => ⟨S1x1024x4808, .f32⟩
  | .hbm, ⟨5, _⟩ => ⟨S1x2048, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S1024x4808, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x64, .f32⟩
  | .hbm, ⟨20, _⟩ => ⟨S1024x64, .f32⟩
  | .hbm, ⟨21, _⟩ => ⟨S1024x512, .f32⟩
  | .hbm, ⟨22, _⟩ => ⟨S1024x64, .f32⟩
  | .hbm, ⟨23, _⟩ => ⟨S1024x8, .f32⟩
  | .hbm, ⟨24, _⟩ => ⟨S1024x1024, .f32⟩
  | .hbm, ⟨25, _⟩ => ⟨S1024x1024, .f32⟩
  | .hbm, ⟨26, _⟩ => ⟨S1024x2048, .f32⟩
  | .hbm, ⟨27, _⟩ => ⟨S1024x2048, .bf16⟩
  | .hbm, ⟨28, _⟩ => ⟨S1024, .f32⟩
  | .hbm, ⟨29, _⟩ => ⟨S1x1024, .f32⟩
  | .hbm, ⟨30, _⟩ => ⟨S2048, .f32⟩
  | .hbm, ⟨31, _⟩ => ⟨S1x2048, .f32⟩
  | .hbm, ⟨32, _⟩ => ⟨S512x1024, .f32⟩
  | .hbm, ⟨33, _⟩ => ⟨S512x1024, .bf16⟩
  | .hbm, ⟨34, _⟩ => ⟨S512x1024, .f32⟩
  | .hbm, ⟨35, _⟩ => ⟨S512x1024, .bf16⟩
  | .hbm, ⟨36, _⟩ => ⟨S1024x1024, .f32⟩
  | .hbm, ⟨37, _⟩ => ⟨S1024x1024, .bf16⟩
  | .hbm, ⟨38, _⟩ => ⟨S1024, .f32⟩
  | .hbm, ⟨39, _⟩ => ⟨S1x1024, .f32⟩
  | .hbm, ⟨40, _⟩ => ⟨S1024x2816, .f32⟩
  | .hbm, ⟨41, _⟩ => ⟨S1024x2816, .bf16⟩
  | .hbm, ⟨42, _⟩ => ⟨S1024x2816, .f32⟩
  | .hbm, ⟨43, _⟩ => ⟨S1024x2816, .bf16⟩
  | .hbm, ⟨44, _⟩ => ⟨S2816x1024, .f32⟩
  | .hbm, ⟨45, _⟩ => ⟨S2816x1024, .bf16⟩
  | .hbm, ⟨46, _⟩ => ⟨S1x1024, .f32⟩
  | .hbm, ⟨47, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S8x4096x1024 : Shape := ⟨3, ![8, 4096, 1024]⟩
abbrev S8x4096x512 : Shape := ⟨3, ![8, 4096, 512]⟩
abbrev S1x1024 : Shape := ⟨2, ![1, 1024]⟩
abbrev S1x1024x4808 : Shape := ⟨3, ![1, 1024, 4808]⟩
abbrev S1x2048 : Shape := ⟨2, ![1, 2048]⟩
abbrev S1x512x1024 : Shape := ⟨3, ![1, 512, 1024]⟩
abbrev S1x1024x1024 : Shape := ⟨3, ![1, 1024, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4808 : Shape := ⟨2, ![1024, 4808]⟩
abbrev S8x4096x4808 : Shape := ⟨3, ![8, 4096, 4808]⟩
abbrev S512x1024 : Shape := ⟨2, ![512, 1024]⟩
abbrev S8x4096x2048 : Shape := ⟨3, ![8, 4096, 2048]⟩
abbrev S2048 : Shape := ⟨1, ![2048]⟩
abbrev S1x1x2048 : Shape := ⟨3, ![1, 1, 2048]⟩
abbrev S1024x1024 : Shape := ⟨2, ![1024, 1024]⟩
abbrev S1024x2816 : Shape := ⟨2, ![1024, 2816]⟩
abbrev S8x4096x2816 : Shape := ⟨3, ![8, 4096, 2816]⟩
abbrev S2816x1024 : Shape := ⟨2, ![2816, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1x1024, .f32⟩
  | .hbm, ⟨4, _⟩ => ⟨S1x1024x4808, .f32⟩
  | .hbm, ⟨5, _⟩ => ⟨S1x2048, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1024, .f32⟩
  | .hbm, ⟨14, _⟩ => ⟨S8x4096x512, .f32⟩
  | .hbm, ⟨15, _⟩ => ⟨S8x4096x512, .f32⟩
  | .hbm, ⟨16, _⟩ => ⟨S1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S1024x4808, .f32⟩
  | .hbm, ⟨34, _⟩ => ⟨S8x4096x4808, .f32⟩
  | .hbm, ⟨35, _⟩ => ⟨S8x4096x1024, .f32⟩
  | .hbm, ⟨36, _⟩ => ⟨S8x4096x1024, .f32⟩
  | .hbm, ⟨37, _⟩ => ⟨S512x1024, .f32⟩
  | .hbm, ⟨38, _⟩ => ⟨S8x4096x1024, .f32⟩
  | .hbm, ⟨39, _⟩ => ⟨S512x1024, .f32⟩
  | .hbm, ⟨40, _⟩ => ⟨S8x4096x1024, .f32⟩
  | .hbm, ⟨41, _⟩ => ⟨S8x4096x2048, .f32⟩
  | .hbm, ⟨42, _⟩ => ⟨S2048, .f32⟩
  | .hbm, ⟨43, _⟩ => ⟨S1x1x2048, .f32⟩
  | .hbm, ⟨44, _⟩ => ⟨S8x4096x2048, .f32⟩
  | .hbm, ⟨45, _⟩ => ⟨S8x4096x2048, .f32⟩
  | .hbm, ⟨46, _⟩ => ⟨S8x4096x2048, .f32⟩
  | .hbm, ⟨47, _⟩ => ⟨S8x4096x2048, .f32⟩
  | .hbm, ⟨48, _⟩ => ⟨S_, .f32⟩
  | .hbm, ⟨49, _⟩ => ⟨S8x4096x2048, .f32⟩
  | .hbm, ⟨50, _⟩ => ⟨S8x4096x2048, .f32⟩
  | .hbm, ⟨51, _⟩ => ⟨S_, .f32⟩
  | .hbm, ⟨52, _⟩ => ⟨S8x4096x2048, .f32⟩
  | .hbm, ⟨53, _⟩ => ⟨S8x4096x2048, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S1024x1024, .f32⟩
  | .hbm, ⟨60, _⟩ => ⟨S8x4096x1024, .f32⟩
  | .hbm, ⟨61, _⟩ => ⟨S8x4096x1024, .f32⟩
  | .hbm, ⟨62, _⟩ => ⟨S1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S1024x2816, .f32⟩
  | .hbm, ⟨80, _⟩ => ⟨S8x4096x2816, .f32⟩
  | .hbm, ⟨81, _⟩ => ⟨S8x4096x2816, .f32⟩
  | .hbm, ⟨82, _⟩ => ⟨S8x4096x2816, .f32⟩
  | .hbm, ⟨83, _⟩ => ⟨S_, .f32⟩
  | .hbm, ⟨84, _⟩ => ⟨S8x4096x2816, .f32⟩
  | .hbm, ⟨85, _⟩ => ⟨S8x4096x2816, .f32⟩
  | .hbm, ⟨86, _⟩ => ⟨S_, .f32⟩
  | .hbm, ⟨87, _⟩ => ⟨S8x4096x2816, .f32⟩
  | .hbm, ⟨88, _⟩ => ⟨S8x4096x2816, .f32⟩
  | .hbm, ⟨89, _⟩ => ⟨S8x4096x2816, .f32⟩
  | .hbm, ⟨90, _⟩ => ⟨S1024x2816, .f32⟩
  | .hbm, ⟨91, _⟩ => ⟨S8x4096x2816, .f32⟩
  | .hbm, ⟨92, _⟩ => ⟨S8x4096x2816, .f32⟩
  | .hbm, ⟨93, _⟩ => ⟨S2816x1024, .f32⟩
  | .hbm, ⟨94, _⟩ => ⟨S8x4096x1024, .f32⟩
  | .hbm, ⟨95, _⟩ => ⟨S8x4096x1024, .f32⟩
  | .hbm, ⟨96, _⟩ => ⟨S8x4096x1024, .f32⟩
  | .hbm, ⟨97, _⟩ => ⟨S_, .f32⟩
  | .hbm, ⟨98, _⟩ => ⟨S8x4096, .f32⟩
  | .hbm, ⟨99, _⟩ => ⟨S8x4096x1, .f32⟩
  | .hbm, ⟨100, _⟩ => ⟨S_, .f32⟩
  | .hbm, ⟨101, _⟩ => ⟨S8x4096x1, .f32⟩
  | .hbm, ⟨102, _⟩ => ⟨S8x4096x1, .f32⟩
  | .hbm, ⟨103, _⟩ => ⟨S_, .f32⟩
  | .hbm, ⟨104, _⟩ => ⟨S8x4096x1, .f32⟩
  | .hbm, ⟨105, _⟩ => ⟨S8x4096x1, .f32⟩
  | .hbm, ⟨106, _⟩ => ⟨S8x4096x1, .f32⟩
  | .hbm, ⟨107, _⟩ => ⟨S8x4096x1024, .f32⟩
  | .hbm, ⟨108, _⟩ => ⟨S8x4096x1024, .f32⟩
  | .hbm, ⟨109, _⟩ => ⟨S1x1x1024, .f32⟩
  | .hbm, ⟨110, _⟩ => ⟨S8x4096x1024, .f32⟩
  | .hbm, ⟨111, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_7 : Ref sig .tc := ⟨.hbm, 97, rfl⟩
abbrev main_v67 : Ref sig .tc := ⟨.hbm, 98, rfl⟩
abbrev main_v68 : Ref sig .tc := ⟨.hbm, 99, rfl⟩
abbrev main_cst_8 : Ref sig .tc := ⟨.hbm, 100, rfl⟩
abbrev main_v69 : Ref sig .tc := ⟨.hbm, 101, rfl⟩
abbrev main_v70 : Ref sig .tc := ⟨.hbm, 102, rfl⟩
abbrev main_cst_9 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024 : Shape := ⟨2, ![1, 1024]⟩
abbrev S1x1024x4808 : Shape := ⟨3, ![1, 1024, 4808]⟩
abbrev S1x3x512 : Shape := ⟨3, ![1, 3, 512]⟩
abbrev S1024x4808 : Shape := ⟨2, ![1024, 4808]⟩
abbrev S1024x512 : Shape := ⟨2, ![1024, 512]⟩
abbrev S1024x64 : Shape := ⟨2, ![1024, 64]⟩
abbrev S1024x8 : Shape := ⟨2, ![1024, 8]⟩
abbrev S1024x1024 : Shape := ⟨2, ![1024, 1024]⟩
abbrev S1024x1664 : Shape := ⟨2, ![1024, 1664]⟩
abbrev S_ : Shape := ⟨0, ![]⟩
abbrev S1024x1104 : Shape := ⟨2, ![1024, 1104]⟩
abbrev S1104x1024 : Shape := ⟨2, ![1104, 1024]⟩
abbrev S1024 : Shape := ⟨1, ![1024]⟩
abbrev S3x512 : Shape := ⟨2, ![3, 512]⟩
abbrev S8x4096x512 : Shape := ⟨3, ![8, 4096, 512]⟩
abbrev S8x4096x64 : Shape := ⟨3, ![8, 4096, 64]⟩
abbrev S8x512x4096 : Shape := ⟨3, ![8, 512, 4096]⟩
abbrev S8x16x80x256 : Shape := ⟨4, ![8, 16, 80, 256]⟩
abbrev S8x8x4096 : Shape := ⟨3, ![8, 8, 4096]⟩
abbrev S1x512x1024 : Shape := ⟨3, ![1, 512, 1024]⟩
abbrev S1x512x512 : Shape := ⟨3, ![1, 512, 512]⟩
abbrev S1x512x64 : Shape := ⟨3, ![1, 512, 64]⟩
abbrev S1x2x80x256 : Shape := ⟨4, ![1, 2, 80, 256]⟩
abbrev S1x8x512 : Shape := ⟨3, ![1, 8, 512]⟩
abbrev S520x512 : Shape := ⟨2, ![520, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S8x512 : Shape := ⟨2, ![8, 512]⟩
abbrev S256x512 : Shape := ⟨2, ![256, 512]⟩
abbrev S1x512 : Shape := ⟨2, ![1, 512]⟩
abbrev S1x256x512 : Shape := ⟨3, ![1, 256, 512]⟩
abbrev S1024x128 : Shape := ⟨2, ![1024, 128]⟩
abbrev S256x128 : Shape := ⟨2, ![256, 128]⟩
abbrev S256x64 : Shape := ⟨2, ![256, 64]⟩
abbrev S1x256x64 : Shape := ⟨3, ![1, 256, 64]⟩
abbrev S512x1024 : Shape := ⟨2, ![512, 1024]⟩
abbrev S512x256 : Shape := ⟨2, ![512, 256]⟩
abbrev S1x512x256 : Shape := ⟨3, ![1, 512, 256]⟩
abbrev S16x256 : Shape := ⟨2, ![16, 256]⟩
abbrev S80x1024 : Shape := ⟨2, ![80, 1024]⟩
abbrev S80x256 : Shape := ⟨2, ![80, 256]⟩
abbrev S64x256 : Shape := ⟨2, ![64, 256]⟩
abbrev S1x1x80x256 : Shape := ⟨4, ![1, 1, 80, 256]⟩
abbrev S8x256 : Shape := ⟨2, ![8, 256]⟩
abbrev S1x8x256 : Shape := ⟨3, ![1, 8, 256]⟩

abbrev nBuf : Space → Nat
  | .hbm => 36
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x4808, .f32⟩
  | .hbm, ⟨3, _⟩ => ⟨S1x3x512, .f32⟩
  | .hbm, ⟨4, _⟩ => ⟨S1024x4808, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x64, .f32⟩
  | .hbm, ⟨10, _⟩ => ⟨S1024x64, .f32⟩
  | .hbm, ⟨11, _⟩ => ⟨S1024x512, .f32⟩
  | .hbm, ⟨12, _⟩ => ⟨S1024x64, .f32⟩
  | .hbm, ⟨13, _⟩ => ⟨S1024x8, .f32⟩
  | .hbm, ⟨14, _⟩ => ⟨S1024x1024, .f32⟩
  | .hbm, ⟨15, _⟩ => ⟨S1024x1024, .f32⟩
  | .hbm, ⟨16, _⟩ => ⟨S1024x1664, .f32⟩
  | .hbm, ⟨17, _⟩ => ⟨S1024x1664, .bf16⟩
  | .hbm, ⟨18, _⟩ => ⟨S_, .f32⟩
  | .hbm, ⟨19, _⟩ => ⟨S1024x8, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x1104, .f32⟩
  | .hbm, ⟨24, _⟩ => ⟨S1104x1024, .f32⟩
  | .hbm, ⟨25, _⟩ => ⟨S1104x1024, .bf16⟩
  | .hbm, ⟨26, _⟩ => ⟨S1024, .f32⟩
  | .hbm, ⟨27, _⟩ => ⟨S1x1024, .f32⟩
  | .hbm, ⟨28, _⟩ => ⟨S3x512, .f32⟩
  | .hbm, ⟨29, _⟩ => ⟨S8x4096x512, .bf16⟩
  | .hbm, ⟨30, _⟩ => ⟨S8x4096x64, .bf16⟩
  | .hbm, ⟨31, _⟩ => ⟨S8x4096x64, .bf16⟩
  | .hbm, ⟨32, _⟩ => ⟨S8x512x4096, .bf16⟩
  | .hbm, ⟨33, _⟩ => ⟨S8x512x4096, .bf16⟩
  | .hbm, ⟨34, _⟩ => ⟨S8x16x80x256, .bf16⟩
  | .hbm, ⟨35, _⟩ => ⟨S8x8x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1664, .bf16⟩
  | .local _ .vmem, ⟨4, _⟩ => ⟨S1104x1024, .bf16⟩
  | .local _ .vmem, ⟨5, _⟩ => ⟨S3x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x2x80x256, .bf16⟩
  | .local _ .vmem, ⟨17, _⟩ => ⟨S1x2x80x256, .bf16⟩
  | .local _ .vmem, ⟨18, _⟩ => ⟨S1x8x512, .f32⟩
  | .local _ .vmem, ⟨19, _⟩ => ⟨S1x8x512, .f32⟩
  | .local _ .vmem, ⟨20, _⟩ => ⟨S520x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev main_v23_3 : Ref sig .tc := ⟨.hbm, 32, rfl⟩
abbrev main_v23_4 : Ref sig .tc := ⟨.hbm, 33, rfl⟩
abbrev main_v23_5 : Ref sig .tc := ⟨.hbm, 34, rfl⟩
abbrev main_v23_6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1104x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x80x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S8x4096x1024 : Shape := ⟨3, ![8, 4096, 1024]⟩
abbrev S1x1024 : Shape := ⟨2, ![1, 1024]⟩
abbrev S1x1024x4808 : Shape := ⟨3, ![1, 1024, 4808]⟩
abbrev S1x3x512 : Shape := ⟨3, ![1, 3, 512]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4808 : Shape := ⟨2, ![1024, 4808]⟩
abbrev S8x4096x4808 : Shape := ⟨3, ![8, 4096, 4808]⟩
abbrev S8x4096x512 : Shape := ⟨3, ![8, 4096, 512]⟩
abbrev S8x4096x64 : Shape := ⟨3, ![8, 4096, 64]⟩
abbrev S8x4096x8 : Shape := ⟨3, ![8, 4096, 8]⟩
abbrev S1x1x512 : Shape := ⟨3, ![1, 1, 512]⟩
abbrev S512 : Shape := ⟨1, ![512]⟩
abbrev S8x2x512 : Shape := ⟨3, ![8, 2, 512]⟩
abbrev S8x4094x512 : Shape := ⟨3, ![8, 4094, 512]⟩
abbrev S8x1x512 : Shape := ⟨3, ![8, 1, 512]⟩
abbrev S8x4095x512 : Shape := ⟨3, ![8, 4095, 512]⟩
abbrev S8x512x4096 : Shape := ⟨3, ![8, 512, 4096]⟩
abbrev S8x16x256x64 : Shape := ⟨4, ![8, 16, 256, 64]⟩
abbrev S8x16x64x256 : Shape := ⟨4, ![8, 16, 64, 256]⟩
abbrev S8x16x1x256 : Shape := ⟨4, ![8, 16, 1, 256]⟩
abbrev S8x16x15x256 : Shape := ⟨4, ![8, 16, 15, 256]⟩
abbrev S8x16x80x256 : Shape := ⟨4, ![8, 16, 80, 256]⟩
abbrev S8x8x4096 : Shape := ⟨3, ![8, 8, 4096]⟩

abbrev nBuf : Space → Nat
  | .hbm => 81
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x4808, .f32⟩
  | .hbm, ⟨3, _⟩ => ⟨S1x3x512, .f32⟩
  | .hbm, ⟨4, _⟩ => ⟨S1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S1024x4808, .f32⟩
  | .hbm, ⟨22, _⟩ => ⟨S8x4096x4808, .f32⟩
  | .hbm, ⟨23, _⟩ => ⟨S8x4096x512, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S8x4096x64, .f32⟩
  | .hbm, ⟨28, _⟩ => ⟨S8x4096x64, .f32⟩
  | .hbm, ⟨29, _⟩ => ⟨S8x4096x512, .f32⟩
  | .hbm, ⟨30, _⟩ => ⟨S8x4096x64, .f32⟩
  | .hbm, ⟨31, _⟩ => ⟨S8x4096x8, .f32⟩
  | .hbm, ⟨32, _⟩ => ⟨S8x4096x512, .f32⟩
  | .hbm, ⟨33, _⟩ => ⟨S1x1x512, .f32⟩
  | .hbm, ⟨34, _⟩ => ⟨S512, .f32⟩
  | .hbm, ⟨35, _⟩ => ⟨S_, .f32⟩
  | .hbm, ⟨36, _⟩ => ⟨S8x2x512, .f32⟩
  | .hbm, ⟨37, _⟩ => ⟨S8x4094x512, .f32⟩
  | .hbm, ⟨38, _⟩ => ⟨S8x4096x512, .f32⟩
  | .hbm, ⟨39, _⟩ => ⟨S1x1x512, .f32⟩
  | .hbm, ⟨40, _⟩ => ⟨S8x4096x512, .f32⟩
  | .hbm, ⟨41, _⟩ => ⟨S8x4096x512, .f32⟩
  | .hbm, ⟨42, _⟩ => ⟨S1x1x512, .f32⟩
  | .hbm, ⟨43, _⟩ => ⟨S512, .f32⟩
  | .hbm, ⟨44, _⟩ => ⟨S_, .f32⟩
  | .hbm, ⟨45, _⟩ => ⟨S8x1x512, .f32⟩
  | .hbm, ⟨46, _⟩ => ⟨S8x4095x512, .f32⟩
  | .hbm, ⟨47, _⟩ => ⟨S8x4096x512, .f32⟩
  | .hbm, ⟨48, _⟩ => ⟨S1x1x512, .f32⟩
  | .hbm, ⟨49, _⟩ => ⟨S8x4096x512, .f32⟩
  | .hbm, ⟨50, _⟩ => ⟨S8x4096x512, .f32⟩
  | .hbm, ⟨51, _⟩ => ⟨S8x4096x512, .f32⟩
  | .hbm, ⟨52, _⟩ => ⟨S1x1x512, .f32⟩
  | .hbm, ⟨53, _⟩ => ⟨S512, .f32⟩
  | .hbm, ⟨54, _⟩ => ⟨S1x1x512, .f32⟩
  | .hbm, ⟨55, _⟩ => ⟨S8x4096x512, .f32⟩
  | .hbm, ⟨56, _⟩ => ⟨S8x4096x512, .f32⟩
  | .hbm, ⟨57, _⟩ => ⟨S8x4096x512, .f32⟩
  | .hbm, ⟨58, _⟩ => ⟨S8x4096x512, .f32⟩
  | .hbm, ⟨59, _⟩ => ⟨S_, .f32⟩
  | .hbm, ⟨60, _⟩ => ⟨S8x4096x512, .f32⟩
  | .hbm, ⟨61, _⟩ => ⟨S8x4096x512, .f32⟩
  | .hbm, ⟨62, _⟩ => ⟨S8x512x4096, .f32⟩
  | .hbm, ⟨63, _⟩ => ⟨S8x512x4096, .f32⟩
  | .hbm, ⟨64, _⟩ => ⟨S8x16x256x64, .f32⟩
  | .hbm, ⟨65, _⟩ => ⟨S8x16x64x256, .f32⟩
  | .hbm, ⟨66, _⟩ => ⟨S_, .f32⟩
  | .hbm, ⟨67, _⟩ => ⟨S8x16x1x256, .f32⟩
  | .hbm, ⟨68, _⟩ => ⟨S_, .f32⟩
  | .hbm, ⟨69, _⟩ => ⟨S8x16x15x256, .f32⟩
  | .hbm, ⟨70, _⟩ => ⟨S8x16x80x256, .f32⟩
  | .hbm, ⟨71, _⟩ => ⟨S_, .f32⟩
  | .hbm, ⟨72, _⟩ => ⟨S8x4096x8, .f32⟩
  | .hbm, ⟨73, _⟩ => ⟨S8x4096x8, .f32⟩
  | .hbm, ⟨74, _⟩ => ⟨S8x8x4096, .f32⟩
  | .hbm, ⟨75, _⟩ => ⟨S8x4096x512, .bf16⟩
  | .hbm, ⟨76, _⟩ => ⟨S8x4096x64, .bf16⟩
  | .hbm, ⟨77, _⟩ => ⟨S8x4096x64, .bf16⟩
  | .hbm, ⟨78, _⟩ => ⟨S8x512x4096, .bf16⟩
  | .hbm, ⟨79, _⟩ => ⟨S8x512x4096, .bf16⟩
  | .hbm, ⟨80, _⟩ => ⟨S8x16x80x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_5 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩

abbrev nD : Nat := 1
abbrev τ : Topo := Topo.v7x

variable {F : FTy → Type} [FloatOps F]
-- ==== Kernel3.lean ====
abbrev S32x8 : Shape := ⟨2, ![32, 8]⟩
abbrev S8x512x4096 : Shape := ⟨3, ![8, 512, 4096]⟩
abbrev S8x8x4096 : Shape := ⟨3, ![8, 8, 4096]⟩
abbrev S8x4096x64 : Shape := ⟨3, ![8, 4096, 64]⟩
abbrev S8x16x80x256 : Shape := ⟨4, ![8, 16, 80, 256]⟩
abbrev S8x4096x512 : Shape := ⟨3, ![8, 4096, 512]⟩
abbrev S1x512x256 : Shape := ⟨3, ![1, 512, 256]⟩
abbrev S1x8x256 : Shape := ⟨3, ![1, 8, 256]⟩
abbrev S1x4096x64 : Shape := ⟨3, ![1, 4096, 64]⟩
abbrev S1x16x80x256 : Shape := ⟨4, ![1, 16, 80, 256]⟩
abbrev S1x256x512 : Shape := ⟨3, ![1, 256, 512]⟩
abbrev S16x256x256 : Shape := ⟨3, ![16, 256, 256]⟩
abbrev S16x32x8x256 : Shape := ⟨4, ![16, 32, 8, 256]⟩
abbrev S16x8x256 : Shape := ⟨3, ![16, 8, 256]⟩
abbrev S32x256x256 : Shape := ⟨3, ![32, 256, 256]⟩
abbrev S2x8x256x256 : Shape := ⟨4, ![2, 8, 256, 256]⟩
abbrev S512x256 : Shape := ⟨2, ![512, 256]⟩
abbrev S8x256 : Shape := ⟨2, ![8, 256]⟩
abbrev S8x256x256 : Shape := ⟨3, ![8, 256, 256]⟩
abbrev S256x256 : Shape := ⟨2, ![256, 256]⟩
abbrev S1x1 : Shape := ⟨2, ![1, 1]⟩
abbrev S1x1x256x256 : Shape := ⟨4, ![1, 1, 256, 256]⟩
abbrev S1x256x64 : Shape := ⟨3, ![1, 256, 64]⟩
abbrev S256x64 : Shape := ⟨2, ![256, 64]⟩
abbrev S1x64x256 : Shape := ⟨3, ![1, 64, 256]⟩
abbrev S64x256 : Shape := ⟨2, ![64, 256]⟩
abbrev S1x256x256 : Shape := ⟨3, ![1, 256, 256]⟩
abbrev S1x256 : Shape := ⟨2, ![1, 256]⟩
abbrev S32x256 : Shape := ⟨2, ![32, 256]⟩
abbrev S1x32x256 : Shape := ⟨3, ![1, 32, 256]⟩
abbrev S4x8x256 : Shape := ⟨3, ![4, 8, 256]⟩
abbrev S1x8x128 : Shape := ⟨3, ![1, 8, 128]⟩
abbrev S8x128 : Shape := ⟨2, ![8, 128]⟩
abbrev S1x1x8x128 : Shape := ⟨4, ![1, 1, 8, 128]⟩
abbrev S32x8x256 : Shape := ⟨3, ![32, 8, 256]⟩
abbrev S1x32x8x256 : Shape := ⟨4, ![1, 32, 8, 256]⟩
abbrev S1x1x8x256 : Shape := ⟨4, ![1, 1, 8, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x1x80x256 : Shape := ⟨4, ![1, 1, 80, 256]⟩
abbrev S80x256 : Shape := ⟨2, ![80, 256]⟩
abbrev S256x512 : Shape := ⟨2, ![256, 512]⟩

abbrev nBuf : Space → Nat
  | .hbm => 8
  | .vmem => 25
  | .smem => 1
  | _ => 0

abbrev bufTy : (tb : Table) → Fin (tcTables nBuf tb) → BufTy
  | .hbm, ⟨0, _⟩ => ⟨S32x8, .f32⟩
  | .hbm, ⟨1, _⟩ => ⟨S8x512x4096, .bf16⟩
  | .hbm, ⟨2, _⟩ => ⟨S8x8x4096, .f32⟩
  | .hbm, ⟨3, _⟩ => ⟨S8x4096x64, .bf16⟩
  | .hbm, ⟨4, _⟩ => ⟨S8x512x4096, .bf16⟩
  | .hbm, ⟨5, _⟩ => ⟨S8x4096x64, .bf16⟩
  | .hbm, ⟨6, _⟩ => ⟨S8x16x80x256, .bf16⟩
  | .hbm, ⟨7, _⟩ => ⟨S8x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x8x256, .f32⟩
  | .local _ .vmem, ⟨3, _⟩ => ⟨S1x8x256, .f32⟩
  | .local _ .vmem, ⟨4, _⟩ => ⟨S1x4096x64, .bf16⟩
  | .local _ .vmem, ⟨5, _⟩ => ⟨S1x4096x64, .bf16⟩
  | .local _ .vmem, ⟨6, _⟩ => ⟨S1x512x256, .bf16⟩
  | .local _ .vmem, ⟨7, _⟩ => ⟨S1x512x256, .bf16⟩
  | .local _ .vmem, ⟨8, _⟩ => ⟨S1x4096x64, .bf16⟩
  | .local _ .vmem, ⟨9, _⟩ => ⟨S1x4096x64, .bf16⟩
  | .local _ .vmem, ⟨10, _⟩ => ⟨S1x16x80x256, .bf16⟩
  | .local _ .vmem, ⟨11, _⟩ => ⟨S1x16x80x256, .bf16⟩
  | .local _ .vmem, ⟨12, _⟩ => ⟨S1x256x512, .bf16⟩
  | .local _ .vmem, ⟨13, _⟩ => ⟨S1x256x512, .bf16⟩
  | .local _ .vmem, ⟨14, _⟩ => ⟨S16x256x256, .i32⟩
  | .local _ .vmem, ⟨15, _⟩ => ⟨S16x32x8x256, .i32⟩
  | .local _ .vmem, ⟨16, _⟩ => ⟨S16x8x256, .i32⟩
  | .local _ .vmem, ⟨17, _⟩ => ⟨S32x256x256, .f32⟩
  | .local _ .vmem, ⟨18, _⟩ => ⟨S2x8x256x256, .f32⟩
  | .local _ .vmem, ⟨19, _⟩ => ⟨S512x256, .f32⟩
  | .local _ .vmem, ⟨20, _⟩ => ⟨S8x256, .f32⟩
  | .local _ .vmem, ⟨21, _⟩ => ⟨S8x256, .f32⟩
  | .local _ .vmem, ⟨22, _⟩ => ⟨S8x256, .f32⟩
  | .local _ .vmem, ⟨23, _⟩ => ⟨S8x256x256, .f32⟩
  | .local _ .vmem, ⟨24, _⟩ => ⟨S8x256x256, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![8, 16], ![false, false]⟩

def k0_mult1 : BitVec 32 :=
  let c0_i32_5 : BitVec 32 := 0#32
  c0_i32_5
@[reducible] def k0_t1_loop (i : grid0.Coords) : Scf.Loop 32 :=
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_58 : BitVec 32 := 1#32
  ⟨c0_i32_56, v82, c1_i32_58⟩
def k0_mult2 (i : grid0.Coords) (k0_t1 : Fin (k0_t1_loop i).trips) : BitVec 32 :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_336 : BitVec 32 := 1#32
  let v473 : BitVec 32 := Scalar.addi v472 c1_i32_336
  let c256_i32_337 : BitVec 32 := 256#32
  let v474 : BitVec 32 := Scalar.muli v473 c256_i32_337
  v474
def k0_off1 (i : grid0.Coords) (k0_t1 : Fin (k0_t1_loop i).trips) (c1_i32_336 : BitVec 32) : Fin 3 → Nat :=
  let c0_338 : Index := 0#32
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v473 : BitVec 32 := Scalar.addi v472 c1_i32_336
  let c256_i32_337 : BitVec 32 := 256#32
  let v474 : BitVec 32 := Scalar.muli v473 c256_i32_337
  let v475 : BitVec 32 := v474
  let v476 : Index := Scalar.indexCast v475
  let c0_339 : Index := 0#32
  ![0, v476.toNat, 0]
def k0_off2 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v597 : Index := Scalar.indexCast v472
  let c0_383 : Index := 0#32
  let c0_384 : Index := 0#32
  ![v597.toNat, 0, 0]
def k0_off3 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v693 : Index := Scalar.indexCast v472
  let c32_428 : Index := 32#32
  let c0_429 : Index := 0#32
  ![v693.toNat, 32, 0]
def k0_off4 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v789 : Index := Scalar.indexCast v472
  let c64_474 : Index := 64#32
  let c0_475 : Index := 0#32
  ![v789.toNat, 64, 0]
def k0_off5 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v885 : Index := Scalar.indexCast v472
  let c96_519 : Index := 96#32
  let c0_520 : Index := 0#32
  ![v885.toNat, 96, 0]
def k0_off6 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v981 : Index := Scalar.indexCast v472
  let c128_565 : Index := 128#32
  let c0_566 : Index := 0#32
  ![v981.toNat, 128, 0]
def k0_off7 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1077 : Index := Scalar.indexCast v472
  let c160_610 : Index := 160#32
  let c0_611 : Index := 0#32
  ![v1077.toNat, 160, 0]
def k0_off8 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1173 : Index := Scalar.indexCast v472
  let c192_656 : Index := 192#32
  let c0_657 : Index := 0#32
  ![v1173.toNat, 192, 0]
def k0_off9 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1269 : Index := Scalar.indexCast v472
  let c224_701 : Index := 224#32
  let c0_702 : Index := 0#32
  ![v1269.toNat, 224, 0]
def k0_off10 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1273 : Index := Scalar.indexCast v472
  let c0_703 : Index := 0#32
  let c0_704 : Index := 0#32
  ![v1273.toNat, 0, 0]
def k0_off11 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1276 : Index := Scalar.indexCast v472
  let c8 : Index := 8#32
  let c0_705 : Index := 0#32
  ![v1276.toNat, 8, 0]
def k0_off12 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1279 : Index := Scalar.indexCast v472
  let c16 : Index := 16#32
  let c0_706 : Index := 0#32
  ![v1279.toNat, 16, 0]
def k0_off13 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1282 : Index := Scalar.indexCast v472
  let c24 : Index := 24#32
  let c0_707 : Index := 0#32
  ![v1282.toNat, 24, 0]
def k0_off14 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1285 : Index := Scalar.indexCast v472
  let c32_708 : Index := 32#32
  let c0_709 : Index := 0#32
  ![v1285.toNat, 32, 0]
def k0_off15 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1288 : Index := Scalar.indexCast v472
  let c40 : Index := 40#32
  let c0_710 : Index := 0#32
  ![v1288.toNat, 40, 0]
def k0_off16 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1291 : Index := Scalar.indexCast v472
  let c48 : Index := 48#32
  let c0_711 : Index := 0#32
  ![v1291.toNat, 48, 0]
def k0_off17 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1294 : Index := Scalar.indexCast v472
  let c56 : Index := 56#32
  let c0_712 : Index := 0#32
  ![v1294.toNat, 56, 0]
def k0_off18 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1297 : Index := Scalar.indexCast v472
  let c64_713 : Index := 64#32
  let c0_714 : Index := 0#32
  ![v1297.toNat, 64, 0]
def k0_off19 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1300 : Index := Scalar.indexCast v472
  let c72 : Index := 72#32
  let c0_715 : Index := 0#32
  ![v1300.toNat, 72, 0]
def k0_off20 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1303 : Index := Scalar.indexCast v472
  let c80 : Index := 80#32
  let c0_716 : Index := 0#32
  ![v1303.toNat, 80, 0]
def k0_off21 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1306 : Index := Scalar.indexCast v472
  let c88 : Index := 88#32
  let c0_717 : Index := 0#32
  ![v1306.toNat, 88, 0]
def k0_off22 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1309 : Index := Scalar.indexCast v472
  let c96_718 : Index := 96#32
  let c0_719 : Index := 0#32
  ![v1309.toNat, 96, 0]
def k0_off23 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1312 : Index := Scalar.indexCast v472
  let c104 : Index := 104#32
  let c0_720 : Index := 0#32
  ![v1312.toNat, 104, 0]
def k0_off24 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1315 : Index := Scalar.indexCast v472
  let c112 : Index := 112#32
  let c0_721 : Index := 0#32
  ![v1315.toNat, 112, 0]
def k0_off25 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1318 : Index := Scalar.indexCast v472
  let c120 : Index := 120#32
  let c0_722 : Index := 0#32
  ![v1318.toNat, 120, 0]
def k0_off26 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1321 : Index := Scalar.indexCast v472
  let c128_723 : Index := 128#32
  let c0_724 : Index := 0#32
  ![v1321.toNat, 128, 0]
def k0_off27 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1324 : Index := Scalar.indexCast v472
  let c136 : Index := 136#32
  let c0_725 : Index := 0#32
  ![v1324.toNat, 136, 0]
def k0_off28 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1327 : Index := Scalar.indexCast v472
  let c144 : Index := 144#32
  let c0_726 : Index := 0#32
  ![v1327.toNat, 144, 0]
def k0_off29 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1330 : Index := Scalar.indexCast v472
  let c152 : Index := 152#32
  let c0_727 : Index := 0#32
  ![v1330.toNat, 152, 0]
def k0_off30 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1333 : Index := Scalar.indexCast v472
  let c160_728 : Index := 160#32
  let c0_729 : Index := 0#32
  ![v1333.toNat, 160, 0]
def k0_off31 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1336 : Index := Scalar.indexCast v472
  let c168 : Index := 168#32
  let c0_730 : Index := 0#32
  ![v1336.toNat, 168, 0]
def k0_off32 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1339 : Index := Scalar.indexCast v472
  let c176 : Index := 176#32
  let c0_731 : Index := 0#32
  ![v1339.toNat, 176, 0]
def k0_off33 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1342 : Index := Scalar.indexCast v472
  let c184 : Index := 184#32
  let c0_732 : Index := 0#32
  ![v1342.toNat, 184, 0]
def k0_off34 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1345 : Index := Scalar.indexCast v472
  let c192_733 : Index := 192#32
  let c0_734 : Index := 0#32
  ![v1345.toNat, 192, 0]
def k0_off35 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1348 : Index := Scalar.indexCast v472
  let c200 : Index := 200#32
  let c0_735 : Index := 0#32
  ![v1348.toNat, 200, 0]
def k0_off36 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1351 : Index := Scalar.indexCast v472
  let c208 : Index := 208#32
  let c0_736 : Index := 0#32
  ![v1351.toNat, 208, 0]
def k0_off37 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1354 : Index := Scalar.indexCast v472
  let c216 : Index := 216#32
  let c0_737 : Index := 0#32
  ![v1354.toNat, 216, 0]
def k0_off38 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1357 : Index := Scalar.indexCast v472
  let c224_738 : Index := 224#32
  let c0_739 : Index := 0#32
  ![v1357.toNat, 224, 0]
def k0_off39 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1360 : Index := Scalar.indexCast v472
  let c232 : Index := 232#32
  let c0_740 : Index := 0#32
  ![v1360.toNat, 232, 0]
def k0_off40 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1363 : Index := Scalar.indexCast v472
  let c240 : Index := 240#32
  let c0_741 : Index := 0#32
  ![v1363.toNat, 240, 0]
def k0_off41 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v1366 : Index := Scalar.indexCast v472
  let c248 : Index := 248#32
  let c0_742 : Index := 0#32
  ![v1366.toNat, 248, 0]
def k0_off42 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2089 : Index := Scalar.indexCast v472
  let c0_978 : Index := 0#32
  let c0_979 : Index := 0#32
  let c0_980 : Index := 0#32
  ![v2089.toNat, 0, 0, 0]
def k0_off43 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2093 : Index := Scalar.indexCast v472
  let c1_981 : Index := 1#32
  let c0_982 : Index := 0#32
  let c0_983 : Index := 0#32
  ![v2093.toNat, 1, 0, 0]
def k0_off44 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2097 : Index := Scalar.indexCast v472
  let c2_984 : Index := 2#32
  let c0_985 : Index := 0#32
  let c0_986 : Index := 0#32
  ![v2097.toNat, 2, 0, 0]
def k0_off45 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2101 : Index := Scalar.indexCast v472
  let c3_987 : Index := 3#32
  let c0_988 : Index := 0#32
  let c0_989 : Index := 0#32
  ![v2101.toNat, 3, 0, 0]
def k0_off46 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2105 : Index := Scalar.indexCast v472
  let c4_990 : Index := 4#32
  let c0_991 : Index := 0#32
  let c0_992 : Index := 0#32
  ![v2105.toNat, 4, 0, 0]
def k0_off47 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2109 : Index := Scalar.indexCast v472
  let c5_993 : Index := 5#32
  let c0_994 : Index := 0#32
  let c0_995 : Index := 0#32
  ![v2109.toNat, 5, 0, 0]
def k0_off48 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2113 : Index := Scalar.indexCast v472
  let c6_996 : Index := 6#32
  let c0_997 : Index := 0#32
  let c0_998 : Index := 0#32
  ![v2113.toNat, 6, 0, 0]
def k0_off49 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2117 : Index := Scalar.indexCast v472
  let c7_999 : Index := 7#32
  let c0_1000 : Index := 0#32
  let c0_1001 : Index := 0#32
  ![v2117.toNat, 7, 0, 0]
def k0_off50 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2121 : Index := Scalar.indexCast v472
  let c8_1002 : Index := 8#32
  let c0_1003 : Index := 0#32
  let c0_1004 : Index := 0#32
  ![v2121.toNat, 8, 0, 0]
def k0_off51 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2125 : Index := Scalar.indexCast v472
  let c9 : Index := 9#32
  let c0_1005 : Index := 0#32
  let c0_1006 : Index := 0#32
  ![v2125.toNat, 9, 0, 0]
def k0_off52 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2129 : Index := Scalar.indexCast v472
  let c10 : Index := 10#32
  let c0_1007 : Index := 0#32
  let c0_1008 : Index := 0#32
  ![v2129.toNat, 10, 0, 0]
def k0_off53 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2133 : Index := Scalar.indexCast v472
  let c11 : Index := 11#32
  let c0_1009 : Index := 0#32
  let c0_1010 : Index := 0#32
  ![v2133.toNat, 11, 0, 0]
def k0_off54 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2137 : Index := Scalar.indexCast v472
  let c12 : Index := 12#32
  let c0_1011 : Index := 0#32
  let c0_1012 : Index := 0#32
  ![v2137.toNat, 12, 0, 0]
def k0_off55 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2141 : Index := Scalar.indexCast v472
  let c13 : Index := 13#32
  let c0_1013 : Index := 0#32
  let c0_1014 : Index := 0#32
  ![v2141.toNat, 13, 0, 0]
def k0_off56 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2145 : Index := Scalar.indexCast v472
  let c14 : Index := 14#32
  let c0_1015 : Index := 0#32
  let c0_1016 : Index := 0#32
  ![v2145.toNat, 14, 0, 0]
def k0_off57 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2149 : Index := Scalar.indexCast v472
  let c15 : Index := 15#32
  let c0_1017 : Index := 0#32
  let c0_1018 : Index := 0#32
  ![v2149.toNat, 15, 0, 0]
def k0_off58 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2153 : Index := Scalar.indexCast v472
  let c16_1019 : Index := 16#32
  let c0_1020 : Index := 0#32
  let c0_1021 : Index := 0#32
  ![v2153.toNat, 16, 0, 0]
def k0_off59 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2157 : Index := Scalar.indexCast v472
  let c17 : Index := 17#32
  let c0_1022 : Index := 0#32
  let c0_1023 : Index := 0#32
  ![v2157.toNat, 17, 0, 0]
def k0_off60 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2161 : Index := Scalar.indexCast v472
  let c18 : Index := 18#32
  let c0_1024 : Index := 0#32
  let c0_1025 : Index := 0#32
  ![v2161.toNat, 18, 0, 0]
def k0_off61 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2165 : Index := Scalar.indexCast v472
  let c19 : Index := 19#32
  let c0_1026 : Index := 0#32
  let c0_1027 : Index := 0#32
  ![v2165.toNat, 19, 0, 0]
def k0_off62 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2169 : Index := Scalar.indexCast v472
  let c20 : Index := 20#32
  let c0_1028 : Index := 0#32
  let c0_1029 : Index := 0#32
  ![v2169.toNat, 20, 0, 0]
def k0_off63 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2173 : Index := Scalar.indexCast v472
  let c21 : Index := 21#32
  let c0_1030 : Index := 0#32
  let c0_1031 : Index := 0#32
  ![v2173.toNat, 21, 0, 0]
def k0_off64 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2177 : Index := Scalar.indexCast v472
  let c22 : Index := 22#32
  let c0_1032 : Index := 0#32
  let c0_1033 : Index := 0#32
  ![v2177.toNat, 22, 0, 0]
def k0_off65 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2181 : Index := Scalar.indexCast v472
  let c23 : Index := 23#32
  let c0_1034 : Index := 0#32
  let c0_1035 : Index := 0#32
  ![v2181.toNat, 23, 0, 0]
def k0_off66 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2185 : Index := Scalar.indexCast v472
  let c24_1036 : Index := 24#32
  let c0_1037 : Index := 0#32
  let c0_1038 : Index := 0#32
  ![v2185.toNat, 24, 0, 0]
def k0_off67 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2189 : Index := Scalar.indexCast v472
  let c25 : Index := 25#32
  let c0_1039 : Index := 0#32
  let c0_1040 : Index := 0#32
  ![v2189.toNat, 25, 0, 0]
def k0_off68 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2193 : Index := Scalar.indexCast v472
  let c26 : Index := 26#32
  let c0_1041 : Index := 0#32
  let c0_1042 : Index := 0#32
  ![v2193.toNat, 26, 0, 0]
def k0_off69 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2197 : Index := Scalar.indexCast v472
  let c27 : Index := 27#32
  let c0_1043 : Index := 0#32
  let c0_1044 : Index := 0#32
  ![v2197.toNat, 27, 0, 0]
def k0_off70 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2201 : Index := Scalar.indexCast v472
  let c28 : Index := 28#32
  let c0_1045 : Index := 0#32
  let c0_1046 : Index := 0#32
  ![v2201.toNat, 28, 0, 0]
def k0_off71 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2205 : Index := Scalar.indexCast v472
  let c29 : Index := 29#32
  let c0_1047 : Index := 0#32
  let c0_1048 : Index := 0#32
  ![v2205.toNat, 29, 0, 0]
def k0_off72 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2209 : Index := Scalar.indexCast v472
  let c30 : Index := 30#32
  let c0_1049 : Index := 0#32
  let c0_1050 : Index := 0#32
  ![v2209.toNat, 30, 0, 0]
def k0_off73 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2214 : Index := Scalar.indexCast v472
  let c31 : Index := 31#32
  let c0_1052 : Index := 0#32
  let c0_1053 : Index := 0#32
  ![v2214.toNat, 31, 0, 0]
def k0_off74 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2218 : Index := Scalar.indexCast v472
  let c0_1054 : Index := 0#32
  let c128_1055 : Index := 128#32
  ![v2218.toNat, 0, 128]
def k0_off75 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2221 : Index := Scalar.indexCast v472
  let c8_1056 : Index := 8#32
  let c128_1057 : Index := 128#32
  ![v2221.toNat, 8, 128]
def k0_off76 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2224 : Index := Scalar.indexCast v472
  let c16_1058 : Index := 16#32
  let c128_1059 : Index := 128#32
  ![v2224.toNat, 16, 128]
def k0_off77 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2227 : Index := Scalar.indexCast v472
  let c24_1060 : Index := 24#32
  let c128_1061 : Index := 128#32
  ![v2227.toNat, 24, 128]
def k0_off78 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2230 : Index := Scalar.indexCast v472
  let c32_1062 : Index := 32#32
  let c128_1063 : Index := 128#32
  ![v2230.toNat, 32, 128]
def k0_off79 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2233 : Index := Scalar.indexCast v472
  let c40_1064 : Index := 40#32
  let c128_1065 : Index := 128#32
  ![v2233.toNat, 40, 128]
def k0_off80 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2236 : Index := Scalar.indexCast v472
  let c48_1066 : Index := 48#32
  let c128_1067 : Index := 128#32
  ![v2236.toNat, 48, 128]
def k0_off81 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2239 : Index := Scalar.indexCast v472
  let c56_1068 : Index := 56#32
  let c128_1069 : Index := 128#32
  ![v2239.toNat, 56, 128]
def k0_off82 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2242 : Index := Scalar.indexCast v472
  let c64_1070 : Index := 64#32
  let c128_1071 : Index := 128#32
  ![v2242.toNat, 64, 128]
def k0_off83 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2245 : Index := Scalar.indexCast v472
  let c72_1072 : Index := 72#32
  let c128_1073 : Index := 128#32
  ![v2245.toNat, 72, 128]
def k0_off84 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2248 : Index := Scalar.indexCast v472
  let c80_1074 : Index := 80#32
  let c128_1075 : Index := 128#32
  ![v2248.toNat, 80, 128]
def k0_off85 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2251 : Index := Scalar.indexCast v472
  let c88_1076 : Index := 88#32
  let c128_1077 : Index := 128#32
  ![v2251.toNat, 88, 128]
def k0_off86 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2254 : Index := Scalar.indexCast v472
  let c96_1078 : Index := 96#32
  let c128_1079 : Index := 128#32
  ![v2254.toNat, 96, 128]
def k0_off87 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2257 : Index := Scalar.indexCast v472
  let c104_1080 : Index := 104#32
  let c128_1081 : Index := 128#32
  ![v2257.toNat, 104, 128]
def k0_off88 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2260 : Index := Scalar.indexCast v472
  let c112_1082 : Index := 112#32
  let c128_1083 : Index := 128#32
  ![v2260.toNat, 112, 128]
def k0_off89 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2263 : Index := Scalar.indexCast v472
  let c120_1084 : Index := 120#32
  let c128_1085 : Index := 128#32
  ![v2263.toNat, 120, 128]
def k0_off90 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2266 : Index := Scalar.indexCast v472
  let c128_1086 : Index := 128#32
  let c128_1087 : Index := 128#32
  ![v2266.toNat, 128, 128]
def k0_off91 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2269 : Index := Scalar.indexCast v472
  let c136_1088 : Index := 136#32
  let c128_1089 : Index := 128#32
  ![v2269.toNat, 136, 128]
def k0_off92 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2272 : Index := Scalar.indexCast v472
  let c144_1090 : Index := 144#32
  let c128_1091 : Index := 128#32
  ![v2272.toNat, 144, 128]
def k0_off93 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2275 : Index := Scalar.indexCast v472
  let c152_1092 : Index := 152#32
  let c128_1093 : Index := 128#32
  ![v2275.toNat, 152, 128]
def k0_off94 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2278 : Index := Scalar.indexCast v472
  let c160_1094 : Index := 160#32
  let c128_1095 : Index := 128#32
  ![v2278.toNat, 160, 128]
def k0_off95 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2281 : Index := Scalar.indexCast v472
  let c168_1096 : Index := 168#32
  let c128_1097 : Index := 128#32
  ![v2281.toNat, 168, 128]
def k0_off96 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2284 : Index := Scalar.indexCast v472
  let c176_1098 : Index := 176#32
  let c128_1099 : Index := 128#32
  ![v2284.toNat, 176, 128]
def k0_off97 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2287 : Index := Scalar.indexCast v472
  let c184_1100 : Index := 184#32
  let c128_1101 : Index := 128#32
  ![v2287.toNat, 184, 128]
def k0_off98 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2290 : Index := Scalar.indexCast v472
  let c192_1102 : Index := 192#32
  let c128_1103 : Index := 128#32
  ![v2290.toNat, 192, 128]
def k0_off99 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2293 : Index := Scalar.indexCast v472
  let c200_1104 : Index := 200#32
  let c128_1105 : Index := 128#32
  ![v2293.toNat, 200, 128]
def k0_off100 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2296 : Index := Scalar.indexCast v472
  let c208_1106 : Index := 208#32
  let c128_1107 : Index := 128#32
  ![v2296.toNat, 208, 128]
def k0_off101 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2299 : Index := Scalar.indexCast v472
  let c216_1108 : Index := 216#32
  let c128_1109 : Index := 128#32
  ![v2299.toNat, 216, 128]
def k0_off102 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2302 : Index := Scalar.indexCast v472
  let c224_1110 : Index := 224#32
  let c128_1111 : Index := 128#32
  ![v2302.toNat, 224, 128]
def k0_off103 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2305 : Index := Scalar.indexCast v472
  let c232_1112 : Index := 232#32
  let c128_1113 : Index := 128#32
  ![v2305.toNat, 232, 128]
def k0_off104 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2308 : Index := Scalar.indexCast v472
  let c240_1114 : Index := 240#32
  let c128_1115 : Index := 128#32
  ![v2308.toNat, 240, 128]
def k0_off105 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v2311 : Index := Scalar.indexCast v472
  let c248_1116 : Index := 248#32
  let c128_1117 : Index := 128#32
  ![v2311.toNat, 248, 128]
def k0_off106 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3034 : Index := Scalar.indexCast v472
  let c0_1358 : Index := 0#32
  let c0_1359 : Index := 0#32
  let c128_1360 : Index := 128#32
  ![v3034.toNat, 0, 0, 128]
def k0_off107 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3038 : Index := Scalar.indexCast v472
  let c1_1361 : Index := 1#32
  let c0_1362 : Index := 0#32
  let c128_1363 : Index := 128#32
  ![v3038.toNat, 1, 0, 128]
def k0_off108 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3042 : Index := Scalar.indexCast v472
  let c2_1364 : Index := 2#32
  let c0_1365 : Index := 0#32
  let c128_1366 : Index := 128#32
  ![v3042.toNat, 2, 0, 128]
def k0_off109 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3046 : Index := Scalar.indexCast v472
  let c3_1367 : Index := 3#32
  let c0_1368 : Index := 0#32
  let c128_1369 : Index := 128#32
  ![v3046.toNat, 3, 0, 128]
def k0_off110 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3050 : Index := Scalar.indexCast v472
  let c4_1370 : Index := 4#32
  let c0_1371 : Index := 0#32
  let c128_1372 : Index := 128#32
  ![v3050.toNat, 4, 0, 128]
def k0_off111 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3054 : Index := Scalar.indexCast v472
  let c5_1373 : Index := 5#32
  let c0_1374 : Index := 0#32
  let c128_1375 : Index := 128#32
  ![v3054.toNat, 5, 0, 128]
def k0_off112 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3058 : Index := Scalar.indexCast v472
  let c6_1376 : Index := 6#32
  let c0_1377 : Index := 0#32
  let c128_1378 : Index := 128#32
  ![v3058.toNat, 6, 0, 128]
def k0_off113 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3062 : Index := Scalar.indexCast v472
  let c7_1379 : Index := 7#32
  let c0_1380 : Index := 0#32
  let c128_1381 : Index := 128#32
  ![v3062.toNat, 7, 0, 128]
def k0_off114 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3066 : Index := Scalar.indexCast v472
  let c8_1382 : Index := 8#32
  let c0_1383 : Index := 0#32
  let c128_1384 : Index := 128#32
  ![v3066.toNat, 8, 0, 128]
def k0_off115 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3070 : Index := Scalar.indexCast v472
  let c9_1385 : Index := 9#32
  let c0_1386 : Index := 0#32
  let c128_1387 : Index := 128#32
  ![v3070.toNat, 9, 0, 128]
def k0_off116 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3074 : Index := Scalar.indexCast v472
  let c10_1388 : Index := 10#32
  let c0_1389 : Index := 0#32
  let c128_1390 : Index := 128#32
  ![v3074.toNat, 10, 0, 128]
def k0_off117 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3078 : Index := Scalar.indexCast v472
  let c11_1391 : Index := 11#32
  let c0_1392 : Index := 0#32
  let c128_1393 : Index := 128#32
  ![v3078.toNat, 11, 0, 128]
def k0_off118 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3082 : Index := Scalar.indexCast v472
  let c12_1394 : Index := 12#32
  let c0_1395 : Index := 0#32
  let c128_1396 : Index := 128#32
  ![v3082.toNat, 12, 0, 128]
def k0_off119 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3086 : Index := Scalar.indexCast v472
  let c13_1397 : Index := 13#32
  let c0_1398 : Index := 0#32
  let c128_1399 : Index := 128#32
  ![v3086.toNat, 13, 0, 128]
def k0_off120 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3090 : Index := Scalar.indexCast v472
  let c14_1400 : Index := 14#32
  let c0_1401 : Index := 0#32
  let c128_1402 : Index := 128#32
  ![v3090.toNat, 14, 0, 128]
def k0_off121 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3094 : Index := Scalar.indexCast v472
  let c15_1403 : Index := 15#32
  let c0_1404 : Index := 0#32
  let c128_1405 : Index := 128#32
  ![v3094.toNat, 15, 0, 128]
def k0_off122 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3098 : Index := Scalar.indexCast v472
  let c16_1406 : Index := 16#32
  let c0_1407 : Index := 0#32
  let c128_1408 : Index := 128#32
  ![v3098.toNat, 16, 0, 128]
def k0_off123 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3102 : Index := Scalar.indexCast v472
  let c17_1409 : Index := 17#32
  let c0_1410 : Index := 0#32
  let c128_1411 : Index := 128#32
  ![v3102.toNat, 17, 0, 128]
def k0_off124 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3106 : Index := Scalar.indexCast v472
  let c18_1412 : Index := 18#32
  let c0_1413 : Index := 0#32
  let c128_1414 : Index := 128#32
  ![v3106.toNat, 18, 0, 128]
def k0_off125 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3110 : Index := Scalar.indexCast v472
  let c19_1415 : Index := 19#32
  let c0_1416 : Index := 0#32
  let c128_1417 : Index := 128#32
  ![v3110.toNat, 19, 0, 128]
def k0_off126 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3114 : Index := Scalar.indexCast v472
  let c20_1418 : Index := 20#32
  let c0_1419 : Index := 0#32
  let c128_1420 : Index := 128#32
  ![v3114.toNat, 20, 0, 128]
def k0_off127 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3118 : Index := Scalar.indexCast v472
  let c21_1421 : Index := 21#32
  let c0_1422 : Index := 0#32
  let c128_1423 : Index := 128#32
  ![v3118.toNat, 21, 0, 128]
def k0_off128 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3122 : Index := Scalar.indexCast v472
  let c22_1424 : Index := 22#32
  let c0_1425 : Index := 0#32
  let c128_1426 : Index := 128#32
  ![v3122.toNat, 22, 0, 128]
def k0_off129 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3126 : Index := Scalar.indexCast v472
  let c23_1427 : Index := 23#32
  let c0_1428 : Index := 0#32
  let c128_1429 : Index := 128#32
  ![v3126.toNat, 23, 0, 128]
def k0_off130 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3130 : Index := Scalar.indexCast v472
  let c24_1430 : Index := 24#32
  let c0_1431 : Index := 0#32
  let c128_1432 : Index := 128#32
  ![v3130.toNat, 24, 0, 128]
def k0_off131 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3134 : Index := Scalar.indexCast v472
  let c25_1433 : Index := 25#32
  let c0_1434 : Index := 0#32
  let c128_1435 : Index := 128#32
  ![v3134.toNat, 25, 0, 128]
def k0_off132 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3138 : Index := Scalar.indexCast v472
  let c26_1436 : Index := 26#32
  let c0_1437 : Index := 0#32
  let c128_1438 : Index := 128#32
  ![v3138.toNat, 26, 0, 128]
def k0_off133 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3142 : Index := Scalar.indexCast v472
  let c27_1439 : Index := 27#32
  let c0_1440 : Index := 0#32
  let c128_1441 : Index := 128#32
  ![v3142.toNat, 27, 0, 128]
def k0_off134 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3146 : Index := Scalar.indexCast v472
  let c28_1442 : Index := 28#32
  let c0_1443 : Index := 0#32
  let c128_1444 : Index := 128#32
  ![v3146.toNat, 28, 0, 128]
def k0_off135 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3150 : Index := Scalar.indexCast v472
  let c29_1445 : Index := 29#32
  let c0_1446 : Index := 0#32
  let c128_1447 : Index := 128#32
  ![v3150.toNat, 29, 0, 128]
def k0_off136 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3154 : Index := Scalar.indexCast v472
  let c30_1448 : Index := 30#32
  let c0_1449 : Index := 0#32
  let c128_1450 : Index := 128#32
  ![v3154.toNat, 30, 0, 128]
def k0_off137 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let v3159 : Index := Scalar.indexCast v472
  let c31_1452 : Index := 31#32
  let c0_1453 : Index := 0#32
  let c128_1454 : Index := 128#32
  ![v3159.toNat, 31, 0, 128]
def k0_mult3 (i : grid0.Coords) (k0_t1 : Fin (k0_t1_loop i).trips) : BitVec 32 :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c2_i32_1455 : BitVec 32 := 2#32
  let v3163 : BitVec 32 := Scalar.addi v472 c2_i32_1455
  let c256_i32_1457 : BitVec 32 := 256#32
  let v3165 : BitVec 32 := Scalar.muli v3163 c256_i32_1457
  v3165
def k0_off138 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3288 : Index := Scalar.indexCast v3164
  let c0_1505 : Index := 0#32
  let c0_1506 : Index := 0#32
  ![v3288.toNat, 0, 0]
def k0_off139 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3384 : Index := Scalar.indexCast v3164
  let c32_1552 : Index := 32#32
  let c0_1553 : Index := 0#32
  ![v3384.toNat, 32, 0]
def k0_off140 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3480 : Index := Scalar.indexCast v3164
  let c64_1599 : Index := 64#32
  let c0_1600 : Index := 0#32
  ![v3480.toNat, 64, 0]
def k0_off141 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3576 : Index := Scalar.indexCast v3164
  let c96_1646 : Index := 96#32
  let c0_1647 : Index := 0#32
  ![v3576.toNat, 96, 0]
def k0_off142 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3672 : Index := Scalar.indexCast v3164
  let c128_1693 : Index := 128#32
  let c0_1694 : Index := 0#32
  ![v3672.toNat, 128, 0]
def k0_off143 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3768 : Index := Scalar.indexCast v3164
  let c160_1740 : Index := 160#32
  let c0_1741 : Index := 0#32
  ![v3768.toNat, 160, 0]
def k0_off144 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3864 : Index := Scalar.indexCast v3164
  let c192_1787 : Index := 192#32
  let c0_1788 : Index := 0#32
  ![v3864.toNat, 192, 0]
def k0_off145 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3960 : Index := Scalar.indexCast v3164
  let c224_1834 : Index := 224#32
  let c0_1835 : Index := 0#32
  ![v3960.toNat, 224, 0]
def k0_off146 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3964 : Index := Scalar.indexCast v3164
  let c0_1836 : Index := 0#32
  let c0_1837 : Index := 0#32
  ![v3964.toNat, 0, 0]
def k0_off147 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3967 : Index := Scalar.indexCast v3164
  let c8_1838 : Index := 8#32
  let c0_1839 : Index := 0#32
  ![v3967.toNat, 8, 0]
def k0_off148 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3970 : Index := Scalar.indexCast v3164
  let c16_1840 : Index := 16#32
  let c0_1841 : Index := 0#32
  ![v3970.toNat, 16, 0]
def k0_off149 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3973 : Index := Scalar.indexCast v3164
  let c24_1842 : Index := 24#32
  let c0_1843 : Index := 0#32
  ![v3973.toNat, 24, 0]
def k0_off150 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3976 : Index := Scalar.indexCast v3164
  let c32_1844 : Index := 32#32
  let c0_1845 : Index := 0#32
  ![v3976.toNat, 32, 0]
def k0_off151 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3979 : Index := Scalar.indexCast v3164
  let c40_1846 : Index := 40#32
  let c0_1847 : Index := 0#32
  ![v3979.toNat, 40, 0]
def k0_off152 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3982 : Index := Scalar.indexCast v3164
  let c48_1848 : Index := 48#32
  let c0_1849 : Index := 0#32
  ![v3982.toNat, 48, 0]
def k0_off153 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3985 : Index := Scalar.indexCast v3164
  let c56_1850 : Index := 56#32
  let c0_1851 : Index := 0#32
  ![v3985.toNat, 56, 0]
def k0_off154 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3988 : Index := Scalar.indexCast v3164
  let c64_1852 : Index := 64#32
  let c0_1853 : Index := 0#32
  ![v3988.toNat, 64, 0]
def k0_off155 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3991 : Index := Scalar.indexCast v3164
  let c72_1854 : Index := 72#32
  let c0_1855 : Index := 0#32
  ![v3991.toNat, 72, 0]
def k0_off156 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3994 : Index := Scalar.indexCast v3164
  let c80_1856 : Index := 80#32
  let c0_1857 : Index := 0#32
  ![v3994.toNat, 80, 0]
def k0_off157 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v3997 : Index := Scalar.indexCast v3164
  let c88_1858 : Index := 88#32
  let c0_1859 : Index := 0#32
  ![v3997.toNat, 88, 0]
def k0_off158 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4000 : Index := Scalar.indexCast v3164
  let c96_1860 : Index := 96#32
  let c0_1861 : Index := 0#32
  ![v4000.toNat, 96, 0]
def k0_off159 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4003 : Index := Scalar.indexCast v3164
  let c104_1862 : Index := 104#32
  let c0_1863 : Index := 0#32
  ![v4003.toNat, 104, 0]
def k0_off160 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4006 : Index := Scalar.indexCast v3164
  let c112_1864 : Index := 112#32
  let c0_1865 : Index := 0#32
  ![v4006.toNat, 112, 0]
def k0_off161 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4009 : Index := Scalar.indexCast v3164
  let c120_1866 : Index := 120#32
  let c0_1867 : Index := 0#32
  ![v4009.toNat, 120, 0]
def k0_off162 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4012 : Index := Scalar.indexCast v3164
  let c128_1868 : Index := 128#32
  let c0_1869 : Index := 0#32
  ![v4012.toNat, 128, 0]
def k0_off163 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4015 : Index := Scalar.indexCast v3164
  let c136_1870 : Index := 136#32
  let c0_1871 : Index := 0#32
  ![v4015.toNat, 136, 0]
def k0_off164 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4018 : Index := Scalar.indexCast v3164
  let c144_1872 : Index := 144#32
  let c0_1873 : Index := 0#32
  ![v4018.toNat, 144, 0]
def k0_off165 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4021 : Index := Scalar.indexCast v3164
  let c152_1874 : Index := 152#32
  let c0_1875 : Index := 0#32
  ![v4021.toNat, 152, 0]
def k0_off166 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4024 : Index := Scalar.indexCast v3164
  let c160_1876 : Index := 160#32
  let c0_1877 : Index := 0#32
  ![v4024.toNat, 160, 0]
def k0_off167 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4027 : Index := Scalar.indexCast v3164
  let c168_1878 : Index := 168#32
  let c0_1879 : Index := 0#32
  ![v4027.toNat, 168, 0]
def k0_off168 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4030 : Index := Scalar.indexCast v3164
  let c176_1880 : Index := 176#32
  let c0_1881 : Index := 0#32
  ![v4030.toNat, 176, 0]
def k0_off169 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4033 : Index := Scalar.indexCast v3164
  let c184_1882 : Index := 184#32
  let c0_1883 : Index := 0#32
  ![v4033.toNat, 184, 0]
def k0_off170 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4036 : Index := Scalar.indexCast v3164
  let c192_1884 : Index := 192#32
  let c0_1885 : Index := 0#32
  ![v4036.toNat, 192, 0]
def k0_off171 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4039 : Index := Scalar.indexCast v3164
  let c200_1886 : Index := 200#32
  let c0_1887 : Index := 0#32
  ![v4039.toNat, 200, 0]
def k0_off172 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4042 : Index := Scalar.indexCast v3164
  let c208_1888 : Index := 208#32
  let c0_1889 : Index := 0#32
  ![v4042.toNat, 208, 0]
def k0_off173 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4045 : Index := Scalar.indexCast v3164
  let c216_1890 : Index := 216#32
  let c0_1891 : Index := 0#32
  ![v4045.toNat, 216, 0]
def k0_off174 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4048 : Index := Scalar.indexCast v3164
  let c224_1892 : Index := 224#32
  let c0_1893 : Index := 0#32
  ![v4048.toNat, 224, 0]
def k0_off175 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4051 : Index := Scalar.indexCast v3164
  let c232_1894 : Index := 232#32
  let c0_1895 : Index := 0#32
  ![v4051.toNat, 232, 0]
def k0_off176 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4054 : Index := Scalar.indexCast v3164
  let c240_1896 : Index := 240#32
  let c0_1897 : Index := 0#32
  ![v4054.toNat, 240, 0]
def k0_off177 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4057 : Index := Scalar.indexCast v3164
  let c248_1898 : Index := 248#32
  let c0_1899 : Index := 0#32
  ![v4057.toNat, 248, 0]
def k0_off178 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4780 : Index := Scalar.indexCast v3164
  let c0_2140 : Index := 0#32
  let c0_2141 : Index := 0#32
  let c0_2142 : Index := 0#32
  ![v4780.toNat, 0, 0, 0]
def k0_off179 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4784 : Index := Scalar.indexCast v3164
  let c1_2143 : Index := 1#32
  let c0_2144 : Index := 0#32
  let c0_2145 : Index := 0#32
  ![v4784.toNat, 1, 0, 0]
def k0_off180 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4788 : Index := Scalar.indexCast v3164
  let c2_2146 : Index := 2#32
  let c0_2147 : Index := 0#32
  let c0_2148 : Index := 0#32
  ![v4788.toNat, 2, 0, 0]
def k0_off181 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4792 : Index := Scalar.indexCast v3164
  let c3_2149 : Index := 3#32
  let c0_2150 : Index := 0#32
  let c0_2151 : Index := 0#32
  ![v4792.toNat, 3, 0, 0]
def k0_off182 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4796 : Index := Scalar.indexCast v3164
  let c4_2152 : Index := 4#32
  let c0_2153 : Index := 0#32
  let c0_2154 : Index := 0#32
  ![v4796.toNat, 4, 0, 0]
def k0_off183 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4800 : Index := Scalar.indexCast v3164
  let c5_2155 : Index := 5#32
  let c0_2156 : Index := 0#32
  let c0_2157 : Index := 0#32
  ![v4800.toNat, 5, 0, 0]
def k0_off184 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4804 : Index := Scalar.indexCast v3164
  let c6_2158 : Index := 6#32
  let c0_2159 : Index := 0#32
  let c0_2160 : Index := 0#32
  ![v4804.toNat, 6, 0, 0]
def k0_off185 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4808 : Index := Scalar.indexCast v3164
  let c7_2161 : Index := 7#32
  let c0_2162 : Index := 0#32
  let c0_2163 : Index := 0#32
  ![v4808.toNat, 7, 0, 0]
def k0_off186 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4812 : Index := Scalar.indexCast v3164
  let c8_2164 : Index := 8#32
  let c0_2165 : Index := 0#32
  let c0_2166 : Index := 0#32
  ![v4812.toNat, 8, 0, 0]
def k0_off187 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4816 : Index := Scalar.indexCast v3164
  let c9_2167 : Index := 9#32
  let c0_2168 : Index := 0#32
  let c0_2169 : Index := 0#32
  ![v4816.toNat, 9, 0, 0]
def k0_off188 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4820 : Index := Scalar.indexCast v3164
  let c10_2170 : Index := 10#32
  let c0_2171 : Index := 0#32
  let c0_2172 : Index := 0#32
  ![v4820.toNat, 10, 0, 0]
def k0_off189 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4824 : Index := Scalar.indexCast v3164
  let c11_2173 : Index := 11#32
  let c0_2174 : Index := 0#32
  let c0_2175 : Index := 0#32
  ![v4824.toNat, 11, 0, 0]
def k0_off190 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4828 : Index := Scalar.indexCast v3164
  let c12_2176 : Index := 12#32
  let c0_2177 : Index := 0#32
  let c0_2178 : Index := 0#32
  ![v4828.toNat, 12, 0, 0]
def k0_off191 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4832 : Index := Scalar.indexCast v3164
  let c13_2179 : Index := 13#32
  let c0_2180 : Index := 0#32
  let c0_2181 : Index := 0#32
  ![v4832.toNat, 13, 0, 0]
def k0_off192 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4836 : Index := Scalar.indexCast v3164
  let c14_2182 : Index := 14#32
  let c0_2183 : Index := 0#32
  let c0_2184 : Index := 0#32
  ![v4836.toNat, 14, 0, 0]
def k0_off193 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4840 : Index := Scalar.indexCast v3164
  let c15_2185 : Index := 15#32
  let c0_2186 : Index := 0#32
  let c0_2187 : Index := 0#32
  ![v4840.toNat, 15, 0, 0]
def k0_off194 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4844 : Index := Scalar.indexCast v3164
  let c16_2188 : Index := 16#32
  let c0_2189 : Index := 0#32
  let c0_2190 : Index := 0#32
  ![v4844.toNat, 16, 0, 0]
def k0_off195 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4848 : Index := Scalar.indexCast v3164
  let c17_2191 : Index := 17#32
  let c0_2192 : Index := 0#32
  let c0_2193 : Index := 0#32
  ![v4848.toNat, 17, 0, 0]
def k0_off196 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4852 : Index := Scalar.indexCast v3164
  let c18_2194 : Index := 18#32
  let c0_2195 : Index := 0#32
  let c0_2196 : Index := 0#32
  ![v4852.toNat, 18, 0, 0]
def k0_off197 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4856 : Index := Scalar.indexCast v3164
  let c19_2197 : Index := 19#32
  let c0_2198 : Index := 0#32
  let c0_2199 : Index := 0#32
  ![v4856.toNat, 19, 0, 0]
def k0_off198 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4860 : Index := Scalar.indexCast v3164
  let c20_2200 : Index := 20#32
  let c0_2201 : Index := 0#32
  let c0_2202 : Index := 0#32
  ![v4860.toNat, 20, 0, 0]
def k0_off199 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4864 : Index := Scalar.indexCast v3164
  let c21_2203 : Index := 21#32
  let c0_2204 : Index := 0#32
  let c0_2205 : Index := 0#32
  ![v4864.toNat, 21, 0, 0]
def k0_off200 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4868 : Index := Scalar.indexCast v3164
  let c22_2206 : Index := 22#32
  let c0_2207 : Index := 0#32
  let c0_2208 : Index := 0#32
  ![v4868.toNat, 22, 0, 0]
def k0_off201 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4872 : Index := Scalar.indexCast v3164
  let c23_2209 : Index := 23#32
  let c0_2210 : Index := 0#32
  let c0_2211 : Index := 0#32
  ![v4872.toNat, 23, 0, 0]
def k0_off202 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4876 : Index := Scalar.indexCast v3164
  let c24_2212 : Index := 24#32
  let c0_2213 : Index := 0#32
  let c0_2214 : Index := 0#32
  ![v4876.toNat, 24, 0, 0]
def k0_off203 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4880 : Index := Scalar.indexCast v3164
  let c25_2215 : Index := 25#32
  let c0_2216 : Index := 0#32
  let c0_2217 : Index := 0#32
  ![v4880.toNat, 25, 0, 0]
def k0_off204 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4884 : Index := Scalar.indexCast v3164
  let c26_2218 : Index := 26#32
  let c0_2219 : Index := 0#32
  let c0_2220 : Index := 0#32
  ![v4884.toNat, 26, 0, 0]
def k0_off205 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4888 : Index := Scalar.indexCast v3164
  let c27_2221 : Index := 27#32
  let c0_2222 : Index := 0#32
  let c0_2223 : Index := 0#32
  ![v4888.toNat, 27, 0, 0]
def k0_off206 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4892 : Index := Scalar.indexCast v3164
  let c28_2224 : Index := 28#32
  let c0_2225 : Index := 0#32
  let c0_2226 : Index := 0#32
  ![v4892.toNat, 28, 0, 0]
def k0_off207 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4896 : Index := Scalar.indexCast v3164
  let c29_2227 : Index := 29#32
  let c0_2228 : Index := 0#32
  let c0_2229 : Index := 0#32
  ![v4896.toNat, 29, 0, 0]
def k0_off208 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4900 : Index := Scalar.indexCast v3164
  let c30_2230 : Index := 30#32
  let c0_2231 : Index := 0#32
  let c0_2232 : Index := 0#32
  ![v4900.toNat, 30, 0, 0]
def k0_off209 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4905 : Index := Scalar.indexCast v3164
  let c31_2234 : Index := 31#32
  let c0_2235 : Index := 0#32
  let c0_2236 : Index := 0#32
  ![v4905.toNat, 31, 0, 0]
def k0_off210 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4909 : Index := Scalar.indexCast v3164
  let c0_2237 : Index := 0#32
  let c128_2238 : Index := 128#32
  ![v4909.toNat, 0, 128]
def k0_off211 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4912 : Index := Scalar.indexCast v3164
  let c8_2239 : Index := 8#32
  let c128_2240 : Index := 128#32
  ![v4912.toNat, 8, 128]
def k0_off212 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4915 : Index := Scalar.indexCast v3164
  let c16_2241 : Index := 16#32
  let c128_2242 : Index := 128#32
  ![v4915.toNat, 16, 128]
def k0_off213 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4918 : Index := Scalar.indexCast v3164
  let c24_2243 : Index := 24#32
  let c128_2244 : Index := 128#32
  ![v4918.toNat, 24, 128]
def k0_off214 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4921 : Index := Scalar.indexCast v3164
  let c32_2245 : Index := 32#32
  let c128_2246 : Index := 128#32
  ![v4921.toNat, 32, 128]
def k0_off215 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4924 : Index := Scalar.indexCast v3164
  let c40_2247 : Index := 40#32
  let c128_2248 : Index := 128#32
  ![v4924.toNat, 40, 128]
def k0_off216 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4927 : Index := Scalar.indexCast v3164
  let c48_2249 : Index := 48#32
  let c128_2250 : Index := 128#32
  ![v4927.toNat, 48, 128]
def k0_off217 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4930 : Index := Scalar.indexCast v3164
  let c56_2251 : Index := 56#32
  let c128_2252 : Index := 128#32
  ![v4930.toNat, 56, 128]
def k0_off218 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4933 : Index := Scalar.indexCast v3164
  let c64_2253 : Index := 64#32
  let c128_2254 : Index := 128#32
  ![v4933.toNat, 64, 128]
def k0_off219 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4936 : Index := Scalar.indexCast v3164
  let c72_2255 : Index := 72#32
  let c128_2256 : Index := 128#32
  ![v4936.toNat, 72, 128]
def k0_off220 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4939 : Index := Scalar.indexCast v3164
  let c80_2257 : Index := 80#32
  let c128_2258 : Index := 128#32
  ![v4939.toNat, 80, 128]
def k0_off221 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4942 : Index := Scalar.indexCast v3164
  let c88_2259 : Index := 88#32
  let c128_2260 : Index := 128#32
  ![v4942.toNat, 88, 128]
def k0_off222 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4945 : Index := Scalar.indexCast v3164
  let c96_2261 : Index := 96#32
  let c128_2262 : Index := 128#32
  ![v4945.toNat, 96, 128]
def k0_off223 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4948 : Index := Scalar.indexCast v3164
  let c104_2263 : Index := 104#32
  let c128_2264 : Index := 128#32
  ![v4948.toNat, 104, 128]
def k0_off224 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4951 : Index := Scalar.indexCast v3164
  let c112_2265 : Index := 112#32
  let c128_2266 : Index := 128#32
  ![v4951.toNat, 112, 128]
def k0_off225 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4954 : Index := Scalar.indexCast v3164
  let c120_2267 : Index := 120#32
  let c128_2268 : Index := 128#32
  ![v4954.toNat, 120, 128]
def k0_off226 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4957 : Index := Scalar.indexCast v3164
  let c128_2269 : Index := 128#32
  let c128_2270 : Index := 128#32
  ![v4957.toNat, 128, 128]
def k0_off227 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4960 : Index := Scalar.indexCast v3164
  let c136_2271 : Index := 136#32
  let c128_2272 : Index := 128#32
  ![v4960.toNat, 136, 128]
def k0_off228 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4963 : Index := Scalar.indexCast v3164
  let c144_2273 : Index := 144#32
  let c128_2274 : Index := 128#32
  ![v4963.toNat, 144, 128]
def k0_off229 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4966 : Index := Scalar.indexCast v3164
  let c152_2275 : Index := 152#32
  let c128_2276 : Index := 128#32
  ![v4966.toNat, 152, 128]
def k0_off230 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4969 : Index := Scalar.indexCast v3164
  let c160_2277 : Index := 160#32
  let c128_2278 : Index := 128#32
  ![v4969.toNat, 160, 128]
def k0_off231 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4972 : Index := Scalar.indexCast v3164
  let c168_2279 : Index := 168#32
  let c128_2280 : Index := 128#32
  ![v4972.toNat, 168, 128]
def k0_off232 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4975 : Index := Scalar.indexCast v3164
  let c176_2281 : Index := 176#32
  let c128_2282 : Index := 128#32
  ![v4975.toNat, 176, 128]
def k0_off233 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4978 : Index := Scalar.indexCast v3164
  let c184_2283 : Index := 184#32
  let c128_2284 : Index := 128#32
  ![v4978.toNat, 184, 128]
def k0_off234 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4981 : Index := Scalar.indexCast v3164
  let c192_2285 : Index := 192#32
  let c128_2286 : Index := 128#32
  ![v4981.toNat, 192, 128]
def k0_off235 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4984 : Index := Scalar.indexCast v3164
  let c200_2287 : Index := 200#32
  let c128_2288 : Index := 128#32
  ![v4984.toNat, 200, 128]
def k0_off236 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4987 : Index := Scalar.indexCast v3164
  let c208_2289 : Index := 208#32
  let c128_2290 : Index := 128#32
  ![v4987.toNat, 208, 128]
def k0_off237 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4990 : Index := Scalar.indexCast v3164
  let c216_2291 : Index := 216#32
  let c128_2292 : Index := 128#32
  ![v4990.toNat, 216, 128]
def k0_off238 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4993 : Index := Scalar.indexCast v3164
  let c224_2293 : Index := 224#32
  let c128_2294 : Index := 128#32
  ![v4993.toNat, 224, 128]
def k0_off239 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4996 : Index := Scalar.indexCast v3164
  let c232_2295 : Index := 232#32
  let c128_2296 : Index := 128#32
  ![v4996.toNat, 232, 128]
def k0_off240 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v4999 : Index := Scalar.indexCast v3164
  let c240_2297 : Index := 240#32
  let c128_2298 : Index := 128#32
  ![v4999.toNat, 240, 128]
def k0_off241 (i : grid0.Coords) (k0_t1 : Fin (k0_t1_loop i).trips) : Fin 3 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5002 : Index := Scalar.indexCast v3164
  let c248_2299 : Index := 248#32
  let c128_2300 : Index := 128#32
  ![v5002.toNat, 248, 128]
def k0_off242 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5725 : Index := Scalar.indexCast v3164
  let c0_2541 : Index := 0#32
  let c0_2542 : Index := 0#32
  let c128_2543 : Index := 128#32
  ![v5725.toNat, 0, 0, 128]
def k0_off243 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5729 : Index := Scalar.indexCast v3164
  let c1_2544 : Index := 1#32
  let c0_2545 : Index := 0#32
  let c128_2546 : Index := 128#32
  ![v5729.toNat, 1, 0, 128]
def k0_off244 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5733 : Index := Scalar.indexCast v3164
  let c2_2547 : Index := 2#32
  let c0_2548 : Index := 0#32
  let c128_2549 : Index := 128#32
  ![v5733.toNat, 2, 0, 128]
def k0_off245 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5737 : Index := Scalar.indexCast v3164
  let c3_2550 : Index := 3#32
  let c0_2551 : Index := 0#32
  let c128_2552 : Index := 128#32
  ![v5737.toNat, 3, 0, 128]
def k0_off246 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5741 : Index := Scalar.indexCast v3164
  let c4_2553 : Index := 4#32
  let c0_2554 : Index := 0#32
  let c128_2555 : Index := 128#32
  ![v5741.toNat, 4, 0, 128]
def k0_off247 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5745 : Index := Scalar.indexCast v3164
  let c5_2556 : Index := 5#32
  let c0_2557 : Index := 0#32
  let c128_2558 : Index := 128#32
  ![v5745.toNat, 5, 0, 128]
def k0_off248 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5749 : Index := Scalar.indexCast v3164
  let c6_2559 : Index := 6#32
  let c0_2560 : Index := 0#32
  let c128_2561 : Index := 128#32
  ![v5749.toNat, 6, 0, 128]
def k0_off249 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5753 : Index := Scalar.indexCast v3164
  let c7_2562 : Index := 7#32
  let c0_2563 : Index := 0#32
  let c128_2564 : Index := 128#32
  ![v5753.toNat, 7, 0, 128]
def k0_off250 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5757 : Index := Scalar.indexCast v3164
  let c8_2565 : Index := 8#32
  let c0_2566 : Index := 0#32
  let c128_2567 : Index := 128#32
  ![v5757.toNat, 8, 0, 128]
def k0_off251 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5761 : Index := Scalar.indexCast v3164
  let c9_2568 : Index := 9#32
  let c0_2569 : Index := 0#32
  let c128_2570 : Index := 128#32
  ![v5761.toNat, 9, 0, 128]
def k0_off252 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5765 : Index := Scalar.indexCast v3164
  let c10_2571 : Index := 10#32
  let c0_2572 : Index := 0#32
  let c128_2573 : Index := 128#32
  ![v5765.toNat, 10, 0, 128]
def k0_off253 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5769 : Index := Scalar.indexCast v3164
  let c11_2574 : Index := 11#32
  let c0_2575 : Index := 0#32
  let c128_2576 : Index := 128#32
  ![v5769.toNat, 11, 0, 128]
def k0_off254 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5773 : Index := Scalar.indexCast v3164
  let c12_2577 : Index := 12#32
  let c0_2578 : Index := 0#32
  let c128_2579 : Index := 128#32
  ![v5773.toNat, 12, 0, 128]
def k0_off255 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5777 : Index := Scalar.indexCast v3164
  let c13_2580 : Index := 13#32
  let c0_2581 : Index := 0#32
  let c128_2582 : Index := 128#32
  ![v5777.toNat, 13, 0, 128]
def k0_off256 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5781 : Index := Scalar.indexCast v3164
  let c14_2583 : Index := 14#32
  let c0_2584 : Index := 0#32
  let c128_2585 : Index := 128#32
  ![v5781.toNat, 14, 0, 128]
def k0_off257 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5785 : Index := Scalar.indexCast v3164
  let c15_2586 : Index := 15#32
  let c0_2587 : Index := 0#32
  let c128_2588 : Index := 128#32
  ![v5785.toNat, 15, 0, 128]
def k0_off258 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5789 : Index := Scalar.indexCast v3164
  let c16_2589 : Index := 16#32
  let c0_2590 : Index := 0#32
  let c128_2591 : Index := 128#32
  ![v5789.toNat, 16, 0, 128]
def k0_off259 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5793 : Index := Scalar.indexCast v3164
  let c17_2592 : Index := 17#32
  let c0_2593 : Index := 0#32
  let c128_2594 : Index := 128#32
  ![v5793.toNat, 17, 0, 128]
def k0_off260 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5797 : Index := Scalar.indexCast v3164
  let c18_2595 : Index := 18#32
  let c0_2596 : Index := 0#32
  let c128_2597 : Index := 128#32
  ![v5797.toNat, 18, 0, 128]
def k0_off261 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5801 : Index := Scalar.indexCast v3164
  let c19_2598 : Index := 19#32
  let c0_2599 : Index := 0#32
  let c128_2600 : Index := 128#32
  ![v5801.toNat, 19, 0, 128]
def k0_off262 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5805 : Index := Scalar.indexCast v3164
  let c20_2601 : Index := 20#32
  let c0_2602 : Index := 0#32
  let c128_2603 : Index := 128#32
  ![v5805.toNat, 20, 0, 128]
def k0_off263 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5809 : Index := Scalar.indexCast v3164
  let c21_2604 : Index := 21#32
  let c0_2605 : Index := 0#32
  let c128_2606 : Index := 128#32
  ![v5809.toNat, 21, 0, 128]
def k0_off264 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5813 : Index := Scalar.indexCast v3164
  let c22_2607 : Index := 22#32
  let c0_2608 : Index := 0#32
  let c128_2609 : Index := 128#32
  ![v5813.toNat, 22, 0, 128]
def k0_off265 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5817 : Index := Scalar.indexCast v3164
  let c23_2610 : Index := 23#32
  let c0_2611 : Index := 0#32
  let c128_2612 : Index := 128#32
  ![v5817.toNat, 23, 0, 128]
def k0_off266 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5821 : Index := Scalar.indexCast v3164
  let c24_2613 : Index := 24#32
  let c0_2614 : Index := 0#32
  let c128_2615 : Index := 128#32
  ![v5821.toNat, 24, 0, 128]
def k0_off267 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5825 : Index := Scalar.indexCast v3164
  let c25_2616 : Index := 25#32
  let c0_2617 : Index := 0#32
  let c128_2618 : Index := 128#32
  ![v5825.toNat, 25, 0, 128]
def k0_off268 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5829 : Index := Scalar.indexCast v3164
  let c26_2619 : Index := 26#32
  let c0_2620 : Index := 0#32
  let c128_2621 : Index := 128#32
  ![v5829.toNat, 26, 0, 128]
def k0_off269 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5833 : Index := Scalar.indexCast v3164
  let c27_2622 : Index := 27#32
  let c0_2623 : Index := 0#32
  let c128_2624 : Index := 128#32
  ![v5833.toNat, 27, 0, 128]
def k0_off270 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5837 : Index := Scalar.indexCast v3164
  let c28_2625 : Index := 28#32
  let c0_2626 : Index := 0#32
  let c128_2627 : Index := 128#32
  ![v5837.toNat, 28, 0, 128]
def k0_off271 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5841 : Index := Scalar.indexCast v3164
  let c29_2628 : Index := 29#32
  let c0_2629 : Index := 0#32
  let c128_2630 : Index := 128#32
  ![v5841.toNat, 29, 0, 128]
def k0_off272 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5845 : Index := Scalar.indexCast v3164
  let c30_2631 : Index := 30#32
  let c0_2632 : Index := 0#32
  let c128_2633 : Index := 128#32
  ![v5845.toNat, 30, 0, 128]
def k0_off273 (i : grid0.Coords) (k0_t1 : Fin (k0_t1_loop i).trips) : Fin 4 → Nat :=
  let c2_i32_335 : BitVec 32 := 2#32
  let c0_i32_56 : BitVec 32 := 0#32
  let c1_i32_58 : BitVec 32 := 1#32
  let arg21 : BitVec 32 := Scf.iv c0_i32_56 c1_i32_58 k0_t1
  let v472 : BitVec 32 := Scalar.muli c2_i32_335 arg21
  let c1_i32_1456 : BitVec 32 := 1#32
  let v3164 : BitVec 32 := Scalar.addi v472 c1_i32_1456
  let v5850 : Index := Scalar.indexCast v3164
  let c31_2635 : Index := 31#32
  let c0_2636 : Index := 0#32
  let c128_2637 : Index := 128#32
  ![v5850.toNat, 31, 0, 128]
@[reducible] def k0_t2_loop (i : grid0.Coords) : Scf.Loop 32 :=
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let v79 : BitVec 32 := Scalar.addi c0_i32_56 v78
  let c1_i32_59 : BitVec 32 := 1#32
  ⟨v82, v79, c1_i32_59⟩
def k0_mult4 (i : grid0.Coords) (k0_t2 : Fin (k0_t2_loop i).trips) : BitVec 32 :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_336 : BitVec 32 := 1#32
  let v473 : BitVec 32 := Scalar.addi v472 c1_i32_336
  let c256_i32_337 : BitVec 32 := 256#32
  let v474 : BitVec 32 := Scalar.muli v473 c256_i32_337
  v474
def k0_off274 (i : grid0.Coords) (k0_t2 : Fin (k0_t2_loop i).trips) (c1_i32_336 : BitVec 32) : Fin 3 → Nat :=
  let c0_338 : Index := 0#32
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v473 : BitVec 32 := Scalar.addi v472 c1_i32_336
  let c256_i32_337 : BitVec 32 := 256#32
  let v474 : BitVec 32 := Scalar.muli v473 c256_i32_337
  let v475 : BitVec 32 := v474
  let v476 : Index := Scalar.indexCast v475
  let c0_339 : Index := 0#32
  ![0, v476.toNat, 0]
def k0_off275 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v597 : Index := Scalar.indexCast v472
  let c0_383 : Index := 0#32
  let c0_384 : Index := 0#32
  ![v597.toNat, 0, 0]
def k0_off276 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v693 : Index := Scalar.indexCast v472
  let c32_428 : Index := 32#32
  let c0_429 : Index := 0#32
  ![v693.toNat, 32, 0]
def k0_off277 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v789 : Index := Scalar.indexCast v472
  let c64_474 : Index := 64#32
  let c0_475 : Index := 0#32
  ![v789.toNat, 64, 0]
def k0_off278 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v885 : Index := Scalar.indexCast v472
  let c96_519 : Index := 96#32
  let c0_520 : Index := 0#32
  ![v885.toNat, 96, 0]
def k0_off279 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v981 : Index := Scalar.indexCast v472
  let c128_565 : Index := 128#32
  let c0_566 : Index := 0#32
  ![v981.toNat, 128, 0]
def k0_off280 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1077 : Index := Scalar.indexCast v472
  let c160_610 : Index := 160#32
  let c0_611 : Index := 0#32
  ![v1077.toNat, 160, 0]
def k0_off281 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1173 : Index := Scalar.indexCast v472
  let c192_656 : Index := 192#32
  let c0_657 : Index := 0#32
  ![v1173.toNat, 192, 0]
def k0_off282 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1269 : Index := Scalar.indexCast v472
  let c224_701 : Index := 224#32
  let c0_702 : Index := 0#32
  ![v1269.toNat, 224, 0]
def k0_off283 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1273 : Index := Scalar.indexCast v472
  let c0_703 : Index := 0#32
  let c0_704 : Index := 0#32
  ![v1273.toNat, 0, 0]
def k0_off284 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1276 : Index := Scalar.indexCast v472
  let c8 : Index := 8#32
  let c0_705 : Index := 0#32
  ![v1276.toNat, 8, 0]
def k0_off285 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1279 : Index := Scalar.indexCast v472
  let c16 : Index := 16#32
  let c0_706 : Index := 0#32
  ![v1279.toNat, 16, 0]
def k0_off286 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1282 : Index := Scalar.indexCast v472
  let c24 : Index := 24#32
  let c0_707 : Index := 0#32
  ![v1282.toNat, 24, 0]
def k0_off287 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1285 : Index := Scalar.indexCast v472
  let c32_708 : Index := 32#32
  let c0_709 : Index := 0#32
  ![v1285.toNat, 32, 0]
def k0_off288 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1288 : Index := Scalar.indexCast v472
  let c40 : Index := 40#32
  let c0_710 : Index := 0#32
  ![v1288.toNat, 40, 0]
def k0_off289 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1291 : Index := Scalar.indexCast v472
  let c48 : Index := 48#32
  let c0_711 : Index := 0#32
  ![v1291.toNat, 48, 0]
def k0_off290 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1294 : Index := Scalar.indexCast v472
  let c56 : Index := 56#32
  let c0_712 : Index := 0#32
  ![v1294.toNat, 56, 0]
def k0_off291 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1297 : Index := Scalar.indexCast v472
  let c64_713 : Index := 64#32
  let c0_714 : Index := 0#32
  ![v1297.toNat, 64, 0]
def k0_off292 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1300 : Index := Scalar.indexCast v472
  let c72 : Index := 72#32
  let c0_715 : Index := 0#32
  ![v1300.toNat, 72, 0]
def k0_off293 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1303 : Index := Scalar.indexCast v472
  let c80 : Index := 80#32
  let c0_716 : Index := 0#32
  ![v1303.toNat, 80, 0]
def k0_off294 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1306 : Index := Scalar.indexCast v472
  let c88 : Index := 88#32
  let c0_717 : Index := 0#32
  ![v1306.toNat, 88, 0]
def k0_off295 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1309 : Index := Scalar.indexCast v472
  let c96_718 : Index := 96#32
  let c0_719 : Index := 0#32
  ![v1309.toNat, 96, 0]
def k0_off296 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1312 : Index := Scalar.indexCast v472
  let c104 : Index := 104#32
  let c0_720 : Index := 0#32
  ![v1312.toNat, 104, 0]
def k0_off297 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1315 : Index := Scalar.indexCast v472
  let c112 : Index := 112#32
  let c0_721 : Index := 0#32
  ![v1315.toNat, 112, 0]
def k0_off298 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1318 : Index := Scalar.indexCast v472
  let c120 : Index := 120#32
  let c0_722 : Index := 0#32
  ![v1318.toNat, 120, 0]
def k0_off299 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1321 : Index := Scalar.indexCast v472
  let c128_723 : Index := 128#32
  let c0_724 : Index := 0#32
  ![v1321.toNat, 128, 0]
def k0_off300 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1324 : Index := Scalar.indexCast v472
  let c136 : Index := 136#32
  let c0_725 : Index := 0#32
  ![v1324.toNat, 136, 0]
def k0_off301 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1327 : Index := Scalar.indexCast v472
  let c144 : Index := 144#32
  let c0_726 : Index := 0#32
  ![v1327.toNat, 144, 0]
def k0_off302 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1330 : Index := Scalar.indexCast v472
  let c152 : Index := 152#32
  let c0_727 : Index := 0#32
  ![v1330.toNat, 152, 0]
def k0_off303 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1333 : Index := Scalar.indexCast v472
  let c160_728 : Index := 160#32
  let c0_729 : Index := 0#32
  ![v1333.toNat, 160, 0]
def k0_off304 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1336 : Index := Scalar.indexCast v472
  let c168 : Index := 168#32
  let c0_730 : Index := 0#32
  ![v1336.toNat, 168, 0]
def k0_off305 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1339 : Index := Scalar.indexCast v472
  let c176 : Index := 176#32
  let c0_731 : Index := 0#32
  ![v1339.toNat, 176, 0]
def k0_off306 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1342 : Index := Scalar.indexCast v472
  let c184 : Index := 184#32
  let c0_732 : Index := 0#32
  ![v1342.toNat, 184, 0]
def k0_off307 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1345 : Index := Scalar.indexCast v472
  let c192_733 : Index := 192#32
  let c0_734 : Index := 0#32
  ![v1345.toNat, 192, 0]
def k0_off308 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1348 : Index := Scalar.indexCast v472
  let c200 : Index := 200#32
  let c0_735 : Index := 0#32
  ![v1348.toNat, 200, 0]
def k0_off309 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1351 : Index := Scalar.indexCast v472
  let c208 : Index := 208#32
  let c0_736 : Index := 0#32
  ![v1351.toNat, 208, 0]
def k0_off310 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1354 : Index := Scalar.indexCast v472
  let c216 : Index := 216#32
  let c0_737 : Index := 0#32
  ![v1354.toNat, 216, 0]
def k0_off311 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1357 : Index := Scalar.indexCast v472
  let c224_738 : Index := 224#32
  let c0_739 : Index := 0#32
  ![v1357.toNat, 224, 0]
def k0_off312 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1360 : Index := Scalar.indexCast v472
  let c232 : Index := 232#32
  let c0_740 : Index := 0#32
  ![v1360.toNat, 232, 0]
def k0_off313 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1363 : Index := Scalar.indexCast v472
  let c240 : Index := 240#32
  let c0_741 : Index := 0#32
  ![v1363.toNat, 240, 0]
def k0_off314 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v1366 : Index := Scalar.indexCast v472
  let c248 : Index := 248#32
  let c0_742 : Index := 0#32
  ![v1366.toNat, 248, 0]
def k0_off315 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2089 : Index := Scalar.indexCast v472
  let c0_978 : Index := 0#32
  let c0_979 : Index := 0#32
  let c0_980 : Index := 0#32
  ![v2089.toNat, 0, 0, 0]
def k0_off316 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2093 : Index := Scalar.indexCast v472
  let c1_981 : Index := 1#32
  let c0_982 : Index := 0#32
  let c0_983 : Index := 0#32
  ![v2093.toNat, 1, 0, 0]
def k0_off317 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2097 : Index := Scalar.indexCast v472
  let c2_984 : Index := 2#32
  let c0_985 : Index := 0#32
  let c0_986 : Index := 0#32
  ![v2097.toNat, 2, 0, 0]
def k0_off318 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2101 : Index := Scalar.indexCast v472
  let c3_987 : Index := 3#32
  let c0_988 : Index := 0#32
  let c0_989 : Index := 0#32
  ![v2101.toNat, 3, 0, 0]
def k0_off319 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2105 : Index := Scalar.indexCast v472
  let c4_990 : Index := 4#32
  let c0_991 : Index := 0#32
  let c0_992 : Index := 0#32
  ![v2105.toNat, 4, 0, 0]
def k0_off320 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2109 : Index := Scalar.indexCast v472
  let c5_993 : Index := 5#32
  let c0_994 : Index := 0#32
  let c0_995 : Index := 0#32
  ![v2109.toNat, 5, 0, 0]
def k0_off321 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2113 : Index := Scalar.indexCast v472
  let c6_996 : Index := 6#32
  let c0_997 : Index := 0#32
  let c0_998 : Index := 0#32
  ![v2113.toNat, 6, 0, 0]
def k0_off322 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2117 : Index := Scalar.indexCast v472
  let c7_999 : Index := 7#32
  let c0_1000 : Index := 0#32
  let c0_1001 : Index := 0#32
  ![v2117.toNat, 7, 0, 0]
def k0_off323 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2121 : Index := Scalar.indexCast v472
  let c8_1002 : Index := 8#32
  let c0_1003 : Index := 0#32
  let c0_1004 : Index := 0#32
  ![v2121.toNat, 8, 0, 0]
def k0_off324 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2125 : Index := Scalar.indexCast v472
  let c9 : Index := 9#32
  let c0_1005 : Index := 0#32
  let c0_1006 : Index := 0#32
  ![v2125.toNat, 9, 0, 0]
def k0_off325 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2129 : Index := Scalar.indexCast v472
  let c10 : Index := 10#32
  let c0_1007 : Index := 0#32
  let c0_1008 : Index := 0#32
  ![v2129.toNat, 10, 0, 0]
def k0_off326 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2133 : Index := Scalar.indexCast v472
  let c11 : Index := 11#32
  let c0_1009 : Index := 0#32
  let c0_1010 : Index := 0#32
  ![v2133.toNat, 11, 0, 0]
def k0_off327 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2137 : Index := Scalar.indexCast v472
  let c12 : Index := 12#32
  let c0_1011 : Index := 0#32
  let c0_1012 : Index := 0#32
  ![v2137.toNat, 12, 0, 0]
def k0_off328 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2141 : Index := Scalar.indexCast v472
  let c13 : Index := 13#32
  let c0_1013 : Index := 0#32
  let c0_1014 : Index := 0#32
  ![v2141.toNat, 13, 0, 0]
def k0_off329 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2145 : Index := Scalar.indexCast v472
  let c14 : Index := 14#32
  let c0_1015 : Index := 0#32
  let c0_1016 : Index := 0#32
  ![v2145.toNat, 14, 0, 0]
def k0_off330 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2149 : Index := Scalar.indexCast v472
  let c15 : Index := 15#32
  let c0_1017 : Index := 0#32
  let c0_1018 : Index := 0#32
  ![v2149.toNat, 15, 0, 0]
def k0_off331 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2153 : Index := Scalar.indexCast v472
  let c16_1019 : Index := 16#32
  let c0_1020 : Index := 0#32
  let c0_1021 : Index := 0#32
  ![v2153.toNat, 16, 0, 0]
def k0_off332 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2157 : Index := Scalar.indexCast v472
  let c17 : Index := 17#32
  let c0_1022 : Index := 0#32
  let c0_1023 : Index := 0#32
  ![v2157.toNat, 17, 0, 0]
def k0_off333 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2161 : Index := Scalar.indexCast v472
  let c18 : Index := 18#32
  let c0_1024 : Index := 0#32
  let c0_1025 : Index := 0#32
  ![v2161.toNat, 18, 0, 0]
def k0_off334 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2165 : Index := Scalar.indexCast v472
  let c19 : Index := 19#32
  let c0_1026 : Index := 0#32
  let c0_1027 : Index := 0#32
  ![v2165.toNat, 19, 0, 0]
def k0_off335 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2169 : Index := Scalar.indexCast v472
  let c20 : Index := 20#32
  let c0_1028 : Index := 0#32
  let c0_1029 : Index := 0#32
  ![v2169.toNat, 20, 0, 0]
def k0_off336 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2173 : Index := Scalar.indexCast v472
  let c21 : Index := 21#32
  let c0_1030 : Index := 0#32
  let c0_1031 : Index := 0#32
  ![v2173.toNat, 21, 0, 0]
def k0_off337 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2177 : Index := Scalar.indexCast v472
  let c22 : Index := 22#32
  let c0_1032 : Index := 0#32
  let c0_1033 : Index := 0#32
  ![v2177.toNat, 22, 0, 0]
def k0_off338 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2181 : Index := Scalar.indexCast v472
  let c23 : Index := 23#32
  let c0_1034 : Index := 0#32
  let c0_1035 : Index := 0#32
  ![v2181.toNat, 23, 0, 0]
def k0_off339 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2185 : Index := Scalar.indexCast v472
  let c24_1036 : Index := 24#32
  let c0_1037 : Index := 0#32
  let c0_1038 : Index := 0#32
  ![v2185.toNat, 24, 0, 0]
def k0_off340 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2189 : Index := Scalar.indexCast v472
  let c25 : Index := 25#32
  let c0_1039 : Index := 0#32
  let c0_1040 : Index := 0#32
  ![v2189.toNat, 25, 0, 0]
def k0_off341 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2193 : Index := Scalar.indexCast v472
  let c26 : Index := 26#32
  let c0_1041 : Index := 0#32
  let c0_1042 : Index := 0#32
  ![v2193.toNat, 26, 0, 0]
def k0_off342 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2197 : Index := Scalar.indexCast v472
  let c27 : Index := 27#32
  let c0_1043 : Index := 0#32
  let c0_1044 : Index := 0#32
  ![v2197.toNat, 27, 0, 0]
def k0_off343 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2201 : Index := Scalar.indexCast v472
  let c28 : Index := 28#32
  let c0_1045 : Index := 0#32
  let c0_1046 : Index := 0#32
  ![v2201.toNat, 28, 0, 0]
def k0_off344 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2205 : Index := Scalar.indexCast v472
  let c29 : Index := 29#32
  let c0_1047 : Index := 0#32
  let c0_1048 : Index := 0#32
  ![v2205.toNat, 29, 0, 0]
def k0_off345 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2209 : Index := Scalar.indexCast v472
  let c30 : Index := 30#32
  let c0_1049 : Index := 0#32
  let c0_1050 : Index := 0#32
  ![v2209.toNat, 30, 0, 0]
def k0_off346 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2214 : Index := Scalar.indexCast v472
  let c31 : Index := 31#32
  let c0_1052 : Index := 0#32
  let c0_1053 : Index := 0#32
  ![v2214.toNat, 31, 0, 0]
def k0_off347 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2218 : Index := Scalar.indexCast v472
  let c0_1054 : Index := 0#32
  let c128_1055 : Index := 128#32
  ![v2218.toNat, 0, 128]
def k0_off348 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2221 : Index := Scalar.indexCast v472
  let c8_1056 : Index := 8#32
  let c128_1057 : Index := 128#32
  ![v2221.toNat, 8, 128]
def k0_off349 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2224 : Index := Scalar.indexCast v472
  let c16_1058 : Index := 16#32
  let c128_1059 : Index := 128#32
  ![v2224.toNat, 16, 128]
def k0_off350 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2227 : Index := Scalar.indexCast v472
  let c24_1060 : Index := 24#32
  let c128_1061 : Index := 128#32
  ![v2227.toNat, 24, 128]
def k0_off351 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2230 : Index := Scalar.indexCast v472
  let c32_1062 : Index := 32#32
  let c128_1063 : Index := 128#32
  ![v2230.toNat, 32, 128]
def k0_off352 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2233 : Index := Scalar.indexCast v472
  let c40_1064 : Index := 40#32
  let c128_1065 : Index := 128#32
  ![v2233.toNat, 40, 128]
def k0_off353 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2236 : Index := Scalar.indexCast v472
  let c48_1066 : Index := 48#32
  let c128_1067 : Index := 128#32
  ![v2236.toNat, 48, 128]
def k0_off354 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2239 : Index := Scalar.indexCast v472
  let c56_1068 : Index := 56#32
  let c128_1069 : Index := 128#32
  ![v2239.toNat, 56, 128]
def k0_off355 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2242 : Index := Scalar.indexCast v472
  let c64_1070 : Index := 64#32
  let c128_1071 : Index := 128#32
  ![v2242.toNat, 64, 128]
def k0_off356 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2245 : Index := Scalar.indexCast v472
  let c72_1072 : Index := 72#32
  let c128_1073 : Index := 128#32
  ![v2245.toNat, 72, 128]
def k0_off357 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2248 : Index := Scalar.indexCast v472
  let c80_1074 : Index := 80#32
  let c128_1075 : Index := 128#32
  ![v2248.toNat, 80, 128]
def k0_off358 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2251 : Index := Scalar.indexCast v472
  let c88_1076 : Index := 88#32
  let c128_1077 : Index := 128#32
  ![v2251.toNat, 88, 128]
def k0_off359 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2254 : Index := Scalar.indexCast v472
  let c96_1078 : Index := 96#32
  let c128_1079 : Index := 128#32
  ![v2254.toNat, 96, 128]
def k0_off360 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2257 : Index := Scalar.indexCast v472
  let c104_1080 : Index := 104#32
  let c128_1081 : Index := 128#32
  ![v2257.toNat, 104, 128]
def k0_off361 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2260 : Index := Scalar.indexCast v472
  let c112_1082 : Index := 112#32
  let c128_1083 : Index := 128#32
  ![v2260.toNat, 112, 128]
def k0_off362 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2263 : Index := Scalar.indexCast v472
  let c120_1084 : Index := 120#32
  let c128_1085 : Index := 128#32
  ![v2263.toNat, 120, 128]
def k0_off363 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2266 : Index := Scalar.indexCast v472
  let c128_1086 : Index := 128#32
  let c128_1087 : Index := 128#32
  ![v2266.toNat, 128, 128]
def k0_off364 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2269 : Index := Scalar.indexCast v472
  let c136_1088 : Index := 136#32
  let c128_1089 : Index := 128#32
  ![v2269.toNat, 136, 128]
def k0_off365 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2272 : Index := Scalar.indexCast v472
  let c144_1090 : Index := 144#32
  let c128_1091 : Index := 128#32
  ![v2272.toNat, 144, 128]
def k0_off366 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2275 : Index := Scalar.indexCast v472
  let c152_1092 : Index := 152#32
  let c128_1093 : Index := 128#32
  ![v2275.toNat, 152, 128]
def k0_off367 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2278 : Index := Scalar.indexCast v472
  let c160_1094 : Index := 160#32
  let c128_1095 : Index := 128#32
  ![v2278.toNat, 160, 128]
def k0_off368 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2281 : Index := Scalar.indexCast v472
  let c168_1096 : Index := 168#32
  let c128_1097 : Index := 128#32
  ![v2281.toNat, 168, 128]
def k0_off369 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2284 : Index := Scalar.indexCast v472
  let c176_1098 : Index := 176#32
  let c128_1099 : Index := 128#32
  ![v2284.toNat, 176, 128]
def k0_off370 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2287 : Index := Scalar.indexCast v472
  let c184_1100 : Index := 184#32
  let c128_1101 : Index := 128#32
  ![v2287.toNat, 184, 128]
def k0_off371 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2290 : Index := Scalar.indexCast v472
  let c192_1102 : Index := 192#32
  let c128_1103 : Index := 128#32
  ![v2290.toNat, 192, 128]
def k0_off372 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2293 : Index := Scalar.indexCast v472
  let c200_1104 : Index := 200#32
  let c128_1105 : Index := 128#32
  ![v2293.toNat, 200, 128]
def k0_off373 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2296 : Index := Scalar.indexCast v472
  let c208_1106 : Index := 208#32
  let c128_1107 : Index := 128#32
  ![v2296.toNat, 208, 128]
def k0_off374 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2299 : Index := Scalar.indexCast v472
  let c216_1108 : Index := 216#32
  let c128_1109 : Index := 128#32
  ![v2299.toNat, 216, 128]
def k0_off375 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2302 : Index := Scalar.indexCast v472
  let c224_1110 : Index := 224#32
  let c128_1111 : Index := 128#32
  ![v2302.toNat, 224, 128]
def k0_off376 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2305 : Index := Scalar.indexCast v472
  let c232_1112 : Index := 232#32
  let c128_1113 : Index := 128#32
  ![v2305.toNat, 232, 128]
def k0_off377 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2308 : Index := Scalar.indexCast v472
  let c240_1114 : Index := 240#32
  let c128_1115 : Index := 128#32
  ![v2308.toNat, 240, 128]
def k0_off378 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v2311 : Index := Scalar.indexCast v472
  let c248_1116 : Index := 248#32
  let c128_1117 : Index := 128#32
  ![v2311.toNat, 248, 128]
def k0_off379 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3034 : Index := Scalar.indexCast v472
  let c0_1358 : Index := 0#32
  let c0_1359 : Index := 0#32
  let c128_1360 : Index := 128#32
  ![v3034.toNat, 0, 0, 128]
def k0_off380 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3038 : Index := Scalar.indexCast v472
  let c1_1361 : Index := 1#32
  let c0_1362 : Index := 0#32
  let c128_1363 : Index := 128#32
  ![v3038.toNat, 1, 0, 128]
def k0_off381 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3042 : Index := Scalar.indexCast v472
  let c2_1364 : Index := 2#32
  let c0_1365 : Index := 0#32
  let c128_1366 : Index := 128#32
  ![v3042.toNat, 2, 0, 128]
def k0_off382 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3046 : Index := Scalar.indexCast v472
  let c3_1367 : Index := 3#32
  let c0_1368 : Index := 0#32
  let c128_1369 : Index := 128#32
  ![v3046.toNat, 3, 0, 128]
def k0_off383 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3050 : Index := Scalar.indexCast v472
  let c4_1370 : Index := 4#32
  let c0_1371 : Index := 0#32
  let c128_1372 : Index := 128#32
  ![v3050.toNat, 4, 0, 128]
def k0_off384 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3054 : Index := Scalar.indexCast v472
  let c5_1373 : Index := 5#32
  let c0_1374 : Index := 0#32
  let c128_1375 : Index := 128#32
  ![v3054.toNat, 5, 0, 128]
def k0_off385 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3058 : Index := Scalar.indexCast v472
  let c6_1376 : Index := 6#32
  let c0_1377 : Index := 0#32
  let c128_1378 : Index := 128#32
  ![v3058.toNat, 6, 0, 128]
def k0_off386 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3062 : Index := Scalar.indexCast v472
  let c7_1379 : Index := 7#32
  let c0_1380 : Index := 0#32
  let c128_1381 : Index := 128#32
  ![v3062.toNat, 7, 0, 128]
def k0_off387 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3066 : Index := Scalar.indexCast v472
  let c8_1382 : Index := 8#32
  let c0_1383 : Index := 0#32
  let c128_1384 : Index := 128#32
  ![v3066.toNat, 8, 0, 128]
def k0_off388 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3070 : Index := Scalar.indexCast v472
  let c9_1385 : Index := 9#32
  let c0_1386 : Index := 0#32
  let c128_1387 : Index := 128#32
  ![v3070.toNat, 9, 0, 128]
def k0_off389 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3074 : Index := Scalar.indexCast v472
  let c10_1388 : Index := 10#32
  let c0_1389 : Index := 0#32
  let c128_1390 : Index := 128#32
  ![v3074.toNat, 10, 0, 128]
def k0_off390 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3078 : Index := Scalar.indexCast v472
  let c11_1391 : Index := 11#32
  let c0_1392 : Index := 0#32
  let c128_1393 : Index := 128#32
  ![v3078.toNat, 11, 0, 128]
def k0_off391 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3082 : Index := Scalar.indexCast v472
  let c12_1394 : Index := 12#32
  let c0_1395 : Index := 0#32
  let c128_1396 : Index := 128#32
  ![v3082.toNat, 12, 0, 128]
def k0_off392 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3086 : Index := Scalar.indexCast v472
  let c13_1397 : Index := 13#32
  let c0_1398 : Index := 0#32
  let c128_1399 : Index := 128#32
  ![v3086.toNat, 13, 0, 128]
def k0_off393 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3090 : Index := Scalar.indexCast v472
  let c14_1400 : Index := 14#32
  let c0_1401 : Index := 0#32
  let c128_1402 : Index := 128#32
  ![v3090.toNat, 14, 0, 128]
def k0_off394 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3094 : Index := Scalar.indexCast v472
  let c15_1403 : Index := 15#32
  let c0_1404 : Index := 0#32
  let c128_1405 : Index := 128#32
  ![v3094.toNat, 15, 0, 128]
def k0_off395 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3098 : Index := Scalar.indexCast v472
  let c16_1406 : Index := 16#32
  let c0_1407 : Index := 0#32
  let c128_1408 : Index := 128#32
  ![v3098.toNat, 16, 0, 128]
def k0_off396 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3102 : Index := Scalar.indexCast v472
  let c17_1409 : Index := 17#32
  let c0_1410 : Index := 0#32
  let c128_1411 : Index := 128#32
  ![v3102.toNat, 17, 0, 128]
def k0_off397 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3106 : Index := Scalar.indexCast v472
  let c18_1412 : Index := 18#32
  let c0_1413 : Index := 0#32
  let c128_1414 : Index := 128#32
  ![v3106.toNat, 18, 0, 128]
def k0_off398 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3110 : Index := Scalar.indexCast v472
  let c19_1415 : Index := 19#32
  let c0_1416 : Index := 0#32
  let c128_1417 : Index := 128#32
  ![v3110.toNat, 19, 0, 128]
def k0_off399 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3114 : Index := Scalar.indexCast v472
  let c20_1418 : Index := 20#32
  let c0_1419 : Index := 0#32
  let c128_1420 : Index := 128#32
  ![v3114.toNat, 20, 0, 128]
def k0_off400 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3118 : Index := Scalar.indexCast v472
  let c21_1421 : Index := 21#32
  let c0_1422 : Index := 0#32
  let c128_1423 : Index := 128#32
  ![v3118.toNat, 21, 0, 128]
def k0_off401 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3122 : Index := Scalar.indexCast v472
  let c22_1424 : Index := 22#32
  let c0_1425 : Index := 0#32
  let c128_1426 : Index := 128#32
  ![v3122.toNat, 22, 0, 128]
def k0_off402 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3126 : Index := Scalar.indexCast v472
  let c23_1427 : Index := 23#32
  let c0_1428 : Index := 0#32
  let c128_1429 : Index := 128#32
  ![v3126.toNat, 23, 0, 128]
def k0_off403 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3130 : Index := Scalar.indexCast v472
  let c24_1430 : Index := 24#32
  let c0_1431 : Index := 0#32
  let c128_1432 : Index := 128#32
  ![v3130.toNat, 24, 0, 128]
def k0_off404 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3134 : Index := Scalar.indexCast v472
  let c25_1433 : Index := 25#32
  let c0_1434 : Index := 0#32
  let c128_1435 : Index := 128#32
  ![v3134.toNat, 25, 0, 128]
def k0_off405 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3138 : Index := Scalar.indexCast v472
  let c26_1436 : Index := 26#32
  let c0_1437 : Index := 0#32
  let c128_1438 : Index := 128#32
  ![v3138.toNat, 26, 0, 128]
def k0_off406 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3142 : Index := Scalar.indexCast v472
  let c27_1439 : Index := 27#32
  let c0_1440 : Index := 0#32
  let c128_1441 : Index := 128#32
  ![v3142.toNat, 27, 0, 128]
def k0_off407 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3146 : Index := Scalar.indexCast v472
  let c28_1442 : Index := 28#32
  let c0_1443 : Index := 0#32
  let c128_1444 : Index := 128#32
  ![v3146.toNat, 28, 0, 128]
def k0_off408 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3150 : Index := Scalar.indexCast v472
  let c29_1445 : Index := 29#32
  let c0_1446 : Index := 0#32
  let c128_1447 : Index := 128#32
  ![v3150.toNat, 29, 0, 128]
def k0_off409 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3154 : Index := Scalar.indexCast v472
  let c30_1448 : Index := 30#32
  let c0_1449 : Index := 0#32
  let c128_1450 : Index := 128#32
  ![v3154.toNat, 30, 0, 128]
def k0_off410 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let v3159 : Index := Scalar.indexCast v472
  let c31_1452 : Index := 31#32
  let c0_1453 : Index := 0#32
  let c128_1454 : Index := 128#32
  ![v3159.toNat, 31, 0, 128]
def k0_mult5 (i : grid0.Coords) (k0_t2 : Fin (k0_t2_loop i).trips) : BitVec 32 :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c2_i32_1455 : BitVec 32 := 2#32
  let v3163 : BitVec 32 := Scalar.addi v472 c2_i32_1455
  let c256_i32_1457 : BitVec 32 := 256#32
  let v3165 : BitVec 32 := Scalar.muli v3163 c256_i32_1457
  v3165
def k0_off411 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3288 : Index := Scalar.indexCast v3164
  let c0_1505 : Index := 0#32
  let c0_1506 : Index := 0#32
  ![v3288.toNat, 0, 0]
def k0_off412 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3384 : Index := Scalar.indexCast v3164
  let c32_1552 : Index := 32#32
  let c0_1553 : Index := 0#32
  ![v3384.toNat, 32, 0]
def k0_off413 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3480 : Index := Scalar.indexCast v3164
  let c64_1599 : Index := 64#32
  let c0_1600 : Index := 0#32
  ![v3480.toNat, 64, 0]
def k0_off414 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3576 : Index := Scalar.indexCast v3164
  let c96_1646 : Index := 96#32
  let c0_1647 : Index := 0#32
  ![v3576.toNat, 96, 0]
def k0_off415 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3672 : Index := Scalar.indexCast v3164
  let c128_1693 : Index := 128#32
  let c0_1694 : Index := 0#32
  ![v3672.toNat, 128, 0]
def k0_off416 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3768 : Index := Scalar.indexCast v3164
  let c160_1740 : Index := 160#32
  let c0_1741 : Index := 0#32
  ![v3768.toNat, 160, 0]
def k0_off417 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3864 : Index := Scalar.indexCast v3164
  let c192_1787 : Index := 192#32
  let c0_1788 : Index := 0#32
  ![v3864.toNat, 192, 0]
def k0_off418 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3960 : Index := Scalar.indexCast v3164
  let c224_1834 : Index := 224#32
  let c0_1835 : Index := 0#32
  ![v3960.toNat, 224, 0]
def k0_off419 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3964 : Index := Scalar.indexCast v3164
  let c0_1836 : Index := 0#32
  let c0_1837 : Index := 0#32
  ![v3964.toNat, 0, 0]
def k0_off420 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3967 : Index := Scalar.indexCast v3164
  let c8_1838 : Index := 8#32
  let c0_1839 : Index := 0#32
  ![v3967.toNat, 8, 0]
def k0_off421 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3970 : Index := Scalar.indexCast v3164
  let c16_1840 : Index := 16#32
  let c0_1841 : Index := 0#32
  ![v3970.toNat, 16, 0]
def k0_off422 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3973 : Index := Scalar.indexCast v3164
  let c24_1842 : Index := 24#32
  let c0_1843 : Index := 0#32
  ![v3973.toNat, 24, 0]
def k0_off423 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3976 : Index := Scalar.indexCast v3164
  let c32_1844 : Index := 32#32
  let c0_1845 : Index := 0#32
  ![v3976.toNat, 32, 0]
def k0_off424 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3979 : Index := Scalar.indexCast v3164
  let c40_1846 : Index := 40#32
  let c0_1847 : Index := 0#32
  ![v3979.toNat, 40, 0]
def k0_off425 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3982 : Index := Scalar.indexCast v3164
  let c48_1848 : Index := 48#32
  let c0_1849 : Index := 0#32
  ![v3982.toNat, 48, 0]
def k0_off426 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3985 : Index := Scalar.indexCast v3164
  let c56_1850 : Index := 56#32
  let c0_1851 : Index := 0#32
  ![v3985.toNat, 56, 0]
def k0_off427 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3988 : Index := Scalar.indexCast v3164
  let c64_1852 : Index := 64#32
  let c0_1853 : Index := 0#32
  ![v3988.toNat, 64, 0]
def k0_off428 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3991 : Index := Scalar.indexCast v3164
  let c72_1854 : Index := 72#32
  let c0_1855 : Index := 0#32
  ![v3991.toNat, 72, 0]
def k0_off429 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3994 : Index := Scalar.indexCast v3164
  let c80_1856 : Index := 80#32
  let c0_1857 : Index := 0#32
  ![v3994.toNat, 80, 0]
def k0_off430 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v3997 : Index := Scalar.indexCast v3164
  let c88_1858 : Index := 88#32
  let c0_1859 : Index := 0#32
  ![v3997.toNat, 88, 0]
def k0_off431 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4000 : Index := Scalar.indexCast v3164
  let c96_1860 : Index := 96#32
  let c0_1861 : Index := 0#32
  ![v4000.toNat, 96, 0]
def k0_off432 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4003 : Index := Scalar.indexCast v3164
  let c104_1862 : Index := 104#32
  let c0_1863 : Index := 0#32
  ![v4003.toNat, 104, 0]
def k0_off433 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4006 : Index := Scalar.indexCast v3164
  let c112_1864 : Index := 112#32
  let c0_1865 : Index := 0#32
  ![v4006.toNat, 112, 0]
def k0_off434 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4009 : Index := Scalar.indexCast v3164
  let c120_1866 : Index := 120#32
  let c0_1867 : Index := 0#32
  ![v4009.toNat, 120, 0]
def k0_off435 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4012 : Index := Scalar.indexCast v3164
  let c128_1868 : Index := 128#32
  let c0_1869 : Index := 0#32
  ![v4012.toNat, 128, 0]
def k0_off436 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4015 : Index := Scalar.indexCast v3164
  let c136_1870 : Index := 136#32
  let c0_1871 : Index := 0#32
  ![v4015.toNat, 136, 0]
def k0_off437 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4018 : Index := Scalar.indexCast v3164
  let c144_1872 : Index := 144#32
  let c0_1873 : Index := 0#32
  ![v4018.toNat, 144, 0]
def k0_off438 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4021 : Index := Scalar.indexCast v3164
  let c152_1874 : Index := 152#32
  let c0_1875 : Index := 0#32
  ![v4021.toNat, 152, 0]
def k0_off439 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4024 : Index := Scalar.indexCast v3164
  let c160_1876 : Index := 160#32
  let c0_1877 : Index := 0#32
  ![v4024.toNat, 160, 0]
def k0_off440 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4027 : Index := Scalar.indexCast v3164
  let c168_1878 : Index := 168#32
  let c0_1879 : Index := 0#32
  ![v4027.toNat, 168, 0]
def k0_off441 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4030 : Index := Scalar.indexCast v3164
  let c176_1880 : Index := 176#32
  let c0_1881 : Index := 0#32
  ![v4030.toNat, 176, 0]
def k0_off442 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4033 : Index := Scalar.indexCast v3164
  let c184_1882 : Index := 184#32
  let c0_1883 : Index := 0#32
  ![v4033.toNat, 184, 0]
def k0_off443 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4036 : Index := Scalar.indexCast v3164
  let c192_1884 : Index := 192#32
  let c0_1885 : Index := 0#32
  ![v4036.toNat, 192, 0]
def k0_off444 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4039 : Index := Scalar.indexCast v3164
  let c200_1886 : Index := 200#32
  let c0_1887 : Index := 0#32
  ![v4039.toNat, 200, 0]
def k0_off445 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4042 : Index := Scalar.indexCast v3164
  let c208_1888 : Index := 208#32
  let c0_1889 : Index := 0#32
  ![v4042.toNat, 208, 0]
def k0_off446 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4045 : Index := Scalar.indexCast v3164
  let c216_1890 : Index := 216#32
  let c0_1891 : Index := 0#32
  ![v4045.toNat, 216, 0]
def k0_off447 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4048 : Index := Scalar.indexCast v3164
  let c224_1892 : Index := 224#32
  let c0_1893 : Index := 0#32
  ![v4048.toNat, 224, 0]
def k0_off448 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4051 : Index := Scalar.indexCast v3164
  let c232_1894 : Index := 232#32
  let c0_1895 : Index := 0#32
  ![v4051.toNat, 232, 0]
def k0_off449 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4054 : Index := Scalar.indexCast v3164
  let c240_1896 : Index := 240#32
  let c0_1897 : Index := 0#32
  ![v4054.toNat, 240, 0]
def k0_off450 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4057 : Index := Scalar.indexCast v3164
  let c248_1898 : Index := 248#32
  let c0_1899 : Index := 0#32
  ![v4057.toNat, 248, 0]
def k0_off451 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4780 : Index := Scalar.indexCast v3164
  let c0_2140 : Index := 0#32
  let c0_2141 : Index := 0#32
  let c0_2142 : Index := 0#32
  ![v4780.toNat, 0, 0, 0]
def k0_off452 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4784 : Index := Scalar.indexCast v3164
  let c1_2143 : Index := 1#32
  let c0_2144 : Index := 0#32
  let c0_2145 : Index := 0#32
  ![v4784.toNat, 1, 0, 0]
def k0_off453 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4788 : Index := Scalar.indexCast v3164
  let c2_2146 : Index := 2#32
  let c0_2147 : Index := 0#32
  let c0_2148 : Index := 0#32
  ![v4788.toNat, 2, 0, 0]
def k0_off454 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4792 : Index := Scalar.indexCast v3164
  let c3_2149 : Index := 3#32
  let c0_2150 : Index := 0#32
  let c0_2151 : Index := 0#32
  ![v4792.toNat, 3, 0, 0]
def k0_off455 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4796 : Index := Scalar.indexCast v3164
  let c4_2152 : Index := 4#32
  let c0_2153 : Index := 0#32
  let c0_2154 : Index := 0#32
  ![v4796.toNat, 4, 0, 0]
def k0_off456 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4800 : Index := Scalar.indexCast v3164
  let c5_2155 : Index := 5#32
  let c0_2156 : Index := 0#32
  let c0_2157 : Index := 0#32
  ![v4800.toNat, 5, 0, 0]
def k0_off457 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4804 : Index := Scalar.indexCast v3164
  let c6_2158 : Index := 6#32
  let c0_2159 : Index := 0#32
  let c0_2160 : Index := 0#32
  ![v4804.toNat, 6, 0, 0]
def k0_off458 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4808 : Index := Scalar.indexCast v3164
  let c7_2161 : Index := 7#32
  let c0_2162 : Index := 0#32
  let c0_2163 : Index := 0#32
  ![v4808.toNat, 7, 0, 0]
def k0_off459 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4812 : Index := Scalar.indexCast v3164
  let c8_2164 : Index := 8#32
  let c0_2165 : Index := 0#32
  let c0_2166 : Index := 0#32
  ![v4812.toNat, 8, 0, 0]
def k0_off460 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4816 : Index := Scalar.indexCast v3164
  let c9_2167 : Index := 9#32
  let c0_2168 : Index := 0#32
  let c0_2169 : Index := 0#32
  ![v4816.toNat, 9, 0, 0]
def k0_off461 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4820 : Index := Scalar.indexCast v3164
  let c10_2170 : Index := 10#32
  let c0_2171 : Index := 0#32
  let c0_2172 : Index := 0#32
  ![v4820.toNat, 10, 0, 0]
def k0_off462 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4824 : Index := Scalar.indexCast v3164
  let c11_2173 : Index := 11#32
  let c0_2174 : Index := 0#32
  let c0_2175 : Index := 0#32
  ![v4824.toNat, 11, 0, 0]
def k0_off463 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4828 : Index := Scalar.indexCast v3164
  let c12_2176 : Index := 12#32
  let c0_2177 : Index := 0#32
  let c0_2178 : Index := 0#32
  ![v4828.toNat, 12, 0, 0]
def k0_off464 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4832 : Index := Scalar.indexCast v3164
  let c13_2179 : Index := 13#32
  let c0_2180 : Index := 0#32
  let c0_2181 : Index := 0#32
  ![v4832.toNat, 13, 0, 0]
def k0_off465 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4836 : Index := Scalar.indexCast v3164
  let c14_2182 : Index := 14#32
  let c0_2183 : Index := 0#32
  let c0_2184 : Index := 0#32
  ![v4836.toNat, 14, 0, 0]
def k0_off466 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4840 : Index := Scalar.indexCast v3164
  let c15_2185 : Index := 15#32
  let c0_2186 : Index := 0#32
  let c0_2187 : Index := 0#32
  ![v4840.toNat, 15, 0, 0]
def k0_off467 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4844 : Index := Scalar.indexCast v3164
  let c16_2188 : Index := 16#32
  let c0_2189 : Index := 0#32
  let c0_2190 : Index := 0#32
  ![v4844.toNat, 16, 0, 0]
def k0_off468 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4848 : Index := Scalar.indexCast v3164
  let c17_2191 : Index := 17#32
  let c0_2192 : Index := 0#32
  let c0_2193 : Index := 0#32
  ![v4848.toNat, 17, 0, 0]
def k0_off469 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4852 : Index := Scalar.indexCast v3164
  let c18_2194 : Index := 18#32
  let c0_2195 : Index := 0#32
  let c0_2196 : Index := 0#32
  ![v4852.toNat, 18, 0, 0]
def k0_off470 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4856 : Index := Scalar.indexCast v3164
  let c19_2197 : Index := 19#32
  let c0_2198 : Index := 0#32
  let c0_2199 : Index := 0#32
  ![v4856.toNat, 19, 0, 0]
def k0_off471 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4860 : Index := Scalar.indexCast v3164
  let c20_2200 : Index := 20#32
  let c0_2201 : Index := 0#32
  let c0_2202 : Index := 0#32
  ![v4860.toNat, 20, 0, 0]
def k0_off472 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4864 : Index := Scalar.indexCast v3164
  let c21_2203 : Index := 21#32
  let c0_2204 : Index := 0#32
  let c0_2205 : Index := 0#32
  ![v4864.toNat, 21, 0, 0]
def k0_off473 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4868 : Index := Scalar.indexCast v3164
  let c22_2206 : Index := 22#32
  let c0_2207 : Index := 0#32
  let c0_2208 : Index := 0#32
  ![v4868.toNat, 22, 0, 0]
def k0_off474 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4872 : Index := Scalar.indexCast v3164
  let c23_2209 : Index := 23#32
  let c0_2210 : Index := 0#32
  let c0_2211 : Index := 0#32
  ![v4872.toNat, 23, 0, 0]
def k0_off475 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4876 : Index := Scalar.indexCast v3164
  let c24_2212 : Index := 24#32
  let c0_2213 : Index := 0#32
  let c0_2214 : Index := 0#32
  ![v4876.toNat, 24, 0, 0]
def k0_off476 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4880 : Index := Scalar.indexCast v3164
  let c25_2215 : Index := 25#32
  let c0_2216 : Index := 0#32
  let c0_2217 : Index := 0#32
  ![v4880.toNat, 25, 0, 0]
def k0_off477 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4884 : Index := Scalar.indexCast v3164
  let c26_2218 : Index := 26#32
  let c0_2219 : Index := 0#32
  let c0_2220 : Index := 0#32
  ![v4884.toNat, 26, 0, 0]
def k0_off478 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4888 : Index := Scalar.indexCast v3164
  let c27_2221 : Index := 27#32
  let c0_2222 : Index := 0#32
  let c0_2223 : Index := 0#32
  ![v4888.toNat, 27, 0, 0]
def k0_off479 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4892 : Index := Scalar.indexCast v3164
  let c28_2224 : Index := 28#32
  let c0_2225 : Index := 0#32
  let c0_2226 : Index := 0#32
  ![v4892.toNat, 28, 0, 0]
def k0_off480 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4896 : Index := Scalar.indexCast v3164
  let c29_2227 : Index := 29#32
  let c0_2228 : Index := 0#32
  let c0_2229 : Index := 0#32
  ![v4896.toNat, 29, 0, 0]
def k0_off481 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4900 : Index := Scalar.indexCast v3164
  let c30_2230 : Index := 30#32
  let c0_2231 : Index := 0#32
  let c0_2232 : Index := 0#32
  ![v4900.toNat, 30, 0, 0]
def k0_off482 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4905 : Index := Scalar.indexCast v3164
  let c31_2234 : Index := 31#32
  let c0_2235 : Index := 0#32
  let c0_2236 : Index := 0#32
  ![v4905.toNat, 31, 0, 0]
def k0_off483 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4909 : Index := Scalar.indexCast v3164
  let c0_2237 : Index := 0#32
  let c128_2238 : Index := 128#32
  ![v4909.toNat, 0, 128]
def k0_off484 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4912 : Index := Scalar.indexCast v3164
  let c8_2239 : Index := 8#32
  let c128_2240 : Index := 128#32
  ![v4912.toNat, 8, 128]
def k0_off485 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4915 : Index := Scalar.indexCast v3164
  let c16_2241 : Index := 16#32
  let c128_2242 : Index := 128#32
  ![v4915.toNat, 16, 128]
def k0_off486 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4918 : Index := Scalar.indexCast v3164
  let c24_2243 : Index := 24#32
  let c128_2244 : Index := 128#32
  ![v4918.toNat, 24, 128]
def k0_off487 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4921 : Index := Scalar.indexCast v3164
  let c32_2245 : Index := 32#32
  let c128_2246 : Index := 128#32
  ![v4921.toNat, 32, 128]
def k0_off488 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4924 : Index := Scalar.indexCast v3164
  let c40_2247 : Index := 40#32
  let c128_2248 : Index := 128#32
  ![v4924.toNat, 40, 128]
def k0_off489 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4927 : Index := Scalar.indexCast v3164
  let c48_2249 : Index := 48#32
  let c128_2250 : Index := 128#32
  ![v4927.toNat, 48, 128]
def k0_off490 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4930 : Index := Scalar.indexCast v3164
  let c56_2251 : Index := 56#32
  let c128_2252 : Index := 128#32
  ![v4930.toNat, 56, 128]
def k0_off491 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4933 : Index := Scalar.indexCast v3164
  let c64_2253 : Index := 64#32
  let c128_2254 : Index := 128#32
  ![v4933.toNat, 64, 128]
def k0_off492 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4936 : Index := Scalar.indexCast v3164
  let c72_2255 : Index := 72#32
  let c128_2256 : Index := 128#32
  ![v4936.toNat, 72, 128]
def k0_off493 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4939 : Index := Scalar.indexCast v3164
  let c80_2257 : Index := 80#32
  let c128_2258 : Index := 128#32
  ![v4939.toNat, 80, 128]
def k0_off494 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4942 : Index := Scalar.indexCast v3164
  let c88_2259 : Index := 88#32
  let c128_2260 : Index := 128#32
  ![v4942.toNat, 88, 128]
def k0_off495 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4945 : Index := Scalar.indexCast v3164
  let c96_2261 : Index := 96#32
  let c128_2262 : Index := 128#32
  ![v4945.toNat, 96, 128]
def k0_off496 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4948 : Index := Scalar.indexCast v3164
  let c104_2263 : Index := 104#32
  let c128_2264 : Index := 128#32
  ![v4948.toNat, 104, 128]
def k0_off497 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4951 : Index := Scalar.indexCast v3164
  let c112_2265 : Index := 112#32
  let c128_2266 : Index := 128#32
  ![v4951.toNat, 112, 128]
def k0_off498 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4954 : Index := Scalar.indexCast v3164
  let c120_2267 : Index := 120#32
  let c128_2268 : Index := 128#32
  ![v4954.toNat, 120, 128]
def k0_off499 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4957 : Index := Scalar.indexCast v3164
  let c128_2269 : Index := 128#32
  let c128_2270 : Index := 128#32
  ![v4957.toNat, 128, 128]
def k0_off500 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4960 : Index := Scalar.indexCast v3164
  let c136_2271 : Index := 136#32
  let c128_2272 : Index := 128#32
  ![v4960.toNat, 136, 128]
def k0_off501 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4963 : Index := Scalar.indexCast v3164
  let c144_2273 : Index := 144#32
  let c128_2274 : Index := 128#32
  ![v4963.toNat, 144, 128]
def k0_off502 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4966 : Index := Scalar.indexCast v3164
  let c152_2275 : Index := 152#32
  let c128_2276 : Index := 128#32
  ![v4966.toNat, 152, 128]
def k0_off503 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4969 : Index := Scalar.indexCast v3164
  let c160_2277 : Index := 160#32
  let c128_2278 : Index := 128#32
  ![v4969.toNat, 160, 128]
def k0_off504 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4972 : Index := Scalar.indexCast v3164
  let c168_2279 : Index := 168#32
  let c128_2280 : Index := 128#32
  ![v4972.toNat, 168, 128]
def k0_off505 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4975 : Index := Scalar.indexCast v3164
  let c176_2281 : Index := 176#32
  let c128_2282 : Index := 128#32
  ![v4975.toNat, 176, 128]
def k0_off506 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4978 : Index := Scalar.indexCast v3164
  let c184_2283 : Index := 184#32
  let c128_2284 : Index := 128#32
  ![v4978.toNat, 184, 128]
def k0_off507 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4981 : Index := Scalar.indexCast v3164
  let c192_2285 : Index := 192#32
  let c128_2286 : Index := 128#32
  ![v4981.toNat, 192, 128]
def k0_off508 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4984 : Index := Scalar.indexCast v3164
  let c200_2287 : Index := 200#32
  let c128_2288 : Index := 128#32
  ![v4984.toNat, 200, 128]
def k0_off509 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4987 : Index := Scalar.indexCast v3164
  let c208_2289 : Index := 208#32
  let c128_2290 : Index := 128#32
  ![v4987.toNat, 208, 128]
def k0_off510 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4990 : Index := Scalar.indexCast v3164
  let c216_2291 : Index := 216#32
  let c128_2292 : Index := 128#32
  ![v4990.toNat, 216, 128]
def k0_off511 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4993 : Index := Scalar.indexCast v3164
  let c224_2293 : Index := 224#32
  let c128_2294 : Index := 128#32
  ![v4993.toNat, 224, 128]
def k0_off512 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4996 : Index := Scalar.indexCast v3164
  let c232_2295 : Index := 232#32
  let c128_2296 : Index := 128#32
  ![v4996.toNat, 232, 128]
def k0_off513 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v4999 : Index := Scalar.indexCast v3164
  let c240_2297 : Index := 240#32
  let c128_2298 : Index := 128#32
  ![v4999.toNat, 240, 128]
def k0_off514 (i : grid0.Coords) (k0_t2 : Fin (k0_t2_loop i).trips) : Fin 3 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5002 : Index := Scalar.indexCast v3164
  let c248_2299 : Index := 248#32
  let c128_2300 : Index := 128#32
  ![v5002.toNat, 248, 128]
def k0_off515 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5725 : Index := Scalar.indexCast v3164
  let c0_2541 : Index := 0#32
  let c0_2542 : Index := 0#32
  let c128_2543 : Index := 128#32
  ![v5725.toNat, 0, 0, 128]
def k0_off516 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5729 : Index := Scalar.indexCast v3164
  let c1_2544 : Index := 1#32
  let c0_2545 : Index := 0#32
  let c128_2546 : Index := 128#32
  ![v5729.toNat, 1, 0, 128]
def k0_off517 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5733 : Index := Scalar.indexCast v3164
  let c2_2547 : Index := 2#32
  let c0_2548 : Index := 0#32
  let c128_2549 : Index := 128#32
  ![v5733.toNat, 2, 0, 128]
def k0_off518 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5737 : Index := Scalar.indexCast v3164
  let c3_2550 : Index := 3#32
  let c0_2551 : Index := 0#32
  let c128_2552 : Index := 128#32
  ![v5737.toNat, 3, 0, 128]
def k0_off519 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5741 : Index := Scalar.indexCast v3164
  let c4_2553 : Index := 4#32
  let c0_2554 : Index := 0#32
  let c128_2555 : Index := 128#32
  ![v5741.toNat, 4, 0, 128]
def k0_off520 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5745 : Index := Scalar.indexCast v3164
  let c5_2556 : Index := 5#32
  let c0_2557 : Index := 0#32
  let c128_2558 : Index := 128#32
  ![v5745.toNat, 5, 0, 128]
def k0_off521 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5749 : Index := Scalar.indexCast v3164
  let c6_2559 : Index := 6#32
  let c0_2560 : Index := 0#32
  let c128_2561 : Index := 128#32
  ![v5749.toNat, 6, 0, 128]
def k0_off522 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5753 : Index := Scalar.indexCast v3164
  let c7_2562 : Index := 7#32
  let c0_2563 : Index := 0#32
  let c128_2564 : Index := 128#32
  ![v5753.toNat, 7, 0, 128]
def k0_off523 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5757 : Index := Scalar.indexCast v3164
  let c8_2565 : Index := 8#32
  let c0_2566 : Index := 0#32
  let c128_2567 : Index := 128#32
  ![v5757.toNat, 8, 0, 128]
def k0_off524 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5761 : Index := Scalar.indexCast v3164
  let c9_2568 : Index := 9#32
  let c0_2569 : Index := 0#32
  let c128_2570 : Index := 128#32
  ![v5761.toNat, 9, 0, 128]
def k0_off525 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5765 : Index := Scalar.indexCast v3164
  let c10_2571 : Index := 10#32
  let c0_2572 : Index := 0#32
  let c128_2573 : Index := 128#32
  ![v5765.toNat, 10, 0, 128]
def k0_off526 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5769 : Index := Scalar.indexCast v3164
  let c11_2574 : Index := 11#32
  let c0_2575 : Index := 0#32
  let c128_2576 : Index := 128#32
  ![v5769.toNat, 11, 0, 128]
def k0_off527 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5773 : Index := Scalar.indexCast v3164
  let c12_2577 : Index := 12#32
  let c0_2578 : Index := 0#32
  let c128_2579 : Index := 128#32
  ![v5773.toNat, 12, 0, 128]
def k0_off528 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5777 : Index := Scalar.indexCast v3164
  let c13_2580 : Index := 13#32
  let c0_2581 : Index := 0#32
  let c128_2582 : Index := 128#32
  ![v5777.toNat, 13, 0, 128]
def k0_off529 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5781 : Index := Scalar.indexCast v3164
  let c14_2583 : Index := 14#32
  let c0_2584 : Index := 0#32
  let c128_2585 : Index := 128#32
  ![v5781.toNat, 14, 0, 128]
def k0_off530 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5785 : Index := Scalar.indexCast v3164
  let c15_2586 : Index := 15#32
  let c0_2587 : Index := 0#32
  let c128_2588 : Index := 128#32
  ![v5785.toNat, 15, 0, 128]
def k0_off531 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5789 : Index := Scalar.indexCast v3164
  let c16_2589 : Index := 16#32
  let c0_2590 : Index := 0#32
  let c128_2591 : Index := 128#32
  ![v5789.toNat, 16, 0, 128]
def k0_off532 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5793 : Index := Scalar.indexCast v3164
  let c17_2592 : Index := 17#32
  let c0_2593 : Index := 0#32
  let c128_2594 : Index := 128#32
  ![v5793.toNat, 17, 0, 128]
def k0_off533 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5797 : Index := Scalar.indexCast v3164
  let c18_2595 : Index := 18#32
  let c0_2596 : Index := 0#32
  let c128_2597 : Index := 128#32
  ![v5797.toNat, 18, 0, 128]
def k0_off534 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5801 : Index := Scalar.indexCast v3164
  let c19_2598 : Index := 19#32
  let c0_2599 : Index := 0#32
  let c128_2600 : Index := 128#32
  ![v5801.toNat, 19, 0, 128]
def k0_off535 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5805 : Index := Scalar.indexCast v3164
  let c20_2601 : Index := 20#32
  let c0_2602 : Index := 0#32
  let c128_2603 : Index := 128#32
  ![v5805.toNat, 20, 0, 128]
def k0_off536 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5809 : Index := Scalar.indexCast v3164
  let c21_2604 : Index := 21#32
  let c0_2605 : Index := 0#32
  let c128_2606 : Index := 128#32
  ![v5809.toNat, 21, 0, 128]
def k0_off537 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5813 : Index := Scalar.indexCast v3164
  let c22_2607 : Index := 22#32
  let c0_2608 : Index := 0#32
  let c128_2609 : Index := 128#32
  ![v5813.toNat, 22, 0, 128]
def k0_off538 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5817 : Index := Scalar.indexCast v3164
  let c23_2610 : Index := 23#32
  let c0_2611 : Index := 0#32
  let c128_2612 : Index := 128#32
  ![v5817.toNat, 23, 0, 128]
def k0_off539 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5821 : Index := Scalar.indexCast v3164
  let c24_2613 : Index := 24#32
  let c0_2614 : Index := 0#32
  let c128_2615 : Index := 128#32
  ![v5821.toNat, 24, 0, 128]
def k0_off540 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5825 : Index := Scalar.indexCast v3164
  let c25_2616 : Index := 25#32
  let c0_2617 : Index := 0#32
  let c128_2618 : Index := 128#32
  ![v5825.toNat, 25, 0, 128]
def k0_off541 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5829 : Index := Scalar.indexCast v3164
  let c26_2619 : Index := 26#32
  let c0_2620 : Index := 0#32
  let c128_2621 : Index := 128#32
  ![v5829.toNat, 26, 0, 128]
def k0_off542 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5833 : Index := Scalar.indexCast v3164
  let c27_2622 : Index := 27#32
  let c0_2623 : Index := 0#32
  let c128_2624 : Index := 128#32
  ![v5833.toNat, 27, 0, 128]
def k0_off543 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5837 : Index := Scalar.indexCast v3164
  let c28_2625 : Index := 28#32
  let c0_2626 : Index := 0#32
  let c128_2627 : Index := 128#32
  ![v5837.toNat, 28, 0, 128]
def k0_off544 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5841 : Index := Scalar.indexCast v3164
  let c29_2628 : Index := 29#32
  let c0_2629 : Index := 0#32
  let c128_2630 : Index := 128#32
  ![v5841.toNat, 29, 0, 128]
def k0_off545 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5845 : Index := Scalar.indexCast v3164
  let c30_2631 : Index := 30#32
  let c0_2632 : Index := 0#32
  let c128_2633 : Index := 128#32
  ![v5845.toNat, 30, 0, 128]
def k0_off546 (i : grid0.Coords) (k0_t2 : Fin (k0_t2_loop i).trips) : Fin 4 → Nat :=
  let c2_i32_335 : BitVec 32 := 2#32
  let c0_i32_56 : BitVec 32 := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c0_i32_49 : BitVec 32 := 0#32
  let v62 : BitVec 1 := Scalar.cmpi .sgt v8 c0_i32_49
  let v63 : BitVec 32 := Scalar.extui v62
  let c0_i32_50 : BitVec 32 := 0#32
  let v64 : BitVec 1 := Scalar.cmpi .slt v8 c0_i32_50
  let v65 : BitVec 32 := Scalar.extui v64
  let v66 : BitVec 32 := Scalar.subi v63 v65
  let c2_i32 : BitVec 32 := 2#32
  let c0_i32_51 : BitVec 32 := 0#32
  let v67 : BitVec 1 := Scalar.cmpi .sgt c2_i32 c0_i32_51
  let v68 : BitVec 32 := Scalar.extui v67
  let c0_i32_52 : BitVec 32 := 0#32
  let v69 : BitVec 1 := Scalar.cmpi .slt c2_i32 c0_i32_52
  let v70 : BitVec 32 := Scalar.extui v69
  let v71 : BitVec 32 := Scalar.subi v68 v70
  let v72 : BitVec 1 := Scalar.cmpi .ne v66 v71
  let v73 : BitVec 32 := Scalar.remsi v8 c2_i32
  let c0_i32_53 : BitVec 32 := 0#32
  let v74 : BitVec 1 := Scalar.cmpi .ne v73 c0_i32_53
  let v75 : BitVec 1 := Scalar.andi v72 v74
  let v61 : BitVec 32 := Scalar.divsi v8 c2_i32
  let c1_i32_54 : BitVec 32 := 1#32
  let v76 : BitVec 32 := Scalar.subi v61 c1_i32_54
  let v77 : BitVec 32 := Scalar.select v75 v76 v61
  let v78 : BitVec 32 := Scalar.subi v77 c0_i32_56
  let c1_i32_57 : BitVec 32 := 1#32
  let v80 : BitVec 32 := Scalar.divsi v78 c1_i32_57
  let v81 : BitVec 32 := Scalar.muli v80 c1_i32_57
  let v82 : BitVec 32 := Scalar.addi c0_i32_56 v81
  let c1_i32_59 : BitVec 32 := 1#32
  let arg21 : BitVec 32 := Scf.iv v82 c1_i32_59 k0_t2
  let v472 : BitVec 32 := Scalar.muli c2_i32_335 arg21
  let c1_i32_1456 : BitVec 32 := 1#32
  let v3164 : BitVec 32 := Scalar.addi v472 c1_i32_1456
  let v5850 : Index := Scalar.indexCast v3164
  let c31_2635 : Index := 31#32
  let c0_2636 : Index := 0#32
  let c128_2637 : Index := 128#32
  ![v5850.toNat, 31, 0, 128]
def k0_cond2 (i : grid0.Coords) : BitVec 1 :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c2_i32_60 : BitVec 32 := 2#32
  let c0_i32_61 : BitVec 32 := 0#32
  let v83 : BitVec 1 := Scalar.cmpi .eq c2_i32_60 c0_i32_61
  let c1_i32_62 : BitVec 32 := 1#32
  let v84 : BitVec 32 := Scalar.select v83 c1_i32_62 c2_i32_60
  let v85 : BitVec 32 := Scalar.remsi v8 v84
  let c0_i32_64 : BitVec 32 := 0#32
  let v87 : BitVec 1 := Scalar.cmpi .slt v85 c0_i32_64
  let c0_i32_65 : BitVec 32 := 0#32
  let v88 : BitVec 1 := Scalar.cmpi .slt v84 c0_i32_65
  let v89 : BitVec 1 := Scalar.xori v87 v88
  let c0_i32_63 : BitVec 32 := 0#32
  let v86 : BitVec 1 := Scalar.cmpi .ne v85 c0_i32_63
  let v90 : BitVec 1 := Scalar.andi v89 v86
  let v91 : BitVec 32 := Scalar.addi v85 v84
  let v92 : BitVec 32 := Scalar.select v90 v91 v85
  let c1_i32_66 : BitVec 32 := 1#32
  let v93 : BitVec 1 := Scalar.cmpi .eq v92 c1_i32_66
  let v94 : BitVec 32 := Scalar.extui v93
  let c0_i32_67 : BitVec 32 := 0#32
  let v95 : BitVec 1 := Scalar.cmpi .ne v94 c0_i32_67
  v95

def k0_mult6 (i : grid0.Coords) : BitVec 32 :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c256_i32_336 : BitVec 32 := 256#32
  let v473 : BitVec 32 := Scalar.muli v8 c256_i32_336
  v473
def k0_off547 (i : grid0.Coords) : Fin 3 → Nat :=
  let c0_337 : Index := 0#32
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c256_i32_336 : BitVec 32 := 256#32
  let v473 : BitVec 32 := Scalar.muli v8 c256_i32_336
  let v474 : BitVec 32 := v473
  let v475 : Index := Scalar.indexCast v474
  let c0_338 : Index := 0#32
  ![0, v475.toNat, 0]
def k0_off548 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v595 : Index := Scalar.indexCast v472
  let c0_382 : Index := 0#32
  let c0_383 : Index := 0#32
  ![v595.toNat, 0, 0]
def k0_off549 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v691 : Index := Scalar.indexCast v472
  let c32_427 : Index := 32#32
  let c0_428 : Index := 0#32
  ![v691.toNat, 32, 0]
def k0_off550 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v787 : Index := Scalar.indexCast v472
  let c64_473 : Index := 64#32
  let c0_474 : Index := 0#32
  ![v787.toNat, 64, 0]
def k0_off551 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v883 : Index := Scalar.indexCast v472
  let c96_518 : Index := 96#32
  let c0_519 : Index := 0#32
  ![v883.toNat, 96, 0]
def k0_off552 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v979 : Index := Scalar.indexCast v472
  let c128_564 : Index := 128#32
  let c0_565 : Index := 0#32
  ![v979.toNat, 128, 0]
def k0_off553 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1075 : Index := Scalar.indexCast v472
  let c160_609 : Index := 160#32
  let c0_610 : Index := 0#32
  ![v1075.toNat, 160, 0]
def k0_off554 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1171 : Index := Scalar.indexCast v472
  let c192_655 : Index := 192#32
  let c0_656 : Index := 0#32
  ![v1171.toNat, 192, 0]
def k0_off555 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1267 : Index := Scalar.indexCast v472
  let c224_700 : Index := 224#32
  let c0_701 : Index := 0#32
  ![v1267.toNat, 224, 0]
def k0_off556 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1271 : Index := Scalar.indexCast v472
  let c0_702 : Index := 0#32
  let c0_703 : Index := 0#32
  ![v1271.toNat, 0, 0]
def k0_off557 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1274 : Index := Scalar.indexCast v472
  let c8 : Index := 8#32
  let c0_704 : Index := 0#32
  ![v1274.toNat, 8, 0]
def k0_off558 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1277 : Index := Scalar.indexCast v472
  let c16 : Index := 16#32
  let c0_705 : Index := 0#32
  ![v1277.toNat, 16, 0]
def k0_off559 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1280 : Index := Scalar.indexCast v472
  let c24 : Index := 24#32
  let c0_706 : Index := 0#32
  ![v1280.toNat, 24, 0]
def k0_off560 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1283 : Index := Scalar.indexCast v472
  let c32_707 : Index := 32#32
  let c0_708 : Index := 0#32
  ![v1283.toNat, 32, 0]
def k0_off561 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1286 : Index := Scalar.indexCast v472
  let c40 : Index := 40#32
  let c0_709 : Index := 0#32
  ![v1286.toNat, 40, 0]
def k0_off562 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1289 : Index := Scalar.indexCast v472
  let c48 : Index := 48#32
  let c0_710 : Index := 0#32
  ![v1289.toNat, 48, 0]
def k0_off563 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1292 : Index := Scalar.indexCast v472
  let c56 : Index := 56#32
  let c0_711 : Index := 0#32
  ![v1292.toNat, 56, 0]
def k0_off564 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1295 : Index := Scalar.indexCast v472
  let c64_712 : Index := 64#32
  let c0_713 : Index := 0#32
  ![v1295.toNat, 64, 0]
def k0_off565 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1298 : Index := Scalar.indexCast v472
  let c72 : Index := 72#32
  let c0_714 : Index := 0#32
  ![v1298.toNat, 72, 0]
def k0_off566 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1301 : Index := Scalar.indexCast v472
  let c80 : Index := 80#32
  let c0_715 : Index := 0#32
  ![v1301.toNat, 80, 0]
def k0_off567 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1304 : Index := Scalar.indexCast v472
  let c88 : Index := 88#32
  let c0_716 : Index := 0#32
  ![v1304.toNat, 88, 0]
def k0_off568 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1307 : Index := Scalar.indexCast v472
  let c96_717 : Index := 96#32
  let c0_718 : Index := 0#32
  ![v1307.toNat, 96, 0]
def k0_off569 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1310 : Index := Scalar.indexCast v472
  let c104 : Index := 104#32
  let c0_719 : Index := 0#32
  ![v1310.toNat, 104, 0]
def k0_off570 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1313 : Index := Scalar.indexCast v472
  let c112 : Index := 112#32
  let c0_720 : Index := 0#32
  ![v1313.toNat, 112, 0]
def k0_off571 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1316 : Index := Scalar.indexCast v472
  let c120 : Index := 120#32
  let c0_721 : Index := 0#32
  ![v1316.toNat, 120, 0]
def k0_off572 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1319 : Index := Scalar.indexCast v472
  let c128_722 : Index := 128#32
  let c0_723 : Index := 0#32
  ![v1319.toNat, 128, 0]
def k0_off573 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1322 : Index := Scalar.indexCast v472
  let c136 : Index := 136#32
  let c0_724 : Index := 0#32
  ![v1322.toNat, 136, 0]
def k0_off574 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1325 : Index := Scalar.indexCast v472
  let c144 : Index := 144#32
  let c0_725 : Index := 0#32
  ![v1325.toNat, 144, 0]
def k0_off575 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1328 : Index := Scalar.indexCast v472
  let c152 : Index := 152#32
  let c0_726 : Index := 0#32
  ![v1328.toNat, 152, 0]
def k0_off576 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1331 : Index := Scalar.indexCast v472
  let c160_727 : Index := 160#32
  let c0_728 : Index := 0#32
  ![v1331.toNat, 160, 0]
def k0_off577 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1334 : Index := Scalar.indexCast v472
  let c168 : Index := 168#32
  let c0_729 : Index := 0#32
  ![v1334.toNat, 168, 0]
def k0_off578 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1337 : Index := Scalar.indexCast v472
  let c176 : Index := 176#32
  let c0_730 : Index := 0#32
  ![v1337.toNat, 176, 0]
def k0_off579 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1340 : Index := Scalar.indexCast v472
  let c184 : Index := 184#32
  let c0_731 : Index := 0#32
  ![v1340.toNat, 184, 0]
def k0_off580 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1343 : Index := Scalar.indexCast v472
  let c192_732 : Index := 192#32
  let c0_733 : Index := 0#32
  ![v1343.toNat, 192, 0]
def k0_off581 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1346 : Index := Scalar.indexCast v472
  let c200 : Index := 200#32
  let c0_734 : Index := 0#32
  ![v1346.toNat, 200, 0]
def k0_off582 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1349 : Index := Scalar.indexCast v472
  let c208 : Index := 208#32
  let c0_735 : Index := 0#32
  ![v1349.toNat, 208, 0]
def k0_off583 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1352 : Index := Scalar.indexCast v472
  let c216 : Index := 216#32
  let c0_736 : Index := 0#32
  ![v1352.toNat, 216, 0]
def k0_off584 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1355 : Index := Scalar.indexCast v472
  let c224_737 : Index := 224#32
  let c0_738 : Index := 0#32
  ![v1355.toNat, 224, 0]
def k0_off585 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1358 : Index := Scalar.indexCast v472
  let c232 : Index := 232#32
  let c0_739 : Index := 0#32
  ![v1358.toNat, 232, 0]
def k0_off586 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1361 : Index := Scalar.indexCast v472
  let c240 : Index := 240#32
  let c0_740 : Index := 0#32
  ![v1361.toNat, 240, 0]
def k0_off587 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v1364 : Index := Scalar.indexCast v472
  let c248 : Index := 248#32
  let c0_741 : Index := 0#32
  ![v1364.toNat, 248, 0]
def k0_off588 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2087 : Index := Scalar.indexCast v472
  let c0_977 : Index := 0#32
  let c0_978 : Index := 0#32
  let c0_979 : Index := 0#32
  ![v2087.toNat, 0, 0, 0]
def k0_off589 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2091 : Index := Scalar.indexCast v472
  let c1_980 : Index := 1#32
  let c0_981 : Index := 0#32
  let c0_982 : Index := 0#32
  ![v2091.toNat, 1, 0, 0]
def k0_off590 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2095 : Index := Scalar.indexCast v472
  let c2_983 : Index := 2#32
  let c0_984 : Index := 0#32
  let c0_985 : Index := 0#32
  ![v2095.toNat, 2, 0, 0]
def k0_off591 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2099 : Index := Scalar.indexCast v472
  let c3_986 : Index := 3#32
  let c0_987 : Index := 0#32
  let c0_988 : Index := 0#32
  ![v2099.toNat, 3, 0, 0]
def k0_off592 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2103 : Index := Scalar.indexCast v472
  let c4_989 : Index := 4#32
  let c0_990 : Index := 0#32
  let c0_991 : Index := 0#32
  ![v2103.toNat, 4, 0, 0]
def k0_off593 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2107 : Index := Scalar.indexCast v472
  let c5_992 : Index := 5#32
  let c0_993 : Index := 0#32
  let c0_994 : Index := 0#32
  ![v2107.toNat, 5, 0, 0]
def k0_off594 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2111 : Index := Scalar.indexCast v472
  let c6_995 : Index := 6#32
  let c0_996 : Index := 0#32
  let c0_997 : Index := 0#32
  ![v2111.toNat, 6, 0, 0]
def k0_off595 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2115 : Index := Scalar.indexCast v472
  let c7_998 : Index := 7#32
  let c0_999 : Index := 0#32
  let c0_1000 : Index := 0#32
  ![v2115.toNat, 7, 0, 0]
def k0_off596 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2119 : Index := Scalar.indexCast v472
  let c8_1001 : Index := 8#32
  let c0_1002 : Index := 0#32
  let c0_1003 : Index := 0#32
  ![v2119.toNat, 8, 0, 0]
def k0_off597 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2123 : Index := Scalar.indexCast v472
  let c9 : Index := 9#32
  let c0_1004 : Index := 0#32
  let c0_1005 : Index := 0#32
  ![v2123.toNat, 9, 0, 0]
def k0_off598 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2127 : Index := Scalar.indexCast v472
  let c10 : Index := 10#32
  let c0_1006 : Index := 0#32
  let c0_1007 : Index := 0#32
  ![v2127.toNat, 10, 0, 0]
def k0_off599 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2131 : Index := Scalar.indexCast v472
  let c11 : Index := 11#32
  let c0_1008 : Index := 0#32
  let c0_1009 : Index := 0#32
  ![v2131.toNat, 11, 0, 0]
def k0_off600 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2135 : Index := Scalar.indexCast v472
  let c12 : Index := 12#32
  let c0_1010 : Index := 0#32
  let c0_1011 : Index := 0#32
  ![v2135.toNat, 12, 0, 0]
def k0_off601 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2139 : Index := Scalar.indexCast v472
  let c13 : Index := 13#32
  let c0_1012 : Index := 0#32
  let c0_1013 : Index := 0#32
  ![v2139.toNat, 13, 0, 0]
def k0_off602 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2143 : Index := Scalar.indexCast v472
  let c14 : Index := 14#32
  let c0_1014 : Index := 0#32
  let c0_1015 : Index := 0#32
  ![v2143.toNat, 14, 0, 0]
def k0_off603 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2147 : Index := Scalar.indexCast v472
  let c15 : Index := 15#32
  let c0_1016 : Index := 0#32
  let c0_1017 : Index := 0#32
  ![v2147.toNat, 15, 0, 0]
def k0_off604 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2151 : Index := Scalar.indexCast v472
  let c16_1018 : Index := 16#32
  let c0_1019 : Index := 0#32
  let c0_1020 : Index := 0#32
  ![v2151.toNat, 16, 0, 0]
def k0_off605 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2155 : Index := Scalar.indexCast v472
  let c17 : Index := 17#32
  let c0_1021 : Index := 0#32
  let c0_1022 : Index := 0#32
  ![v2155.toNat, 17, 0, 0]
def k0_off606 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2159 : Index := Scalar.indexCast v472
  let c18 : Index := 18#32
  let c0_1023 : Index := 0#32
  let c0_1024 : Index := 0#32
  ![v2159.toNat, 18, 0, 0]
def k0_off607 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2163 : Index := Scalar.indexCast v472
  let c19 : Index := 19#32
  let c0_1025 : Index := 0#32
  let c0_1026 : Index := 0#32
  ![v2163.toNat, 19, 0, 0]
def k0_off608 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2167 : Index := Scalar.indexCast v472
  let c20 : Index := 20#32
  let c0_1027 : Index := 0#32
  let c0_1028 : Index := 0#32
  ![v2167.toNat, 20, 0, 0]
def k0_off609 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2171 : Index := Scalar.indexCast v472
  let c21 : Index := 21#32
  let c0_1029 : Index := 0#32
  let c0_1030 : Index := 0#32
  ![v2171.toNat, 21, 0, 0]
def k0_off610 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2175 : Index := Scalar.indexCast v472
  let c22 : Index := 22#32
  let c0_1031 : Index := 0#32
  let c0_1032 : Index := 0#32
  ![v2175.toNat, 22, 0, 0]
def k0_off611 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2179 : Index := Scalar.indexCast v472
  let c23 : Index := 23#32
  let c0_1033 : Index := 0#32
  let c0_1034 : Index := 0#32
  ![v2179.toNat, 23, 0, 0]
def k0_off612 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2183 : Index := Scalar.indexCast v472
  let c24_1035 : Index := 24#32
  let c0_1036 : Index := 0#32
  let c0_1037 : Index := 0#32
  ![v2183.toNat, 24, 0, 0]
def k0_off613 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2187 : Index := Scalar.indexCast v472
  let c25 : Index := 25#32
  let c0_1038 : Index := 0#32
  let c0_1039 : Index := 0#32
  ![v2187.toNat, 25, 0, 0]
def k0_off614 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2191 : Index := Scalar.indexCast v472
  let c26 : Index := 26#32
  let c0_1040 : Index := 0#32
  let c0_1041 : Index := 0#32
  ![v2191.toNat, 26, 0, 0]
def k0_off615 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2195 : Index := Scalar.indexCast v472
  let c27 : Index := 27#32
  let c0_1042 : Index := 0#32
  let c0_1043 : Index := 0#32
  ![v2195.toNat, 27, 0, 0]
def k0_off616 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2199 : Index := Scalar.indexCast v472
  let c28 : Index := 28#32
  let c0_1044 : Index := 0#32
  let c0_1045 : Index := 0#32
  ![v2199.toNat, 28, 0, 0]
def k0_off617 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2203 : Index := Scalar.indexCast v472
  let c29 : Index := 29#32
  let c0_1046 : Index := 0#32
  let c0_1047 : Index := 0#32
  ![v2203.toNat, 29, 0, 0]
def k0_off618 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2207 : Index := Scalar.indexCast v472
  let c30 : Index := 30#32
  let c0_1048 : Index := 0#32
  let c0_1049 : Index := 0#32
  ![v2207.toNat, 30, 0, 0]
def k0_off619 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2212 : Index := Scalar.indexCast v472
  let c31 : Index := 31#32
  let c0_1051 : Index := 0#32
  let c0_1052 : Index := 0#32
  ![v2212.toNat, 31, 0, 0]
def k0_off620 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2216 : Index := Scalar.indexCast v472
  let c0_1053 : Index := 0#32
  let c128_1054 : Index := 128#32
  ![v2216.toNat, 0, 128]
def k0_off621 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2219 : Index := Scalar.indexCast v472
  let c8_1055 : Index := 8#32
  let c128_1056 : Index := 128#32
  ![v2219.toNat, 8, 128]
def k0_off622 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2222 : Index := Scalar.indexCast v472
  let c16_1057 : Index := 16#32
  let c128_1058 : Index := 128#32
  ![v2222.toNat, 16, 128]
def k0_off623 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2225 : Index := Scalar.indexCast v472
  let c24_1059 : Index := 24#32
  let c128_1060 : Index := 128#32
  ![v2225.toNat, 24, 128]
def k0_off624 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2228 : Index := Scalar.indexCast v472
  let c32_1061 : Index := 32#32
  let c128_1062 : Index := 128#32
  ![v2228.toNat, 32, 128]
def k0_off625 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2231 : Index := Scalar.indexCast v472
  let c40_1063 : Index := 40#32
  let c128_1064 : Index := 128#32
  ![v2231.toNat, 40, 128]
def k0_off626 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2234 : Index := Scalar.indexCast v472
  let c48_1065 : Index := 48#32
  let c128_1066 : Index := 128#32
  ![v2234.toNat, 48, 128]
def k0_off627 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2237 : Index := Scalar.indexCast v472
  let c56_1067 : Index := 56#32
  let c128_1068 : Index := 128#32
  ![v2237.toNat, 56, 128]
def k0_off628 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2240 : Index := Scalar.indexCast v472
  let c64_1069 : Index := 64#32
  let c128_1070 : Index := 128#32
  ![v2240.toNat, 64, 128]
def k0_off629 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2243 : Index := Scalar.indexCast v472
  let c72_1071 : Index := 72#32
  let c128_1072 : Index := 128#32
  ![v2243.toNat, 72, 128]
def k0_off630 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2246 : Index := Scalar.indexCast v472
  let c80_1073 : Index := 80#32
  let c128_1074 : Index := 128#32
  ![v2246.toNat, 80, 128]
def k0_off631 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2249 : Index := Scalar.indexCast v472
  let c88_1075 : Index := 88#32
  let c128_1076 : Index := 128#32
  ![v2249.toNat, 88, 128]
def k0_off632 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2252 : Index := Scalar.indexCast v472
  let c96_1077 : Index := 96#32
  let c128_1078 : Index := 128#32
  ![v2252.toNat, 96, 128]
def k0_off633 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2255 : Index := Scalar.indexCast v472
  let c104_1079 : Index := 104#32
  let c128_1080 : Index := 128#32
  ![v2255.toNat, 104, 128]
def k0_off634 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2258 : Index := Scalar.indexCast v472
  let c112_1081 : Index := 112#32
  let c128_1082 : Index := 128#32
  ![v2258.toNat, 112, 128]
def k0_off635 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2261 : Index := Scalar.indexCast v472
  let c120_1083 : Index := 120#32
  let c128_1084 : Index := 128#32
  ![v2261.toNat, 120, 128]
def k0_off636 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2264 : Index := Scalar.indexCast v472
  let c128_1085 : Index := 128#32
  let c128_1086 : Index := 128#32
  ![v2264.toNat, 128, 128]
def k0_off637 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2267 : Index := Scalar.indexCast v472
  let c136_1087 : Index := 136#32
  let c128_1088 : Index := 128#32
  ![v2267.toNat, 136, 128]
def k0_off638 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2270 : Index := Scalar.indexCast v472
  let c144_1089 : Index := 144#32
  let c128_1090 : Index := 128#32
  ![v2270.toNat, 144, 128]
def k0_off639 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2273 : Index := Scalar.indexCast v472
  let c152_1091 : Index := 152#32
  let c128_1092 : Index := 128#32
  ![v2273.toNat, 152, 128]
def k0_off640 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2276 : Index := Scalar.indexCast v472
  let c160_1093 : Index := 160#32
  let c128_1094 : Index := 128#32
  ![v2276.toNat, 160, 128]
def k0_off641 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2279 : Index := Scalar.indexCast v472
  let c168_1095 : Index := 168#32
  let c128_1096 : Index := 128#32
  ![v2279.toNat, 168, 128]
def k0_off642 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2282 : Index := Scalar.indexCast v472
  let c176_1097 : Index := 176#32
  let c128_1098 : Index := 128#32
  ![v2282.toNat, 176, 128]
def k0_off643 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2285 : Index := Scalar.indexCast v472
  let c184_1099 : Index := 184#32
  let c128_1100 : Index := 128#32
  ![v2285.toNat, 184, 128]
def k0_off644 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2288 : Index := Scalar.indexCast v472
  let c192_1101 : Index := 192#32
  let c128_1102 : Index := 128#32
  ![v2288.toNat, 192, 128]
def k0_off645 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2291 : Index := Scalar.indexCast v472
  let c200_1103 : Index := 200#32
  let c128_1104 : Index := 128#32
  ![v2291.toNat, 200, 128]
def k0_off646 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2294 : Index := Scalar.indexCast v472
  let c208_1105 : Index := 208#32
  let c128_1106 : Index := 128#32
  ![v2294.toNat, 208, 128]
def k0_off647 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2297 : Index := Scalar.indexCast v472
  let c216_1107 : Index := 216#32
  let c128_1108 : Index := 128#32
  ![v2297.toNat, 216, 128]
def k0_off648 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2300 : Index := Scalar.indexCast v472
  let c224_1109 : Index := 224#32
  let c128_1110 : Index := 128#32
  ![v2300.toNat, 224, 128]
def k0_off649 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2303 : Index := Scalar.indexCast v472
  let c232_1111 : Index := 232#32
  let c128_1112 : Index := 128#32
  ![v2303.toNat, 232, 128]
def k0_off650 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2306 : Index := Scalar.indexCast v472
  let c240_1113 : Index := 240#32
  let c128_1114 : Index := 128#32
  ![v2306.toNat, 240, 128]
def k0_off651 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v2309 : Index := Scalar.indexCast v472
  let c248_1115 : Index := 248#32
  let c128_1116 : Index := 128#32
  ![v2309.toNat, 248, 128]
def k0_off652 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3032 : Index := Scalar.indexCast v472
  let c0_1357 : Index := 0#32
  let c0_1358 : Index := 0#32
  let c128_1359 : Index := 128#32
  ![v3032.toNat, 0, 0, 128]
def k0_off653 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3036 : Index := Scalar.indexCast v472
  let c1_1360 : Index := 1#32
  let c0_1361 : Index := 0#32
  let c128_1362 : Index := 128#32
  ![v3036.toNat, 1, 0, 128]
def k0_off654 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3040 : Index := Scalar.indexCast v472
  let c2_1363 : Index := 2#32
  let c0_1364 : Index := 0#32
  let c128_1365 : Index := 128#32
  ![v3040.toNat, 2, 0, 128]
def k0_off655 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3044 : Index := Scalar.indexCast v472
  let c3_1366 : Index := 3#32
  let c0_1367 : Index := 0#32
  let c128_1368 : Index := 128#32
  ![v3044.toNat, 3, 0, 128]
def k0_off656 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3048 : Index := Scalar.indexCast v472
  let c4_1369 : Index := 4#32
  let c0_1370 : Index := 0#32
  let c128_1371 : Index := 128#32
  ![v3048.toNat, 4, 0, 128]
def k0_off657 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3052 : Index := Scalar.indexCast v472
  let c5_1372 : Index := 5#32
  let c0_1373 : Index := 0#32
  let c128_1374 : Index := 128#32
  ![v3052.toNat, 5, 0, 128]
def k0_off658 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3056 : Index := Scalar.indexCast v472
  let c6_1375 : Index := 6#32
  let c0_1376 : Index := 0#32
  let c128_1377 : Index := 128#32
  ![v3056.toNat, 6, 0, 128]
def k0_off659 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3060 : Index := Scalar.indexCast v472
  let c7_1378 : Index := 7#32
  let c0_1379 : Index := 0#32
  let c128_1380 : Index := 128#32
  ![v3060.toNat, 7, 0, 128]
def k0_off660 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3064 : Index := Scalar.indexCast v472
  let c8_1381 : Index := 8#32
  let c0_1382 : Index := 0#32
  let c128_1383 : Index := 128#32
  ![v3064.toNat, 8, 0, 128]
def k0_off661 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3068 : Index := Scalar.indexCast v472
  let c9_1384 : Index := 9#32
  let c0_1385 : Index := 0#32
  let c128_1386 : Index := 128#32
  ![v3068.toNat, 9, 0, 128]
def k0_off662 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3072 : Index := Scalar.indexCast v472
  let c10_1387 : Index := 10#32
  let c0_1388 : Index := 0#32
  let c128_1389 : Index := 128#32
  ![v3072.toNat, 10, 0, 128]
def k0_off663 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3076 : Index := Scalar.indexCast v472
  let c11_1390 : Index := 11#32
  let c0_1391 : Index := 0#32
  let c128_1392 : Index := 128#32
  ![v3076.toNat, 11, 0, 128]
def k0_off664 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3080 : Index := Scalar.indexCast v472
  let c12_1393 : Index := 12#32
  let c0_1394 : Index := 0#32
  let c128_1395 : Index := 128#32
  ![v3080.toNat, 12, 0, 128]
def k0_off665 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3084 : Index := Scalar.indexCast v472
  let c13_1396 : Index := 13#32
  let c0_1397 : Index := 0#32
  let c128_1398 : Index := 128#32
  ![v3084.toNat, 13, 0, 128]
def k0_off666 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3088 : Index := Scalar.indexCast v472
  let c14_1399 : Index := 14#32
  let c0_1400 : Index := 0#32
  let c128_1401 : Index := 128#32
  ![v3088.toNat, 14, 0, 128]
def k0_off667 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3092 : Index := Scalar.indexCast v472
  let c15_1402 : Index := 15#32
  let c0_1403 : Index := 0#32
  let c128_1404 : Index := 128#32
  ![v3092.toNat, 15, 0, 128]
def k0_off668 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3096 : Index := Scalar.indexCast v472
  let c16_1405 : Index := 16#32
  let c0_1406 : Index := 0#32
  let c128_1407 : Index := 128#32
  ![v3096.toNat, 16, 0, 128]
def k0_off669 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3100 : Index := Scalar.indexCast v472
  let c17_1408 : Index := 17#32
  let c0_1409 : Index := 0#32
  let c128_1410 : Index := 128#32
  ![v3100.toNat, 17, 0, 128]
def k0_off670 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3104 : Index := Scalar.indexCast v472
  let c18_1411 : Index := 18#32
  let c0_1412 : Index := 0#32
  let c128_1413 : Index := 128#32
  ![v3104.toNat, 18, 0, 128]
def k0_off671 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3108 : Index := Scalar.indexCast v472
  let c19_1414 : Index := 19#32
  let c0_1415 : Index := 0#32
  let c128_1416 : Index := 128#32
  ![v3108.toNat, 19, 0, 128]
def k0_off672 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3112 : Index := Scalar.indexCast v472
  let c20_1417 : Index := 20#32
  let c0_1418 : Index := 0#32
  let c128_1419 : Index := 128#32
  ![v3112.toNat, 20, 0, 128]
def k0_off673 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3116 : Index := Scalar.indexCast v472
  let c21_1420 : Index := 21#32
  let c0_1421 : Index := 0#32
  let c128_1422 : Index := 128#32
  ![v3116.toNat, 21, 0, 128]
def k0_off674 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3120 : Index := Scalar.indexCast v472
  let c22_1423 : Index := 22#32
  let c0_1424 : Index := 0#32
  let c128_1425 : Index := 128#32
  ![v3120.toNat, 22, 0, 128]
def k0_off675 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3124 : Index := Scalar.indexCast v472
  let c23_1426 : Index := 23#32
  let c0_1427 : Index := 0#32
  let c128_1428 : Index := 128#32
  ![v3124.toNat, 23, 0, 128]
def k0_off676 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3128 : Index := Scalar.indexCast v472
  let c24_1429 : Index := 24#32
  let c0_1430 : Index := 0#32
  let c128_1431 : Index := 128#32
  ![v3128.toNat, 24, 0, 128]
def k0_off677 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3132 : Index := Scalar.indexCast v472
  let c25_1432 : Index := 25#32
  let c0_1433 : Index := 0#32
  let c128_1434 : Index := 128#32
  ![v3132.toNat, 25, 0, 128]
def k0_off678 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3136 : Index := Scalar.indexCast v472
  let c26_1435 : Index := 26#32
  let c0_1436 : Index := 0#32
  let c128_1437 : Index := 128#32
  ![v3136.toNat, 26, 0, 128]
def k0_off679 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3140 : Index := Scalar.indexCast v472
  let c27_1438 : Index := 27#32
  let c0_1439 : Index := 0#32
  let c128_1440 : Index := 128#32
  ![v3140.toNat, 27, 0, 128]
def k0_off680 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3144 : Index := Scalar.indexCast v472
  let c28_1441 : Index := 28#32
  let c0_1442 : Index := 0#32
  let c128_1443 : Index := 128#32
  ![v3144.toNat, 28, 0, 128]
def k0_off681 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3148 : Index := Scalar.indexCast v472
  let c29_1444 : Index := 29#32
  let c0_1445 : Index := 0#32
  let c128_1446 : Index := 128#32
  ![v3148.toNat, 29, 0, 128]
def k0_off682 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3152 : Index := Scalar.indexCast v472
  let c30_1447 : Index := 30#32
  let c0_1448 : Index := 0#32
  let c128_1449 : Index := 128#32
  ![v3152.toNat, 30, 0, 128]
def k0_off683 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c1_i32_335 : BitVec 32 := 1#32
  let v472 : BitVec 32 := Scalar.subi v8 c1_i32_335
  let v3157 : Index := Scalar.indexCast v472
  let c31_1451 : Index := 31#32
  let c0_1452 : Index := 0#32
  let c128_1453 : Index := 128#32
  ![v3157.toNat, 31, 0, 128]
def k0_off684 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3278 : Index := Scalar.indexCast v8
  let c0_1494 : Index := 0#32
  let c0_1495 : Index := 0#32
  ![v3278.toNat, 0, 0]
def k0_off685 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3373 : Index := Scalar.indexCast v8
  let c32_1536 : Index := 32#32
  let c0_1537 : Index := 0#32
  ![v3373.toNat, 32, 0]
def k0_off686 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3468 : Index := Scalar.indexCast v8
  let c64_1578 : Index := 64#32
  let c0_1579 : Index := 0#32
  ![v3468.toNat, 64, 0]
def k0_off687 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3563 : Index := Scalar.indexCast v8
  let c96_1620 : Index := 96#32
  let c0_1621 : Index := 0#32
  ![v3563.toNat, 96, 0]
def k0_off688 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3658 : Index := Scalar.indexCast v8
  let c128_1662 : Index := 128#32
  let c0_1663 : Index := 0#32
  ![v3658.toNat, 128, 0]
def k0_off689 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3753 : Index := Scalar.indexCast v8
  let c160_1704 : Index := 160#32
  let c0_1705 : Index := 0#32
  ![v3753.toNat, 160, 0]
def k0_off690 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3848 : Index := Scalar.indexCast v8
  let c192_1746 : Index := 192#32
  let c0_1747 : Index := 0#32
  ![v3848.toNat, 192, 0]
def k0_off691 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3943 : Index := Scalar.indexCast v8
  let c224_1788 : Index := 224#32
  let c0_1789 : Index := 0#32
  ![v3943.toNat, 224, 0]
def k0_off692 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3947 : Index := Scalar.indexCast v8
  let c0_1790 : Index := 0#32
  let c0_1791 : Index := 0#32
  ![v3947.toNat, 0, 0]
def k0_off693 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3950 : Index := Scalar.indexCast v8
  let c8_1792 : Index := 8#32
  let c0_1793 : Index := 0#32
  ![v3950.toNat, 8, 0]
def k0_off694 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3953 : Index := Scalar.indexCast v8
  let c16_1794 : Index := 16#32
  let c0_1795 : Index := 0#32
  ![v3953.toNat, 16, 0]
def k0_off695 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3956 : Index := Scalar.indexCast v8
  let c24_1796 : Index := 24#32
  let c0_1797 : Index := 0#32
  ![v3956.toNat, 24, 0]
def k0_off696 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3959 : Index := Scalar.indexCast v8
  let c32_1798 : Index := 32#32
  let c0_1799 : Index := 0#32
  ![v3959.toNat, 32, 0]
def k0_off697 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3962 : Index := Scalar.indexCast v8
  let c40_1800 : Index := 40#32
  let c0_1801 : Index := 0#32
  ![v3962.toNat, 40, 0]
def k0_off698 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3965 : Index := Scalar.indexCast v8
  let c48_1802 : Index := 48#32
  let c0_1803 : Index := 0#32
  ![v3965.toNat, 48, 0]
def k0_off699 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3968 : Index := Scalar.indexCast v8
  let c56_1804 : Index := 56#32
  let c0_1805 : Index := 0#32
  ![v3968.toNat, 56, 0]
def k0_off700 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3971 : Index := Scalar.indexCast v8
  let c64_1806 : Index := 64#32
  let c0_1807 : Index := 0#32
  ![v3971.toNat, 64, 0]
def k0_off701 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3974 : Index := Scalar.indexCast v8
  let c72_1808 : Index := 72#32
  let c0_1809 : Index := 0#32
  ![v3974.toNat, 72, 0]
def k0_off702 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3977 : Index := Scalar.indexCast v8
  let c80_1810 : Index := 80#32
  let c0_1811 : Index := 0#32
  ![v3977.toNat, 80, 0]
def k0_off703 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3980 : Index := Scalar.indexCast v8
  let c88_1812 : Index := 88#32
  let c0_1813 : Index := 0#32
  ![v3980.toNat, 88, 0]
def k0_off704 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3983 : Index := Scalar.indexCast v8
  let c96_1814 : Index := 96#32
  let c0_1815 : Index := 0#32
  ![v3983.toNat, 96, 0]
def k0_off705 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3986 : Index := Scalar.indexCast v8
  let c104_1816 : Index := 104#32
  let c0_1817 : Index := 0#32
  ![v3986.toNat, 104, 0]
def k0_off706 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3989 : Index := Scalar.indexCast v8
  let c112_1818 : Index := 112#32
  let c0_1819 : Index := 0#32
  ![v3989.toNat, 112, 0]
def k0_off707 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3992 : Index := Scalar.indexCast v8
  let c120_1820 : Index := 120#32
  let c0_1821 : Index := 0#32
  ![v3992.toNat, 120, 0]
def k0_off708 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3995 : Index := Scalar.indexCast v8
  let c128_1822 : Index := 128#32
  let c0_1823 : Index := 0#32
  ![v3995.toNat, 128, 0]
def k0_off709 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3998 : Index := Scalar.indexCast v8
  let c136_1824 : Index := 136#32
  let c0_1825 : Index := 0#32
  ![v3998.toNat, 136, 0]
def k0_off710 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4001 : Index := Scalar.indexCast v8
  let c144_1826 : Index := 144#32
  let c0_1827 : Index := 0#32
  ![v4001.toNat, 144, 0]
def k0_off711 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4004 : Index := Scalar.indexCast v8
  let c152_1828 : Index := 152#32
  let c0_1829 : Index := 0#32
  ![v4004.toNat, 152, 0]
def k0_off712 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4007 : Index := Scalar.indexCast v8
  let c160_1830 : Index := 160#32
  let c0_1831 : Index := 0#32
  ![v4007.toNat, 160, 0]
def k0_off713 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4010 : Index := Scalar.indexCast v8
  let c168_1832 : Index := 168#32
  let c0_1833 : Index := 0#32
  ![v4010.toNat, 168, 0]
def k0_off714 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4013 : Index := Scalar.indexCast v8
  let c176_1834 : Index := 176#32
  let c0_1835 : Index := 0#32
  ![v4013.toNat, 176, 0]
def k0_off715 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4016 : Index := Scalar.indexCast v8
  let c184_1836 : Index := 184#32
  let c0_1837 : Index := 0#32
  ![v4016.toNat, 184, 0]
def k0_off716 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4019 : Index := Scalar.indexCast v8
  let c192_1838 : Index := 192#32
  let c0_1839 : Index := 0#32
  ![v4019.toNat, 192, 0]
def k0_off717 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4022 : Index := Scalar.indexCast v8
  let c200_1840 : Index := 200#32
  let c0_1841 : Index := 0#32
  ![v4022.toNat, 200, 0]
def k0_off718 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4025 : Index := Scalar.indexCast v8
  let c208_1842 : Index := 208#32
  let c0_1843 : Index := 0#32
  ![v4025.toNat, 208, 0]
def k0_off719 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4028 : Index := Scalar.indexCast v8
  let c216_1844 : Index := 216#32
  let c0_1845 : Index := 0#32
  ![v4028.toNat, 216, 0]
def k0_off720 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4031 : Index := Scalar.indexCast v8
  let c224_1846 : Index := 224#32
  let c0_1847 : Index := 0#32
  ![v4031.toNat, 224, 0]
def k0_off721 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4034 : Index := Scalar.indexCast v8
  let c232_1848 : Index := 232#32
  let c0_1849 : Index := 0#32
  ![v4034.toNat, 232, 0]
def k0_off722 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4037 : Index := Scalar.indexCast v8
  let c240_1850 : Index := 240#32
  let c0_1851 : Index := 0#32
  ![v4037.toNat, 240, 0]
def k0_off723 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4040 : Index := Scalar.indexCast v8
  let c248_1852 : Index := 248#32
  let c0_1853 : Index := 0#32
  ![v4040.toNat, 248, 0]
def k0_off724 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4763 : Index := Scalar.indexCast v8
  let c0_2094 : Index := 0#32
  let c0_2095 : Index := 0#32
  let c0_2096 : Index := 0#32
  ![v4763.toNat, 0, 0, 0]
def k0_off725 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4767 : Index := Scalar.indexCast v8
  let c1_2097 : Index := 1#32
  let c0_2098 : Index := 0#32
  let c0_2099 : Index := 0#32
  ![v4767.toNat, 1, 0, 0]
def k0_off726 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4771 : Index := Scalar.indexCast v8
  let c2_2100 : Index := 2#32
  let c0_2101 : Index := 0#32
  let c0_2102 : Index := 0#32
  ![v4771.toNat, 2, 0, 0]
def k0_off727 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4775 : Index := Scalar.indexCast v8
  let c3_2103 : Index := 3#32
  let c0_2104 : Index := 0#32
  let c0_2105 : Index := 0#32
  ![v4775.toNat, 3, 0, 0]
def k0_off728 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4779 : Index := Scalar.indexCast v8
  let c4_2106 : Index := 4#32
  let c0_2107 : Index := 0#32
  let c0_2108 : Index := 0#32
  ![v4779.toNat, 4, 0, 0]
def k0_off729 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4783 : Index := Scalar.indexCast v8
  let c5_2109 : Index := 5#32
  let c0_2110 : Index := 0#32
  let c0_2111 : Index := 0#32
  ![v4783.toNat, 5, 0, 0]
def k0_off730 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4787 : Index := Scalar.indexCast v8
  let c6_2112 : Index := 6#32
  let c0_2113 : Index := 0#32
  let c0_2114 : Index := 0#32
  ![v4787.toNat, 6, 0, 0]
def k0_off731 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4791 : Index := Scalar.indexCast v8
  let c7_2115 : Index := 7#32
  let c0_2116 : Index := 0#32
  let c0_2117 : Index := 0#32
  ![v4791.toNat, 7, 0, 0]
def k0_off732 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4795 : Index := Scalar.indexCast v8
  let c8_2118 : Index := 8#32
  let c0_2119 : Index := 0#32
  let c0_2120 : Index := 0#32
  ![v4795.toNat, 8, 0, 0]
def k0_off733 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4799 : Index := Scalar.indexCast v8
  let c9_2121 : Index := 9#32
  let c0_2122 : Index := 0#32
  let c0_2123 : Index := 0#32
  ![v4799.toNat, 9, 0, 0]
def k0_off734 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4803 : Index := Scalar.indexCast v8
  let c10_2124 : Index := 10#32
  let c0_2125 : Index := 0#32
  let c0_2126 : Index := 0#32
  ![v4803.toNat, 10, 0, 0]
def k0_off735 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4807 : Index := Scalar.indexCast v8
  let c11_2127 : Index := 11#32
  let c0_2128 : Index := 0#32
  let c0_2129 : Index := 0#32
  ![v4807.toNat, 11, 0, 0]
def k0_off736 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4811 : Index := Scalar.indexCast v8
  let c12_2130 : Index := 12#32
  let c0_2131 : Index := 0#32
  let c0_2132 : Index := 0#32
  ![v4811.toNat, 12, 0, 0]
def k0_off737 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4815 : Index := Scalar.indexCast v8
  let c13_2133 : Index := 13#32
  let c0_2134 : Index := 0#32
  let c0_2135 : Index := 0#32
  ![v4815.toNat, 13, 0, 0]
def k0_off738 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4819 : Index := Scalar.indexCast v8
  let c14_2136 : Index := 14#32
  let c0_2137 : Index := 0#32
  let c0_2138 : Index := 0#32
  ![v4819.toNat, 14, 0, 0]
def k0_off739 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4823 : Index := Scalar.indexCast v8
  let c15_2139 : Index := 15#32
  let c0_2140 : Index := 0#32
  let c0_2141 : Index := 0#32
  ![v4823.toNat, 15, 0, 0]
def k0_off740 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4827 : Index := Scalar.indexCast v8
  let c16_2142 : Index := 16#32
  let c0_2143 : Index := 0#32
  let c0_2144 : Index := 0#32
  ![v4827.toNat, 16, 0, 0]
def k0_off741 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4831 : Index := Scalar.indexCast v8
  let c17_2145 : Index := 17#32
  let c0_2146 : Index := 0#32
  let c0_2147 : Index := 0#32
  ![v4831.toNat, 17, 0, 0]
def k0_off742 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4835 : Index := Scalar.indexCast v8
  let c18_2148 : Index := 18#32
  let c0_2149 : Index := 0#32
  let c0_2150 : Index := 0#32
  ![v4835.toNat, 18, 0, 0]
def k0_off743 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4839 : Index := Scalar.indexCast v8
  let c19_2151 : Index := 19#32
  let c0_2152 : Index := 0#32
  let c0_2153 : Index := 0#32
  ![v4839.toNat, 19, 0, 0]
def k0_off744 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4843 : Index := Scalar.indexCast v8
  let c20_2154 : Index := 20#32
  let c0_2155 : Index := 0#32
  let c0_2156 : Index := 0#32
  ![v4843.toNat, 20, 0, 0]
def k0_off745 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4847 : Index := Scalar.indexCast v8
  let c21_2157 : Index := 21#32
  let c0_2158 : Index := 0#32
  let c0_2159 : Index := 0#32
  ![v4847.toNat, 21, 0, 0]
def k0_off746 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4851 : Index := Scalar.indexCast v8
  let c22_2160 : Index := 22#32
  let c0_2161 : Index := 0#32
  let c0_2162 : Index := 0#32
  ![v4851.toNat, 22, 0, 0]
def k0_off747 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4855 : Index := Scalar.indexCast v8
  let c23_2163 : Index := 23#32
  let c0_2164 : Index := 0#32
  let c0_2165 : Index := 0#32
  ![v4855.toNat, 23, 0, 0]
def k0_off748 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4859 : Index := Scalar.indexCast v8
  let c24_2166 : Index := 24#32
  let c0_2167 : Index := 0#32
  let c0_2168 : Index := 0#32
  ![v4859.toNat, 24, 0, 0]
def k0_off749 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4863 : Index := Scalar.indexCast v8
  let c25_2169 : Index := 25#32
  let c0_2170 : Index := 0#32
  let c0_2171 : Index := 0#32
  ![v4863.toNat, 25, 0, 0]
def k0_off750 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4867 : Index := Scalar.indexCast v8
  let c26_2172 : Index := 26#32
  let c0_2173 : Index := 0#32
  let c0_2174 : Index := 0#32
  ![v4867.toNat, 26, 0, 0]
def k0_off751 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4871 : Index := Scalar.indexCast v8
  let c27_2175 : Index := 27#32
  let c0_2176 : Index := 0#32
  let c0_2177 : Index := 0#32
  ![v4871.toNat, 27, 0, 0]
def k0_off752 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4875 : Index := Scalar.indexCast v8
  let c28_2178 : Index := 28#32
  let c0_2179 : Index := 0#32
  let c0_2180 : Index := 0#32
  ![v4875.toNat, 28, 0, 0]
def k0_off753 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4879 : Index := Scalar.indexCast v8
  let c29_2181 : Index := 29#32
  let c0_2182 : Index := 0#32
  let c0_2183 : Index := 0#32
  ![v4879.toNat, 29, 0, 0]
def k0_off754 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4883 : Index := Scalar.indexCast v8
  let c30_2184 : Index := 30#32
  let c0_2185 : Index := 0#32
  let c0_2186 : Index := 0#32
  ![v4883.toNat, 30, 0, 0]
def k0_off755 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4888 : Index := Scalar.indexCast v8
  let c31_2188 : Index := 31#32
  let c0_2189 : Index := 0#32
  let c0_2190 : Index := 0#32
  ![v4888.toNat, 31, 0, 0]
def k0_off756 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4892 : Index := Scalar.indexCast v8
  let c0_2191 : Index := 0#32
  let c128_2192 : Index := 128#32
  ![v4892.toNat, 0, 128]
def k0_off757 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4895 : Index := Scalar.indexCast v8
  let c8_2193 : Index := 8#32
  let c128_2194 : Index := 128#32
  ![v4895.toNat, 8, 128]
def k0_off758 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4898 : Index := Scalar.indexCast v8
  let c16_2195 : Index := 16#32
  let c128_2196 : Index := 128#32
  ![v4898.toNat, 16, 128]
def k0_off759 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4901 : Index := Scalar.indexCast v8
  let c24_2197 : Index := 24#32
  let c128_2198 : Index := 128#32
  ![v4901.toNat, 24, 128]
def k0_off760 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4904 : Index := Scalar.indexCast v8
  let c32_2199 : Index := 32#32
  let c128_2200 : Index := 128#32
  ![v4904.toNat, 32, 128]
def k0_off761 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4907 : Index := Scalar.indexCast v8
  let c40_2201 : Index := 40#32
  let c128_2202 : Index := 128#32
  ![v4907.toNat, 40, 128]
def k0_off762 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4910 : Index := Scalar.indexCast v8
  let c48_2203 : Index := 48#32
  let c128_2204 : Index := 128#32
  ![v4910.toNat, 48, 128]
def k0_off763 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4913 : Index := Scalar.indexCast v8
  let c56_2205 : Index := 56#32
  let c128_2206 : Index := 128#32
  ![v4913.toNat, 56, 128]
def k0_off764 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4916 : Index := Scalar.indexCast v8
  let c64_2207 : Index := 64#32
  let c128_2208 : Index := 128#32
  ![v4916.toNat, 64, 128]
def k0_off765 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4919 : Index := Scalar.indexCast v8
  let c72_2209 : Index := 72#32
  let c128_2210 : Index := 128#32
  ![v4919.toNat, 72, 128]
def k0_off766 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4922 : Index := Scalar.indexCast v8
  let c80_2211 : Index := 80#32
  let c128_2212 : Index := 128#32
  ![v4922.toNat, 80, 128]
def k0_off767 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4925 : Index := Scalar.indexCast v8
  let c88_2213 : Index := 88#32
  let c128_2214 : Index := 128#32
  ![v4925.toNat, 88, 128]
def k0_off768 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4928 : Index := Scalar.indexCast v8
  let c96_2215 : Index := 96#32
  let c128_2216 : Index := 128#32
  ![v4928.toNat, 96, 128]
def k0_off769 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4931 : Index := Scalar.indexCast v8
  let c104_2217 : Index := 104#32
  let c128_2218 : Index := 128#32
  ![v4931.toNat, 104, 128]
def k0_off770 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4934 : Index := Scalar.indexCast v8
  let c112_2219 : Index := 112#32
  let c128_2220 : Index := 128#32
  ![v4934.toNat, 112, 128]
def k0_off771 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4937 : Index := Scalar.indexCast v8
  let c120_2221 : Index := 120#32
  let c128_2222 : Index := 128#32
  ![v4937.toNat, 120, 128]
def k0_off772 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4940 : Index := Scalar.indexCast v8
  let c128_2223 : Index := 128#32
  let c128_2224 : Index := 128#32
  ![v4940.toNat, 128, 128]
def k0_off773 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4943 : Index := Scalar.indexCast v8
  let c136_2225 : Index := 136#32
  let c128_2226 : Index := 128#32
  ![v4943.toNat, 136, 128]
def k0_off774 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4946 : Index := Scalar.indexCast v8
  let c144_2227 : Index := 144#32
  let c128_2228 : Index := 128#32
  ![v4946.toNat, 144, 128]
def k0_off775 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4949 : Index := Scalar.indexCast v8
  let c152_2229 : Index := 152#32
  let c128_2230 : Index := 128#32
  ![v4949.toNat, 152, 128]
def k0_off776 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4952 : Index := Scalar.indexCast v8
  let c160_2231 : Index := 160#32
  let c128_2232 : Index := 128#32
  ![v4952.toNat, 160, 128]
def k0_off777 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4955 : Index := Scalar.indexCast v8
  let c168_2233 : Index := 168#32
  let c128_2234 : Index := 128#32
  ![v4955.toNat, 168, 128]
def k0_off778 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4958 : Index := Scalar.indexCast v8
  let c176_2235 : Index := 176#32
  let c128_2236 : Index := 128#32
  ![v4958.toNat, 176, 128]
def k0_off779 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4961 : Index := Scalar.indexCast v8
  let c184_2237 : Index := 184#32
  let c128_2238 : Index := 128#32
  ![v4961.toNat, 184, 128]
def k0_off780 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4964 : Index := Scalar.indexCast v8
  let c192_2239 : Index := 192#32
  let c128_2240 : Index := 128#32
  ![v4964.toNat, 192, 128]
def k0_off781 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4967 : Index := Scalar.indexCast v8
  let c200_2241 : Index := 200#32
  let c128_2242 : Index := 128#32
  ![v4967.toNat, 200, 128]
def k0_off782 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4970 : Index := Scalar.indexCast v8
  let c208_2243 : Index := 208#32
  let c128_2244 : Index := 128#32
  ![v4970.toNat, 208, 128]
def k0_off783 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4973 : Index := Scalar.indexCast v8
  let c216_2245 : Index := 216#32
  let c128_2246 : Index := 128#32
  ![v4973.toNat, 216, 128]
def k0_off784 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4976 : Index := Scalar.indexCast v8
  let c224_2247 : Index := 224#32
  let c128_2248 : Index := 128#32
  ![v4976.toNat, 224, 128]
def k0_off785 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4979 : Index := Scalar.indexCast v8
  let c232_2249 : Index := 232#32
  let c128_2250 : Index := 128#32
  ![v4979.toNat, 232, 128]
def k0_off786 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4982 : Index := Scalar.indexCast v8
  let c240_2251 : Index := 240#32
  let c128_2252 : Index := 128#32
  ![v4982.toNat, 240, 128]
def k0_off787 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v4985 : Index := Scalar.indexCast v8
  let c248_2253 : Index := 248#32
  let c128_2254 : Index := 128#32
  ![v4985.toNat, 248, 128]
def k0_off788 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5708 : Index := Scalar.indexCast v8
  let c0_2495 : Index := 0#32
  let c0_2496 : Index := 0#32
  let c128_2497 : Index := 128#32
  ![v5708.toNat, 0, 0, 128]
def k0_off789 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5712 : Index := Scalar.indexCast v8
  let c1_2498 : Index := 1#32
  let c0_2499 : Index := 0#32
  let c128_2500 : Index := 128#32
  ![v5712.toNat, 1, 0, 128]
def k0_off790 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5716 : Index := Scalar.indexCast v8
  let c2_2501 : Index := 2#32
  let c0_2502 : Index := 0#32
  let c128_2503 : Index := 128#32
  ![v5716.toNat, 2, 0, 128]
def k0_off791 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5720 : Index := Scalar.indexCast v8
  let c3_2504 : Index := 3#32
  let c0_2505 : Index := 0#32
  let c128_2506 : Index := 128#32
  ![v5720.toNat, 3, 0, 128]
def k0_off792 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5724 : Index := Scalar.indexCast v8
  let c4_2507 : Index := 4#32
  let c0_2508 : Index := 0#32
  let c128_2509 : Index := 128#32
  ![v5724.toNat, 4, 0, 128]
def k0_off793 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5728 : Index := Scalar.indexCast v8
  let c5_2510 : Index := 5#32
  let c0_2511 : Index := 0#32
  let c128_2512 : Index := 128#32
  ![v5728.toNat, 5, 0, 128]
def k0_off794 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5732 : Index := Scalar.indexCast v8
  let c6_2513 : Index := 6#32
  let c0_2514 : Index := 0#32
  let c128_2515 : Index := 128#32
  ![v5732.toNat, 6, 0, 128]
def k0_off795 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5736 : Index := Scalar.indexCast v8
  let c7_2516 : Index := 7#32
  let c0_2517 : Index := 0#32
  let c128_2518 : Index := 128#32
  ![v5736.toNat, 7, 0, 128]
def k0_off796 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5740 : Index := Scalar.indexCast v8
  let c8_2519 : Index := 8#32
  let c0_2520 : Index := 0#32
  let c128_2521 : Index := 128#32
  ![v5740.toNat, 8, 0, 128]
def k0_off797 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5744 : Index := Scalar.indexCast v8
  let c9_2522 : Index := 9#32
  let c0_2523 : Index := 0#32
  let c128_2524 : Index := 128#32
  ![v5744.toNat, 9, 0, 128]
def k0_off798 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5748 : Index := Scalar.indexCast v8
  let c10_2525 : Index := 10#32
  let c0_2526 : Index := 0#32
  let c128_2527 : Index := 128#32
  ![v5748.toNat, 10, 0, 128]
def k0_off799 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5752 : Index := Scalar.indexCast v8
  let c11_2528 : Index := 11#32
  let c0_2529 : Index := 0#32
  let c128_2530 : Index := 128#32
  ![v5752.toNat, 11, 0, 128]
def k0_off800 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5756 : Index := Scalar.indexCast v8
  let c12_2531 : Index := 12#32
  let c0_2532 : Index := 0#32
  let c128_2533 : Index := 128#32
  ![v5756.toNat, 12, 0, 128]
def k0_off801 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5760 : Index := Scalar.indexCast v8
  let c13_2534 : Index := 13#32
  let c0_2535 : Index := 0#32
  let c128_2536 : Index := 128#32
  ![v5760.toNat, 13, 0, 128]
def k0_off802 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5764 : Index := Scalar.indexCast v8
  let c14_2537 : Index := 14#32
  let c0_2538 : Index := 0#32
  let c128_2539 : Index := 128#32
  ![v5764.toNat, 14, 0, 128]
def k0_off803 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5768 : Index := Scalar.indexCast v8
  let c15_2540 : Index := 15#32
  let c0_2541 : Index := 0#32
  let c128_2542 : Index := 128#32
  ![v5768.toNat, 15, 0, 128]
def k0_off804 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5772 : Index := Scalar.indexCast v8
  let c16_2543 : Index := 16#32
  let c0_2544 : Index := 0#32
  let c128_2545 : Index := 128#32
  ![v5772.toNat, 16, 0, 128]
def k0_off805 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5776 : Index := Scalar.indexCast v8
  let c17_2546 : Index := 17#32
  let c0_2547 : Index := 0#32
  let c128_2548 : Index := 128#32
  ![v5776.toNat, 17, 0, 128]
def k0_off806 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5780 : Index := Scalar.indexCast v8
  let c18_2549 : Index := 18#32
  let c0_2550 : Index := 0#32
  let c128_2551 : Index := 128#32
  ![v5780.toNat, 18, 0, 128]
def k0_off807 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5784 : Index := Scalar.indexCast v8
  let c19_2552 : Index := 19#32
  let c0_2553 : Index := 0#32
  let c128_2554 : Index := 128#32
  ![v5784.toNat, 19, 0, 128]
def k0_off808 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5788 : Index := Scalar.indexCast v8
  let c20_2555 : Index := 20#32
  let c0_2556 : Index := 0#32
  let c128_2557 : Index := 128#32
  ![v5788.toNat, 20, 0, 128]
def k0_off809 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5792 : Index := Scalar.indexCast v8
  let c21_2558 : Index := 21#32
  let c0_2559 : Index := 0#32
  let c128_2560 : Index := 128#32
  ![v5792.toNat, 21, 0, 128]
def k0_off810 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5796 : Index := Scalar.indexCast v8
  let c22_2561 : Index := 22#32
  let c0_2562 : Index := 0#32
  let c128_2563 : Index := 128#32
  ![v5796.toNat, 22, 0, 128]
def k0_off811 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5800 : Index := Scalar.indexCast v8
  let c23_2564 : Index := 23#32
  let c0_2565 : Index := 0#32
  let c128_2566 : Index := 128#32
  ![v5800.toNat, 23, 0, 128]
def k0_off812 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5804 : Index := Scalar.indexCast v8
  let c24_2567 : Index := 24#32
  let c0_2568 : Index := 0#32
  let c128_2569 : Index := 128#32
  ![v5804.toNat, 24, 0, 128]
def k0_off813 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5808 : Index := Scalar.indexCast v8
  let c25_2570 : Index := 25#32
  let c0_2571 : Index := 0#32
  let c128_2572 : Index := 128#32
  ![v5808.toNat, 25, 0, 128]
def k0_off814 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5812 : Index := Scalar.indexCast v8
  let c26_2573 : Index := 26#32
  let c0_2574 : Index := 0#32
  let c128_2575 : Index := 128#32
  ![v5812.toNat, 26, 0, 128]
def k0_off815 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5816 : Index := Scalar.indexCast v8
  let c27_2576 : Index := 27#32
  let c0_2577 : Index := 0#32
  let c128_2578 : Index := 128#32
  ![v5816.toNat, 27, 0, 128]
def k0_off816 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5820 : Index := Scalar.indexCast v8
  let c28_2579 : Index := 28#32
  let c0_2580 : Index := 0#32
  let c128_2581 : Index := 128#32
  ![v5820.toNat, 28, 0, 128]
def k0_off817 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5824 : Index := Scalar.indexCast v8
  let c29_2582 : Index := 29#32
  let c0_2583 : Index := 0#32
  let c128_2584 : Index := 128#32
  ![v5824.toNat, 29, 0, 128]
def k0_off818 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5828 : Index := Scalar.indexCast v8
  let c30_2585 : Index := 30#32
  let c0_2586 : Index := 0#32
  let c128_2587 : Index := 128#32
  ![v5828.toNat, 30, 0, 128]
def k0_off819 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v5833 : Index := Scalar.indexCast v8
  let c31_2589 : Index := 31#32
  let c0_2590 : Index := 0#32
  let c128_2591 : Index := 128#32
  ![v5833.toNat, 31, 0, 128]
def k0_cond3 (i : grid0.Coords) : BitVec 1 :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let c2_i32_68 : BitVec 32 := 2#32
  let c0_i32_69 : BitVec 32 := 0#32
  let v96 : BitVec 1 := Scalar.cmpi .eq c2_i32_68 c0_i32_69
  let c1_i32_70 : BitVec 32 := 1#32
  let v97 : BitVec 32 := Scalar.select v96 c1_i32_70 c2_i32_68
  let v98 : BitVec 32 := Scalar.remsi v8 v97
  let c0_i32_72 : BitVec 32 := 0#32
  let v100 : BitVec 1 := Scalar.cmpi .slt v98 c0_i32_72
  let c0_i32_73 : BitVec 32 := 0#32
  let v101 : BitVec 1 := Scalar.cmpi .slt v97 c0_i32_73
  let v102 : BitVec 1 := Scalar.xori v100 v101
  let c0_i32_71 : BitVec 32 := 0#32
  let v99 : BitVec 1 := Scalar.cmpi .ne v98 c0_i32_71
  let v103 : BitVec 1 := Scalar.andi v102 v99
  let v104 : BitVec 32 := Scalar.addi v98 v97
  let v105 : BitVec 32 := Scalar.select v103 v104 v98
  let c0_i32_74 : BitVec 32 := 0#32
  let v106 : BitVec 1 := Scalar.cmpi .eq v105 c0_i32_74
  let v107 : BitVec 32 := Scalar.extui v106
  let c0_i32_75 : BitVec 32 := 0#32
  let v108 : BitVec 1 := Scalar.cmpi .ne v107 c0_i32_75
  v108

def k0_off820 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v589 : Index := Scalar.indexCast v8
  let c0_373 : Index := 0#32
  let c0_374 : Index := 0#32
  ![v589.toNat, 0, 0]
def k0_off821 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v684 : Index := Scalar.indexCast v8
  let c32_413 : Index := 32#32
  let c0_414 : Index := 0#32
  ![v684.toNat, 32, 0]
def k0_off822 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v779 : Index := Scalar.indexCast v8
  let c64_454 : Index := 64#32
  let c0_455 : Index := 0#32
  ![v779.toNat, 64, 0]
def k0_off823 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v874 : Index := Scalar.indexCast v8
  let c96_494 : Index := 96#32
  let c0_495 : Index := 0#32
  ![v874.toNat, 96, 0]
def k0_off824 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v969 : Index := Scalar.indexCast v8
  let c128_535 : Index := 128#32
  let c0_536 : Index := 0#32
  ![v969.toNat, 128, 0]
def k0_off825 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1064 : Index := Scalar.indexCast v8
  let c160_575 : Index := 160#32
  let c0_576 : Index := 0#32
  ![v1064.toNat, 160, 0]
def k0_off826 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1159 : Index := Scalar.indexCast v8
  let c192_616 : Index := 192#32
  let c0_617 : Index := 0#32
  ![v1159.toNat, 192, 0]
def k0_off827 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1254 : Index := Scalar.indexCast v8
  let c224_656 : Index := 224#32
  let c0_657 : Index := 0#32
  ![v1254.toNat, 224, 0]
def k0_off828 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1258 : Index := Scalar.indexCast v8
  let c0_658 : Index := 0#32
  let c0_659 : Index := 0#32
  ![v1258.toNat, 0, 0]
def k0_off829 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1261 : Index := Scalar.indexCast v8
  let c8 : Index := 8#32
  let c0_660 : Index := 0#32
  ![v1261.toNat, 8, 0]
def k0_off830 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1264 : Index := Scalar.indexCast v8
  let c16 : Index := 16#32
  let c0_661 : Index := 0#32
  ![v1264.toNat, 16, 0]
def k0_off831 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1267 : Index := Scalar.indexCast v8
  let c24 : Index := 24#32
  let c0_662 : Index := 0#32
  ![v1267.toNat, 24, 0]
def k0_off832 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1270 : Index := Scalar.indexCast v8
  let c32_663 : Index := 32#32
  let c0_664 : Index := 0#32
  ![v1270.toNat, 32, 0]
def k0_off833 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1273 : Index := Scalar.indexCast v8
  let c40 : Index := 40#32
  let c0_665 : Index := 0#32
  ![v1273.toNat, 40, 0]
def k0_off834 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1276 : Index := Scalar.indexCast v8
  let c48 : Index := 48#32
  let c0_666 : Index := 0#32
  ![v1276.toNat, 48, 0]
def k0_off835 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1279 : Index := Scalar.indexCast v8
  let c56 : Index := 56#32
  let c0_667 : Index := 0#32
  ![v1279.toNat, 56, 0]
def k0_off836 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1282 : Index := Scalar.indexCast v8
  let c64_668 : Index := 64#32
  let c0_669 : Index := 0#32
  ![v1282.toNat, 64, 0]
def k0_off837 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1285 : Index := Scalar.indexCast v8
  let c72 : Index := 72#32
  let c0_670 : Index := 0#32
  ![v1285.toNat, 72, 0]
def k0_off838 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1288 : Index := Scalar.indexCast v8
  let c80 : Index := 80#32
  let c0_671 : Index := 0#32
  ![v1288.toNat, 80, 0]
def k0_off839 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1291 : Index := Scalar.indexCast v8
  let c88 : Index := 88#32
  let c0_672 : Index := 0#32
  ![v1291.toNat, 88, 0]
def k0_off840 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1294 : Index := Scalar.indexCast v8
  let c96_673 : Index := 96#32
  let c0_674 : Index := 0#32
  ![v1294.toNat, 96, 0]
def k0_off841 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1297 : Index := Scalar.indexCast v8
  let c104 : Index := 104#32
  let c0_675 : Index := 0#32
  ![v1297.toNat, 104, 0]
def k0_off842 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1300 : Index := Scalar.indexCast v8
  let c112 : Index := 112#32
  let c0_676 : Index := 0#32
  ![v1300.toNat, 112, 0]
def k0_off843 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1303 : Index := Scalar.indexCast v8
  let c120 : Index := 120#32
  let c0_677 : Index := 0#32
  ![v1303.toNat, 120, 0]
def k0_off844 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1306 : Index := Scalar.indexCast v8
  let c128_678 : Index := 128#32
  let c0_679 : Index := 0#32
  ![v1306.toNat, 128, 0]
def k0_off845 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1309 : Index := Scalar.indexCast v8
  let c136 : Index := 136#32
  let c0_680 : Index := 0#32
  ![v1309.toNat, 136, 0]
def k0_off846 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1312 : Index := Scalar.indexCast v8
  let c144 : Index := 144#32
  let c0_681 : Index := 0#32
  ![v1312.toNat, 144, 0]
def k0_off847 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1315 : Index := Scalar.indexCast v8
  let c152 : Index := 152#32
  let c0_682 : Index := 0#32
  ![v1315.toNat, 152, 0]
def k0_off848 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1318 : Index := Scalar.indexCast v8
  let c160_683 : Index := 160#32
  let c0_684 : Index := 0#32
  ![v1318.toNat, 160, 0]
def k0_off849 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1321 : Index := Scalar.indexCast v8
  let c168 : Index := 168#32
  let c0_685 : Index := 0#32
  ![v1321.toNat, 168, 0]
def k0_off850 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1324 : Index := Scalar.indexCast v8
  let c176 : Index := 176#32
  let c0_686 : Index := 0#32
  ![v1324.toNat, 176, 0]
def k0_off851 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1327 : Index := Scalar.indexCast v8
  let c184 : Index := 184#32
  let c0_687 : Index := 0#32
  ![v1327.toNat, 184, 0]
def k0_off852 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1330 : Index := Scalar.indexCast v8
  let c192_688 : Index := 192#32
  let c0_689 : Index := 0#32
  ![v1330.toNat, 192, 0]
def k0_off853 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1333 : Index := Scalar.indexCast v8
  let c200 : Index := 200#32
  let c0_690 : Index := 0#32
  ![v1333.toNat, 200, 0]
def k0_off854 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1336 : Index := Scalar.indexCast v8
  let c208 : Index := 208#32
  let c0_691 : Index := 0#32
  ![v1336.toNat, 208, 0]
def k0_off855 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1339 : Index := Scalar.indexCast v8
  let c216 : Index := 216#32
  let c0_692 : Index := 0#32
  ![v1339.toNat, 216, 0]
def k0_off856 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1342 : Index := Scalar.indexCast v8
  let c224_693 : Index := 224#32
  let c0_694 : Index := 0#32
  ![v1342.toNat, 224, 0]
def k0_off857 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1345 : Index := Scalar.indexCast v8
  let c232 : Index := 232#32
  let c0_695 : Index := 0#32
  ![v1345.toNat, 232, 0]
def k0_off858 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1348 : Index := Scalar.indexCast v8
  let c240 : Index := 240#32
  let c0_696 : Index := 0#32
  ![v1348.toNat, 240, 0]
def k0_off859 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v1351 : Index := Scalar.indexCast v8
  let c248 : Index := 248#32
  let c0_697 : Index := 0#32
  ![v1351.toNat, 248, 0]
def k0_off860 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2074 : Index := Scalar.indexCast v8
  let c0_933 : Index := 0#32
  let c0_934 : Index := 0#32
  let c0_935 : Index := 0#32
  ![v2074.toNat, 0, 0, 0]
def k0_off861 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2078 : Index := Scalar.indexCast v8
  let c1_936 : Index := 1#32
  let c0_937 : Index := 0#32
  let c0_938 : Index := 0#32
  ![v2078.toNat, 1, 0, 0]
def k0_off862 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2082 : Index := Scalar.indexCast v8
  let c2_939 : Index := 2#32
  let c0_940 : Index := 0#32
  let c0_941 : Index := 0#32
  ![v2082.toNat, 2, 0, 0]
def k0_off863 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2086 : Index := Scalar.indexCast v8
  let c3_942 : Index := 3#32
  let c0_943 : Index := 0#32
  let c0_944 : Index := 0#32
  ![v2086.toNat, 3, 0, 0]
def k0_off864 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2090 : Index := Scalar.indexCast v8
  let c4_945 : Index := 4#32
  let c0_946 : Index := 0#32
  let c0_947 : Index := 0#32
  ![v2090.toNat, 4, 0, 0]
def k0_off865 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2094 : Index := Scalar.indexCast v8
  let c5_948 : Index := 5#32
  let c0_949 : Index := 0#32
  let c0_950 : Index := 0#32
  ![v2094.toNat, 5, 0, 0]
def k0_off866 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2098 : Index := Scalar.indexCast v8
  let c6_951 : Index := 6#32
  let c0_952 : Index := 0#32
  let c0_953 : Index := 0#32
  ![v2098.toNat, 6, 0, 0]
def k0_off867 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2102 : Index := Scalar.indexCast v8
  let c7_954 : Index := 7#32
  let c0_955 : Index := 0#32
  let c0_956 : Index := 0#32
  ![v2102.toNat, 7, 0, 0]
def k0_off868 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2106 : Index := Scalar.indexCast v8
  let c8_957 : Index := 8#32
  let c0_958 : Index := 0#32
  let c0_959 : Index := 0#32
  ![v2106.toNat, 8, 0, 0]
def k0_off869 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2110 : Index := Scalar.indexCast v8
  let c9 : Index := 9#32
  let c0_960 : Index := 0#32
  let c0_961 : Index := 0#32
  ![v2110.toNat, 9, 0, 0]
def k0_off870 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2114 : Index := Scalar.indexCast v8
  let c10 : Index := 10#32
  let c0_962 : Index := 0#32
  let c0_963 : Index := 0#32
  ![v2114.toNat, 10, 0, 0]
def k0_off871 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2118 : Index := Scalar.indexCast v8
  let c11 : Index := 11#32
  let c0_964 : Index := 0#32
  let c0_965 : Index := 0#32
  ![v2118.toNat, 11, 0, 0]
def k0_off872 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2122 : Index := Scalar.indexCast v8
  let c12 : Index := 12#32
  let c0_966 : Index := 0#32
  let c0_967 : Index := 0#32
  ![v2122.toNat, 12, 0, 0]
def k0_off873 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2126 : Index := Scalar.indexCast v8
  let c13 : Index := 13#32
  let c0_968 : Index := 0#32
  let c0_969 : Index := 0#32
  ![v2126.toNat, 13, 0, 0]
def k0_off874 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2130 : Index := Scalar.indexCast v8
  let c14 : Index := 14#32
  let c0_970 : Index := 0#32
  let c0_971 : Index := 0#32
  ![v2130.toNat, 14, 0, 0]
def k0_off875 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2134 : Index := Scalar.indexCast v8
  let c15 : Index := 15#32
  let c0_972 : Index := 0#32
  let c0_973 : Index := 0#32
  ![v2134.toNat, 15, 0, 0]
def k0_off876 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2138 : Index := Scalar.indexCast v8
  let c16_974 : Index := 16#32
  let c0_975 : Index := 0#32
  let c0_976 : Index := 0#32
  ![v2138.toNat, 16, 0, 0]
def k0_off877 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2142 : Index := Scalar.indexCast v8
  let c17 : Index := 17#32
  let c0_977 : Index := 0#32
  let c0_978 : Index := 0#32
  ![v2142.toNat, 17, 0, 0]
def k0_off878 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2146 : Index := Scalar.indexCast v8
  let c18 : Index := 18#32
  let c0_979 : Index := 0#32
  let c0_980 : Index := 0#32
  ![v2146.toNat, 18, 0, 0]
def k0_off879 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2150 : Index := Scalar.indexCast v8
  let c19 : Index := 19#32
  let c0_981 : Index := 0#32
  let c0_982 : Index := 0#32
  ![v2150.toNat, 19, 0, 0]
def k0_off880 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2154 : Index := Scalar.indexCast v8
  let c20 : Index := 20#32
  let c0_983 : Index := 0#32
  let c0_984 : Index := 0#32
  ![v2154.toNat, 20, 0, 0]
def k0_off881 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2158 : Index := Scalar.indexCast v8
  let c21 : Index := 21#32
  let c0_985 : Index := 0#32
  let c0_986 : Index := 0#32
  ![v2158.toNat, 21, 0, 0]
def k0_off882 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2162 : Index := Scalar.indexCast v8
  let c22 : Index := 22#32
  let c0_987 : Index := 0#32
  let c0_988 : Index := 0#32
  ![v2162.toNat, 22, 0, 0]
def k0_off883 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2166 : Index := Scalar.indexCast v8
  let c23 : Index := 23#32
  let c0_989 : Index := 0#32
  let c0_990 : Index := 0#32
  ![v2166.toNat, 23, 0, 0]
def k0_off884 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2170 : Index := Scalar.indexCast v8
  let c24_991 : Index := 24#32
  let c0_992 : Index := 0#32
  let c0_993 : Index := 0#32
  ![v2170.toNat, 24, 0, 0]
def k0_off885 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2174 : Index := Scalar.indexCast v8
  let c25 : Index := 25#32
  let c0_994 : Index := 0#32
  let c0_995 : Index := 0#32
  ![v2174.toNat, 25, 0, 0]
def k0_off886 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2178 : Index := Scalar.indexCast v8
  let c26 : Index := 26#32
  let c0_996 : Index := 0#32
  let c0_997 : Index := 0#32
  ![v2178.toNat, 26, 0, 0]
def k0_off887 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2182 : Index := Scalar.indexCast v8
  let c27 : Index := 27#32
  let c0_998 : Index := 0#32
  let c0_999 : Index := 0#32
  ![v2182.toNat, 27, 0, 0]
def k0_off888 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2186 : Index := Scalar.indexCast v8
  let c28 : Index := 28#32
  let c0_1000 : Index := 0#32
  let c0_1001 : Index := 0#32
  ![v2186.toNat, 28, 0, 0]
def k0_off889 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2190 : Index := Scalar.indexCast v8
  let c29 : Index := 29#32
  let c0_1002 : Index := 0#32
  let c0_1003 : Index := 0#32
  ![v2190.toNat, 29, 0, 0]
def k0_off890 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2194 : Index := Scalar.indexCast v8
  let c30 : Index := 30#32
  let c0_1004 : Index := 0#32
  let c0_1005 : Index := 0#32
  ![v2194.toNat, 30, 0, 0]
def k0_off891 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2199 : Index := Scalar.indexCast v8
  let c31 : Index := 31#32
  let c0_1007 : Index := 0#32
  let c0_1008 : Index := 0#32
  ![v2199.toNat, 31, 0, 0]
def k0_off892 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2203 : Index := Scalar.indexCast v8
  let c0_1009 : Index := 0#32
  let c128_1010 : Index := 128#32
  ![v2203.toNat, 0, 128]
def k0_off893 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2206 : Index := Scalar.indexCast v8
  let c8_1011 : Index := 8#32
  let c128_1012 : Index := 128#32
  ![v2206.toNat, 8, 128]
def k0_off894 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2209 : Index := Scalar.indexCast v8
  let c16_1013 : Index := 16#32
  let c128_1014 : Index := 128#32
  ![v2209.toNat, 16, 128]
def k0_off895 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2212 : Index := Scalar.indexCast v8
  let c24_1015 : Index := 24#32
  let c128_1016 : Index := 128#32
  ![v2212.toNat, 24, 128]
def k0_off896 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2215 : Index := Scalar.indexCast v8
  let c32_1017 : Index := 32#32
  let c128_1018 : Index := 128#32
  ![v2215.toNat, 32, 128]
def k0_off897 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2218 : Index := Scalar.indexCast v8
  let c40_1019 : Index := 40#32
  let c128_1020 : Index := 128#32
  ![v2218.toNat, 40, 128]
def k0_off898 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2221 : Index := Scalar.indexCast v8
  let c48_1021 : Index := 48#32
  let c128_1022 : Index := 128#32
  ![v2221.toNat, 48, 128]
def k0_off899 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2224 : Index := Scalar.indexCast v8
  let c56_1023 : Index := 56#32
  let c128_1024 : Index := 128#32
  ![v2224.toNat, 56, 128]
def k0_off900 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2227 : Index := Scalar.indexCast v8
  let c64_1025 : Index := 64#32
  let c128_1026 : Index := 128#32
  ![v2227.toNat, 64, 128]
def k0_off901 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2230 : Index := Scalar.indexCast v8
  let c72_1027 : Index := 72#32
  let c128_1028 : Index := 128#32
  ![v2230.toNat, 72, 128]
def k0_off902 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2233 : Index := Scalar.indexCast v8
  let c80_1029 : Index := 80#32
  let c128_1030 : Index := 128#32
  ![v2233.toNat, 80, 128]
def k0_off903 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2236 : Index := Scalar.indexCast v8
  let c88_1031 : Index := 88#32
  let c128_1032 : Index := 128#32
  ![v2236.toNat, 88, 128]
def k0_off904 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2239 : Index := Scalar.indexCast v8
  let c96_1033 : Index := 96#32
  let c128_1034 : Index := 128#32
  ![v2239.toNat, 96, 128]
def k0_off905 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2242 : Index := Scalar.indexCast v8
  let c104_1035 : Index := 104#32
  let c128_1036 : Index := 128#32
  ![v2242.toNat, 104, 128]
def k0_off906 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2245 : Index := Scalar.indexCast v8
  let c112_1037 : Index := 112#32
  let c128_1038 : Index := 128#32
  ![v2245.toNat, 112, 128]
def k0_off907 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2248 : Index := Scalar.indexCast v8
  let c120_1039 : Index := 120#32
  let c128_1040 : Index := 128#32
  ![v2248.toNat, 120, 128]
def k0_off908 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2251 : Index := Scalar.indexCast v8
  let c128_1041 : Index := 128#32
  let c128_1042 : Index := 128#32
  ![v2251.toNat, 128, 128]
def k0_off909 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2254 : Index := Scalar.indexCast v8
  let c136_1043 : Index := 136#32
  let c128_1044 : Index := 128#32
  ![v2254.toNat, 136, 128]
def k0_off910 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2257 : Index := Scalar.indexCast v8
  let c144_1045 : Index := 144#32
  let c128_1046 : Index := 128#32
  ![v2257.toNat, 144, 128]
def k0_off911 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2260 : Index := Scalar.indexCast v8
  let c152_1047 : Index := 152#32
  let c128_1048 : Index := 128#32
  ![v2260.toNat, 152, 128]
def k0_off912 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2263 : Index := Scalar.indexCast v8
  let c160_1049 : Index := 160#32
  let c128_1050 : Index := 128#32
  ![v2263.toNat, 160, 128]
def k0_off913 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2266 : Index := Scalar.indexCast v8
  let c168_1051 : Index := 168#32
  let c128_1052 : Index := 128#32
  ![v2266.toNat, 168, 128]
def k0_off914 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2269 : Index := Scalar.indexCast v8
  let c176_1053 : Index := 176#32
  let c128_1054 : Index := 128#32
  ![v2269.toNat, 176, 128]
def k0_off915 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2272 : Index := Scalar.indexCast v8
  let c184_1055 : Index := 184#32
  let c128_1056 : Index := 128#32
  ![v2272.toNat, 184, 128]
def k0_off916 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2275 : Index := Scalar.indexCast v8
  let c192_1057 : Index := 192#32
  let c128_1058 : Index := 128#32
  ![v2275.toNat, 192, 128]
def k0_off917 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2278 : Index := Scalar.indexCast v8
  let c200_1059 : Index := 200#32
  let c128_1060 : Index := 128#32
  ![v2278.toNat, 200, 128]
def k0_off918 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2281 : Index := Scalar.indexCast v8
  let c208_1061 : Index := 208#32
  let c128_1062 : Index := 128#32
  ![v2281.toNat, 208, 128]
def k0_off919 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2284 : Index := Scalar.indexCast v8
  let c216_1063 : Index := 216#32
  let c128_1064 : Index := 128#32
  ![v2284.toNat, 216, 128]
def k0_off920 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2287 : Index := Scalar.indexCast v8
  let c224_1065 : Index := 224#32
  let c128_1066 : Index := 128#32
  ![v2287.toNat, 224, 128]
def k0_off921 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2290 : Index := Scalar.indexCast v8
  let c232_1067 : Index := 232#32
  let c128_1068 : Index := 128#32
  ![v2290.toNat, 232, 128]
def k0_off922 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2293 : Index := Scalar.indexCast v8
  let c240_1069 : Index := 240#32
  let c128_1070 : Index := 128#32
  ![v2293.toNat, 240, 128]
def k0_off923 (i : grid0.Coords) : Fin 3 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v2296 : Index := Scalar.indexCast v8
  let c248_1071 : Index := 248#32
  let c128_1072 : Index := 128#32
  ![v2296.toNat, 248, 128]
def k0_off924 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3019 : Index := Scalar.indexCast v8
  let c0_1313 : Index := 0#32
  let c0_1314 : Index := 0#32
  let c128_1315 : Index := 128#32
  ![v3019.toNat, 0, 0, 128]
def k0_off925 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3023 : Index := Scalar.indexCast v8
  let c1_1316 : Index := 1#32
  let c0_1317 : Index := 0#32
  let c128_1318 : Index := 128#32
  ![v3023.toNat, 1, 0, 128]
def k0_off926 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3027 : Index := Scalar.indexCast v8
  let c2_1319 : Index := 2#32
  let c0_1320 : Index := 0#32
  let c128_1321 : Index := 128#32
  ![v3027.toNat, 2, 0, 128]
def k0_off927 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3031 : Index := Scalar.indexCast v8
  let c3_1322 : Index := 3#32
  let c0_1323 : Index := 0#32
  let c128_1324 : Index := 128#32
  ![v3031.toNat, 3, 0, 128]
def k0_off928 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3035 : Index := Scalar.indexCast v8
  let c4_1325 : Index := 4#32
  let c0_1326 : Index := 0#32
  let c128_1327 : Index := 128#32
  ![v3035.toNat, 4, 0, 128]
def k0_off929 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3039 : Index := Scalar.indexCast v8
  let c5_1328 : Index := 5#32
  let c0_1329 : Index := 0#32
  let c128_1330 : Index := 128#32
  ![v3039.toNat, 5, 0, 128]
def k0_off930 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3043 : Index := Scalar.indexCast v8
  let c6_1331 : Index := 6#32
  let c0_1332 : Index := 0#32
  let c128_1333 : Index := 128#32
  ![v3043.toNat, 6, 0, 128]
def k0_off931 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3047 : Index := Scalar.indexCast v8
  let c7_1334 : Index := 7#32
  let c0_1335 : Index := 0#32
  let c128_1336 : Index := 128#32
  ![v3047.toNat, 7, 0, 128]
def k0_off932 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3051 : Index := Scalar.indexCast v8
  let c8_1337 : Index := 8#32
  let c0_1338 : Index := 0#32
  let c128_1339 : Index := 128#32
  ![v3051.toNat, 8, 0, 128]
def k0_off933 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3055 : Index := Scalar.indexCast v8
  let c9_1340 : Index := 9#32
  let c0_1341 : Index := 0#32
  let c128_1342 : Index := 128#32
  ![v3055.toNat, 9, 0, 128]
def k0_off934 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3059 : Index := Scalar.indexCast v8
  let c10_1343 : Index := 10#32
  let c0_1344 : Index := 0#32
  let c128_1345 : Index := 128#32
  ![v3059.toNat, 10, 0, 128]
def k0_off935 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3063 : Index := Scalar.indexCast v8
  let c11_1346 : Index := 11#32
  let c0_1347 : Index := 0#32
  let c128_1348 : Index := 128#32
  ![v3063.toNat, 11, 0, 128]
def k0_off936 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3067 : Index := Scalar.indexCast v8
  let c12_1349 : Index := 12#32
  let c0_1350 : Index := 0#32
  let c128_1351 : Index := 128#32
  ![v3067.toNat, 12, 0, 128]
def k0_off937 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3071 : Index := Scalar.indexCast v8
  let c13_1352 : Index := 13#32
  let c0_1353 : Index := 0#32
  let c128_1354 : Index := 128#32
  ![v3071.toNat, 13, 0, 128]
def k0_off938 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3075 : Index := Scalar.indexCast v8
  let c14_1355 : Index := 14#32
  let c0_1356 : Index := 0#32
  let c128_1357 : Index := 128#32
  ![v3075.toNat, 14, 0, 128]
def k0_off939 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3079 : Index := Scalar.indexCast v8
  let c15_1358 : Index := 15#32
  let c0_1359 : Index := 0#32
  let c128_1360 : Index := 128#32
  ![v3079.toNat, 15, 0, 128]
def k0_off940 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3083 : Index := Scalar.indexCast v8
  let c16_1361 : Index := 16#32
  let c0_1362 : Index := 0#32
  let c128_1363 : Index := 128#32
  ![v3083.toNat, 16, 0, 128]
def k0_off941 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3087 : Index := Scalar.indexCast v8
  let c17_1364 : Index := 17#32
  let c0_1365 : Index := 0#32
  let c128_1366 : Index := 128#32
  ![v3087.toNat, 17, 0, 128]
def k0_off942 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3091 : Index := Scalar.indexCast v8
  let c18_1367 : Index := 18#32
  let c0_1368 : Index := 0#32
  let c128_1369 : Index := 128#32
  ![v3091.toNat, 18, 0, 128]
def k0_off943 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3095 : Index := Scalar.indexCast v8
  let c19_1370 : Index := 19#32
  let c0_1371 : Index := 0#32
  let c128_1372 : Index := 128#32
  ![v3095.toNat, 19, 0, 128]
def k0_off944 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3099 : Index := Scalar.indexCast v8
  let c20_1373 : Index := 20#32
  let c0_1374 : Index := 0#32
  let c128_1375 : Index := 128#32
  ![v3099.toNat, 20, 0, 128]
def k0_off945 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3103 : Index := Scalar.indexCast v8
  let c21_1376 : Index := 21#32
  let c0_1377 : Index := 0#32
  let c128_1378 : Index := 128#32
  ![v3103.toNat, 21, 0, 128]
def k0_off946 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3107 : Index := Scalar.indexCast v8
  let c22_1379 : Index := 22#32
  let c0_1380 : Index := 0#32
  let c128_1381 : Index := 128#32
  ![v3107.toNat, 22, 0, 128]
def k0_off947 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3111 : Index := Scalar.indexCast v8
  let c23_1382 : Index := 23#32
  let c0_1383 : Index := 0#32
  let c128_1384 : Index := 128#32
  ![v3111.toNat, 23, 0, 128]
def k0_off948 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3115 : Index := Scalar.indexCast v8
  let c24_1385 : Index := 24#32
  let c0_1386 : Index := 0#32
  let c128_1387 : Index := 128#32
  ![v3115.toNat, 24, 0, 128]
def k0_off949 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3119 : Index := Scalar.indexCast v8
  let c25_1388 : Index := 25#32
  let c0_1389 : Index := 0#32
  let c128_1390 : Index := 128#32
  ![v3119.toNat, 25, 0, 128]
def k0_off950 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3123 : Index := Scalar.indexCast v8
  let c26_1391 : Index := 26#32
  let c0_1392 : Index := 0#32
  let c128_1393 : Index := 128#32
  ![v3123.toNat, 26, 0, 128]
def k0_off951 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3127 : Index := Scalar.indexCast v8
  let c27_1394 : Index := 27#32
  let c0_1395 : Index := 0#32
  let c128_1396 : Index := 128#32
  ![v3127.toNat, 27, 0, 128]
def k0_off952 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3131 : Index := Scalar.indexCast v8
  let c28_1397 : Index := 28#32
  let c0_1398 : Index := 0#32
  let c128_1399 : Index := 128#32
  ![v3131.toNat, 28, 0, 128]
def k0_off953 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3135 : Index := Scalar.indexCast v8
  let c29_1400 : Index := 29#32
  let c0_1401 : Index := 0#32
  let c128_1402 : Index := 128#32
  ![v3135.toNat, 29, 0, 128]
def k0_off954 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3139 : Index := Scalar.indexCast v8
  let c30_1403 : Index := 30#32
  let c0_1404 : Index := 0#32
  let c128_1405 : Index := 128#32
  ![v3139.toNat, 30, 0, 128]
def k0_off955 (i : grid0.Coords) : Fin 4 → Nat :=
  let arg1 : BitVec 32 := BitVec.ofNat 32 (i 1).val
  let c1_i32 : BitVec 32 := 1#32
  let v0 : BitVec 32 := Scalar.addi arg1 c1_i32
  let c1_i32_4 : BitVec 32 := 1#32
  let v8 : BitVec 32 := Scalar.subi v0 c1_i32_4
  let v3144 : Index := Scalar.indexCast v8
  let c31_1407 : Index := 31#32
  let c0_1408 : Index := 0#32
  let c128_1409 : Index := 128#32
  ![v3144.toNat, 31, 0, 128]
@[reducible] def k0_t3_loop (i : grid0.Coords) : Scf.Loop 32 :=
  let c0_i32_86 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let c4_i32_84 : BitVec 32 := 4#32
  let v128 : BitVec 32 := Scalar.muli v127 c4_i32_84
  let v129 : BitVec 32 := Scalar.subi v128 c0_i32_86
  let c1_i32_87 : BitVec 32 := 1#32
  let v131 : BitVec 32 := Scalar.divsi v129 c1_i32_87
  let v132 : BitVec 32 := Scalar.muli v131 c1_i32_87
  let v133 : BitVec 32 := Scalar.addi c0_i32_86 v132
  let c1_i32_88 : BitVec 32 := 1#32
  ⟨c0_i32_86, v133, c1_i32_88⟩
def k0_off956 (i : grid0.Coords) (k0_t3 : Fin (k0_t3_loop i).trips) : Fin 3 → Nat :=
  let c0_i32_86 : BitVec 32 := 0#32
  let c1_i32_88 : BitVec 32 := 1#32
  let arg21 : BitVec 32 := Scf.iv c0_i32_86 c1_i32_88 k0_t3
  let v475 : Index := Scalar.indexCast arg21
  let c0_337 : Index := 0#32
  let c0_338 : Index := 0#32
  ![v475.toNat, 0, 0]
@[reducible] def k0_t4_loop (i : grid0.Coords) : Scf.Loop 32 :=
  let c0_i32_86 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let c4_i32_84 : BitVec 32 := 4#32
  let v128 : BitVec 32 := Scalar.muli v127 c4_i32_84
  let v129 : BitVec 32 := Scalar.subi v128 c0_i32_86
  let c1_i32_87 : BitVec 32 := 1#32
  let v131 : BitVec 32 := Scalar.divsi v129 c1_i32_87
  let v132 : BitVec 32 := Scalar.muli v131 c1_i32_87
  let v133 : BitVec 32 := Scalar.addi c0_i32_86 v132
  let v130 : BitVec 32 := Scalar.addi c0_i32_86 v129
  let c1_i32_89 : BitVec 32 := 1#32
  ⟨v133, v130, c1_i32_89⟩
def k0_off957 (i : grid0.Coords) (k0_t4 : Fin (k0_t4_loop i).trips) : Fin 3 → Nat :=
  let c0_i32_86 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let c4_i32_84 : BitVec 32 := 4#32
  let v128 : BitVec 32 := Scalar.muli v127 c4_i32_84
  let v129 : BitVec 32 := Scalar.subi v128 c0_i32_86
  let c1_i32_87 : BitVec 32 := 1#32
  let v131 : BitVec 32 := Scalar.divsi v129 c1_i32_87
  let v132 : BitVec 32 := Scalar.muli v131 c1_i32_87
  let v133 : BitVec 32 := Scalar.addi c0_i32_86 v132
  let c1_i32_89 : BitVec 32 := 1#32
  let arg21 : BitVec 32 := Scf.iv v133 c1_i32_89 k0_t4
  let v475 : Index := Scalar.indexCast arg21
  let c0_337 : Index := 0#32
  let c0_338 : Index := 0#32
  ![v475.toNat, 0, 0]
@[reducible] def k0_t5_loop (i : grid0.Coords) : Scf.Loop 32 :=
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let c4_i32_90 : BitVec 32 := 4#32
  let v134 : BitVec 32 := Scalar.muli v127 c4_i32_90
  let v135 : BitVec 32 := Scalar.subi v134 v0
  let c1_i32_92 : BitVec 32 := 1#32
  let v137 : BitVec 32 := Scalar.divsi v135 c1_i32_92
  let v138 : BitVec 32 := Scalar.muli v137 c1_i32_92
  let v139 : BitVec 32 := Scalar.addi v0 v138
  let c1_i32_93 : BitVec 32 := 1#32
  ⟨v0, v139, c1_i32_93⟩
def k0_off958 (i : grid0.Coords) (k0_t5 : Fin (k0_t5_loop i).trips) : Fin 4 → Nat :=
  let arg1 : BitVec 32 := BitVec.ofNat 32 (i 1).val
  let c1_i32 : BitVec 32 := 1#32
  let v0 : BitVec 32 := Scalar.addi arg1 c1_i32
  let c1_i32_93 : BitVec 32 := 1#32
  let arg21 : BitVec 32 := Scf.iv v0 c1_i32_93 k0_t5
  let v473 : Index := Scalar.indexCast arg21
  let c0_336 : Index := 0#32
  let c0_337 : Index := 0#32
  let c0_338 : Index := 0#32
  ![v473.toNat, 0, 0, 0]
@[reducible] def k0_t6_loop (i : grid0.Coords) : Scf.Loop 32 :=
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let c4_i32_90 : BitVec 32 := 4#32
  let v134 : BitVec 32 := Scalar.muli v127 c4_i32_90
  let v135 : BitVec 32 := Scalar.subi v134 v0
  let c1_i32_92 : BitVec 32 := 1#32
  let v137 : BitVec 32 := Scalar.divsi v135 c1_i32_92
  let v138 : BitVec 32 := Scalar.muli v137 c1_i32_92
  let v139 : BitVec 32 := Scalar.addi v0 v138
  let v136 : BitVec 32 := Scalar.addi v0 v135
  let c1_i32_94 : BitVec 32 := 1#32
  ⟨v139, v136, c1_i32_94⟩
def k0_off959 (i : grid0.Coords) (k0_t6 : Fin (k0_t6_loop i).trips) : Fin 4 → Nat :=
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let c4_i32_90 : BitVec 32 := 4#32
  let v134 : BitVec 32 := Scalar.muli v127 c4_i32_90
  let v135 : BitVec 32 := Scalar.subi v134 v0
  let c1_i32_92 : BitVec 32 := 1#32
  let v137 : BitVec 32 := Scalar.divsi v135 c1_i32_92
  let v138 : BitVec 32 := Scalar.muli v137 c1_i32_92
  let v139 : BitVec 32 := Scalar.addi v0 v138
  let c1_i32_94 : BitVec 32 := 1#32
  let arg21 : BitVec 32 := Scf.iv v139 c1_i32_94 k0_t6
  let v473 : Index := Scalar.indexCast arg21
  let c0_336 : Index := 0#32
  let c0_337 : Index := 0#32
  let c0_338 : Index := 0#32
  ![v473.toNat, 0, 0, 0]
@[reducible] def k0_t7_loop (i : grid0.Coords) : Scf.Loop 32 :=
  let c0_i32_98 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let v145 : BitVec 32 := Scalar.subi v127 c0_i32_98
  let c1_i32_99 : BitVec 32 := 1#32
  let v147 : BitVec 32 := Scalar.divsi v145 c1_i32_99
  let v148 : BitVec 32 := Scalar.muli v147 c1_i32_99
  let v149 : BitVec 32 := Scalar.addi c0_i32_98 v148
  let c1_i32_100 : BitVec 32 := 1#32
  ⟨c0_i32_98, v149, c1_i32_100⟩
def k0_off960 (i : grid0.Coords) (k0_t7 : Fin (k0_t7_loop i).trips) (c0_i32_336 : BitVec 32) : Fin 3 → Nat :=
  let c4_i32_335 : BitVec 32 := 4#32
  let c0_i32_98 : BitVec 32 := 0#32
  let c1_i32_100 : BitVec 32 := 1#32
  let arg21 : BitVec 32 := Scf.iv c0_i32_98 c1_i32_100 k0_t7
  let v472 : BitVec 32 := Scalar.muli c4_i32_335 arg21
  let v473 : BitVec 32 := Scalar.addi v472 c0_i32_336
  let v474 : Index := Scalar.indexCast v473
  let c0_337 : Index := 0#32
  let c0_338 : Index := 0#32
  ![v474.toNat, 0, 0]
def k0_off961 (i : grid0.Coords) (k0_t7 : Fin (k0_t7_loop i).trips) (c0_i32_336 : BitVec 32) : Fin 4 → Nat :=
  let c4_i32_335 : BitVec 32 := 4#32
  let c0_i32_98 : BitVec 32 := 0#32
  let c1_i32_100 : BitVec 32 := 1#32
  let arg21 : BitVec 32 := Scf.iv c0_i32_98 c1_i32_100 k0_t7
  let v472 : BitVec 32 := Scalar.muli c4_i32_335 arg21
  let v473 : BitVec 32 := Scalar.addi v472 c0_i32_336
  let v477 : Index := Scalar.indexCast v473
  let c31 : Index := 31#32
  let c0_339 : Index := 0#32
  let c0_340 : Index := 0#32
  ![v477.toNat, 31, 0, 0]
@[reducible] def k0_t8_loop (i : grid0.Coords) : Scf.Loop 32 :=
  let c0_i32_98 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let v145 : BitVec 32 := Scalar.subi v127 c0_i32_98
  let c1_i32_99 : BitVec 32 := 1#32
  let v147 : BitVec 32 := Scalar.divsi v145 c1_i32_99
  let v148 : BitVec 32 := Scalar.muli v147 c1_i32_99
  let v149 : BitVec 32 := Scalar.addi c0_i32_98 v148
  let v146 : BitVec 32 := Scalar.addi c0_i32_98 v145
  let c1_i32_101 : BitVec 32 := 1#32
  ⟨v149, v146, c1_i32_101⟩
def k0_off962 (i : grid0.Coords) (k0_t8 : Fin (k0_t8_loop i).trips) (c0_i32_336 : BitVec 32) : Fin 3 → Nat :=
  let c4_i32_335 : BitVec 32 := 4#32
  let c0_i32_98 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let v145 : BitVec 32 := Scalar.subi v127 c0_i32_98
  let c1_i32_99 : BitVec 32 := 1#32
  let v147 : BitVec 32 := Scalar.divsi v145 c1_i32_99
  let v148 : BitVec 32 := Scalar.muli v147 c1_i32_99
  let v149 : BitVec 32 := Scalar.addi c0_i32_98 v148
  let c1_i32_101 : BitVec 32 := 1#32
  let arg21 : BitVec 32 := Scf.iv v149 c1_i32_101 k0_t8
  let v472 : BitVec 32 := Scalar.muli c4_i32_335 arg21
  let v473 : BitVec 32 := Scalar.addi v472 c0_i32_336
  let v474 : Index := Scalar.indexCast v473
  let c0_337 : Index := 0#32
  let c0_338 : Index := 0#32
  ![v474.toNat, 0, 0]
def k0_off963 (i : grid0.Coords) (k0_t8 : Fin (k0_t8_loop i).trips) (c0_i32_336 : BitVec 32) : Fin 4 → Nat :=
  let c4_i32_335 : BitVec 32 := 4#32
  let c0_i32_98 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let v145 : BitVec 32 := Scalar.subi v127 c0_i32_98
  let c1_i32_99 : BitVec 32 := 1#32
  let v147 : BitVec 32 := Scalar.divsi v145 c1_i32_99
  let v148 : BitVec 32 := Scalar.muli v147 c1_i32_99
  let v149 : BitVec 32 := Scalar.addi c0_i32_98 v148
  let c1_i32_101 : BitVec 32 := 1#32
  let arg21 : BitVec 32 := Scf.iv v149 c1_i32_101 k0_t8
  let v472 : BitVec 32 := Scalar.muli c4_i32_335 arg21
  let v473 : BitVec 32 := Scalar.addi v472 c0_i32_336
  let v477 : Index := Scalar.indexCast v473
  let c31 : Index := 31#32
  let c0_339 : Index := 0#32
  let c0_340 : Index := 0#32
  ![v477.toNat, 31, 0, 0]
@[reducible] def k0_t9_loop : Scf.Loop 32 :=
  let c1_i32_106 : BitVec 32 := 1#32
  let c31_i32_107 : BitVec 32 := 31#32
  let v169 : BitVec 32 := Scalar.addi c1_i32_106 c31_i32_107
  let c1_i32_108 : BitVec 32 := 1#32
  ⟨c1_i32_106, v169, c1_i32_108⟩
@[reducible] def k0_t10_loop (i : grid0.Coords) : Scf.Loop 32 :=
  let c0_i32_337 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let v474 : BitVec 32 := Scalar.subi v127 c0_i32_337
  let c1_i32_338 : BitVec 32 := 1#32
  let v476 : BitVec 32 := Scalar.divsi v474 c1_i32_338
  let v477 : BitVec 32 := Scalar.muli v476 c1_i32_338
  let v478 : BitVec 32 := Scalar.addi c0_i32_337 v477
  let c1_i32_339 : BitVec 32 := 1#32
  ⟨c0_i32_337, v478, c1_i32_339⟩
def k0_off964 (i : grid0.Coords) (k0_t10 : Fin (k0_t10_loop i).trips) (c0_i32_347 : BitVec 32) : Fin 3 → Nat :=
  let c4_i32_346 : BitVec 32 := 4#32
  let c0_i32_337 : BitVec 32 := 0#32
  let c1_i32_339 : BitVec 32 := 1#32
  let arg26 : BitVec 32 := Scf.iv c0_i32_337 c1_i32_339 k0_t10
  let v498 : BitVec 32 := Scalar.muli c4_i32_346 arg26
  let v499 : BitVec 32 := Scalar.addi v498 c0_i32_347
  let v500 : Index := Scalar.indexCast v499
  let c0_348 : Index := 0#32
  let c0_349 : Index := 0#32
  ![v500.toNat, 0, 0]
def k0_off965 (i : grid0.Coords) (k0_t9 : Fin k0_t9_loop.trips) (k0_t10 : Fin (k0_t10_loop i).trips) (c0_i32_347 : BitVec 32) : Fin 4 → Nat :=
  let c4_i32_346 : BitVec 32 := 4#32
  let c0_i32_337 : BitVec 32 := 0#32
  let c1_i32_339 : BitVec 32 := 1#32
  let arg26 : BitVec 32 := Scf.iv c0_i32_337 c1_i32_339 k0_t10
  let v498 : BitVec 32 := Scalar.muli c4_i32_346 arg26
  let v499 : BitVec 32 := Scalar.addi v498 c0_i32_347
  let v504 : Index := Scalar.indexCast v499
  let c31_i32_335 : BitVec 32 := 31#32
  let c1_i32_106 : BitVec 32 := 1#32
  let c1_i32_108 : BitVec 32 := 1#32
  let arg21 : BitVec 32 := Scf.iv c1_i32_106 c1_i32_108 k0_t9
  let v472 : BitVec 32 := Scalar.subi c31_i32_335 arg21
  let c1_i32_350 : BitVec 32 := 1#32
  let v503 : BitVec 32 := Scalar.addi v472 c1_i32_350
  let v505 : Index := Scalar.indexCast v503
  let c0_351 : Index := 0#32
  let c0_352 : Index := 0#32
  ![v504.toNat, v505.toNat, 0, 0]
def k0_off966 (i : grid0.Coords) (k0_t9 : Fin k0_t9_loop.trips) (k0_t10 : Fin (k0_t10_loop i).trips) (c0_i32_347 : BitVec 32) : Fin 4 → Nat :=
  let c4_i32_346 : BitVec 32 := 4#32
  let c0_i32_337 : BitVec 32 := 0#32
  let c1_i32_339 : BitVec 32 := 1#32
  let arg26 : BitVec 32 := Scf.iv c0_i32_337 c1_i32_339 k0_t10
  let v498 : BitVec 32 := Scalar.muli c4_i32_346 arg26
  let v499 : BitVec 32 := Scalar.addi v498 c0_i32_347
  let v514 : Index := Scalar.indexCast v499
  let c31_i32_335 : BitVec 32 := 31#32
  let c1_i32_106 : BitVec 32 := 1#32
  let c1_i32_108 : BitVec 32 := 1#32
  let arg21 : BitVec 32 := Scf.iv c1_i32_106 c1_i32_108 k0_t9
  let v472 : BitVec 32 := Scalar.subi c31_i32_335 arg21
  let v515 : Index := Scalar.indexCast v472
  let c0_355 : Index := 0#32
  let c0_356 : Index := 0#32
  ![v514.toNat, v515.toNat, 0, 0]
@[reducible] def k0_t11_loop (i : grid0.Coords) : Scf.Loop 32 :=
  let c0_i32_337 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let v474 : BitVec 32 := Scalar.subi v127 c0_i32_337
  let c1_i32_338 : BitVec 32 := 1#32
  let v476 : BitVec 32 := Scalar.divsi v474 c1_i32_338
  let v477 : BitVec 32 := Scalar.muli v476 c1_i32_338
  let v478 : BitVec 32 := Scalar.addi c0_i32_337 v477
  let v475 : BitVec 32 := Scalar.addi c0_i32_337 v474
  let c1_i32_340 : BitVec 32 := 1#32
  ⟨v478, v475, c1_i32_340⟩
def k0_off967 (i : grid0.Coords) (k0_t11 : Fin (k0_t11_loop i).trips) (c0_i32_347 : BitVec 32) : Fin 3 → Nat :=
  let c4_i32_346 : BitVec 32 := 4#32
  let c0_i32_337 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let v474 : BitVec 32 := Scalar.subi v127 c0_i32_337
  let c1_i32_338 : BitVec 32 := 1#32
  let v476 : BitVec 32 := Scalar.divsi v474 c1_i32_338
  let v477 : BitVec 32 := Scalar.muli v476 c1_i32_338
  let v478 : BitVec 32 := Scalar.addi c0_i32_337 v477
  let c1_i32_340 : BitVec 32 := 1#32
  let arg26 : BitVec 32 := Scf.iv v478 c1_i32_340 k0_t11
  let v498 : BitVec 32 := Scalar.muli c4_i32_346 arg26
  let v499 : BitVec 32 := Scalar.addi v498 c0_i32_347
  let v500 : Index := Scalar.indexCast v499
  let c0_348 : Index := 0#32
  let c0_349 : Index := 0#32
  ![v500.toNat, 0, 0]
def k0_off968 (i : grid0.Coords) (k0_t9 : Fin k0_t9_loop.trips) (k0_t11 : Fin (k0_t11_loop i).trips) (c0_i32_347 : BitVec 32) : Fin 4 → Nat :=
  let c4_i32_346 : BitVec 32 := 4#32
  let c0_i32_337 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let v474 : BitVec 32 := Scalar.subi v127 c0_i32_337
  let c1_i32_338 : BitVec 32 := 1#32
  let v476 : BitVec 32 := Scalar.divsi v474 c1_i32_338
  let v477 : BitVec 32 := Scalar.muli v476 c1_i32_338
  let v478 : BitVec 32 := Scalar.addi c0_i32_337 v477
  let c1_i32_340 : BitVec 32 := 1#32
  let arg26 : BitVec 32 := Scf.iv v478 c1_i32_340 k0_t11
  let v498 : BitVec 32 := Scalar.muli c4_i32_346 arg26
  let v499 : BitVec 32 := Scalar.addi v498 c0_i32_347
  let v504 : Index := Scalar.indexCast v499
  let c31_i32_335 : BitVec 32 := 31#32
  let c1_i32_106 : BitVec 32 := 1#32
  let c1_i32_108 : BitVec 32 := 1#32
  let arg21 : BitVec 32 := Scf.iv c1_i32_106 c1_i32_108 k0_t9
  let v472 : BitVec 32 := Scalar.subi c31_i32_335 arg21
  let c1_i32_350 : BitVec 32 := 1#32
  let v503 : BitVec 32 := Scalar.addi v472 c1_i32_350
  let v505 : Index := Scalar.indexCast v503
  let c0_351 : Index := 0#32
  let c0_352 : Index := 0#32
  ![v504.toNat, v505.toNat, 0, 0]
def k0_off969 (i : grid0.Coords) (k0_t9 : Fin k0_t9_loop.trips) (k0_t11 : Fin (k0_t11_loop i).trips) (c0_i32_347 : BitVec 32) : Fin 4 → Nat :=
  let c4_i32_346 : BitVec 32 := 4#32
  let c0_i32_337 : BitVec 32 := 0#32
  let arg1 : BitVec 32 := BitVec.ofNat 32 (i 1).val
  let c1_i32 : BitVec 32 := 1#32
  let v0 : BitVec 32 := Scalar.addi arg1 c1_i32
  let c4_i32 : BitVec 32 := 4#32
  let v109 : BitVec 32 := Scalar.addi v0 c4_i32
  let c1_i32_76 : BitVec 32 := 1#32
  let v110 : BitVec 32 := Scalar.subi v109 c1_i32_76
  let c0_i32_78 : BitVec 32 := 0#32
  let v112 : BitVec 1 := Scalar.cmpi .sgt v110 c0_i32_78
  let v113 : BitVec 32 := Scalar.extui v112
  let c0_i32_79 : BitVec 32 := 0#32
  let v114 : BitVec 1 := Scalar.cmpi .slt v110 c0_i32_79
  let v115 : BitVec 32 := Scalar.extui v114
  let v116 : BitVec 32 := Scalar.subi v113 v115
  let c4_i32_77 : BitVec 32 := 4#32
  let c0_i32_80 : BitVec 32 := 0#32
  let v117 : BitVec 1 := Scalar.cmpi .sgt c4_i32_77 c0_i32_80
  let v118 : BitVec 32 := Scalar.extui v117
  let c0_i32_81 : BitVec 32 := 0#32
  let v119 : BitVec 1 := Scalar.cmpi .slt c4_i32_77 c0_i32_81
  let v120 : BitVec 32 := Scalar.extui v119
  let v121 : BitVec 32 := Scalar.subi v118 v120
  let v122 : BitVec 1 := Scalar.cmpi .ne v116 v121
  let v123 : BitVec 32 := Scalar.remsi v110 c4_i32_77
  let c0_i32_82 : BitVec 32 := 0#32
  let v124 : BitVec 1 := Scalar.cmpi .ne v123 c0_i32_82
  let v125 : BitVec 1 := Scalar.andi v122 v124
  let v111 : BitVec 32 := Scalar.divsi v110 c4_i32_77
  let c1_i32_83 : BitVec 32 := 1#32
  let v126 : BitVec 32 := Scalar.subi v111 c1_i32_83
  let v127 : BitVec 32 := Scalar.select v125 v126 v111
  let v474 : BitVec 32 := Scalar.subi v127 c0_i32_337
  let c1_i32_338 : BitVec 32 := 1#32
  let v476 : BitVec 32 := Scalar.divsi v474 c1_i32_338
  let v477 : BitVec 32 := Scalar.muli v476 c1_i32_338
  let v478 : BitVec 32 := Scalar.addi c0_i32_337 v477
  let c1_i32_340 : BitVec 32 := 1#32
  let arg26 : BitVec 32 := Scf.iv v478 c1_i32_340 k0_t11
  let v498 : BitVec 32 := Scalar.muli c4_i32_346 arg26
  let v499 : BitVec 32 := Scalar.addi v498 c0_i32_347
  let v514 : Index := Scalar.indexCast v499
  let c31_i32_335 : BitVec 32 := 31#32
  let c1_i32_106 : BitVec 32 := 1#32
  let c1_i32_108 : BitVec 32 := 1#32
  let arg21 : BitVec 32 := Scf.iv c1_i32_106 c1_i32_108 k0_t9
  let v472 : BitVec 32 := Scalar.subi c31_i32_335 arg21
  let v515 : Index := Scalar.indexCast v472
  let c0_355 : Index := 0#32
  let c0_356 : Index := 0#32
  ![v514.toNat, v515.toNat, 0, 0]
@[reducible] def k0_t12_loop (i : grid0.Coords) : Scf.Loop 32 :=
  let c0_i32_336 : BitVec 32 := 0#32
  let arg1 : BitVec 32 := BitVec.ofNat 32 (i 1).val
  let c1_i32 : BitVec 32 := 1#32
  let v0 : BitVec 32 := Scalar.addi arg1 c1_i32
  let v472 : BitVec 32 := Scalar.subi v0 c0_i32_336
  let c1_i32_337 : BitVec 32 := 1#32
  let v474 : BitVec 32 := Scalar.divsi v472 c1_i32_337
  let v475 : BitVec 32 := Scalar.muli v474 c1_i32_337
  let v476 : BitVec 32 := Scalar.addi c0_i32_336 v475
  let c1_i32_338 : BitVec 32 := 1#32
  ⟨c0_i32_336, v476, c1_i32_338⟩
def k0_off970 (i : grid0.Coords) (k0_t12 : Fin (k0_t12_loop i).trips) : Fin 3 → Nat :=
  let c0_i32_336 : BitVec 32 := 0#32
  let c1_i32_338 : BitVec 32 := 1#32
  let arg21 : BitVec 32 := Scf.iv c0_i32_336 c1_i32_338 k0_t12
  let v477 : Index := Scalar.indexCast arg21
  let c0_340 : Index := 0#32
  let c0_341 : Index := 0#32
  ![v477.toNat, 0, 0]
def k0_off971 (i : grid0.Coords) (k0_t12 : Fin (k0_t12_loop i).trips) : Fin 3 → Nat :=
  let c0_i32_336 : BitVec 32 := 0#32
  let c1_i32_338 : BitVec 32 := 1#32
  let arg21 : BitVec 32 := Scf.iv c0_i32_336 c1_i32_338 k0_t12
  let v485 : Index := Scalar.indexCast arg21
  let c0_344 : Index := 0#32
  let c0_345 : Index := 0#32
  ![v485.toNat, 0, 0]
@[reducible] def k0_t13_loop (i : grid0.Coords) : Scf.Loop 32 :=
  let c0_i32_336 : BitVec 32 := 0#32
  let arg1 : BitVec 32 := BitVec.ofNat 32 (i 1).val
  let c1_i32 : BitVec 32 := 1#32
  let v0 : BitVec 32 := Scalar.addi arg1 c1_i32
  let v472 : BitVec 32 := Scalar.subi v0 c0_i32_336
  let c1_i32_337 : BitVec 32 := 1#32
  let v474 : BitVec 32 := Scalar.divsi v472 c1_i32_337
  let v475 : BitVec 32 := Scalar.muli v474 c1_i32_337
  let v476 : BitVec 32 := Scalar.addi c0_i32_336 v475
  let v473 : BitVec 32 := Scalar.addi c0_i32_336 v472
  let c1_i32_339 : BitVec 32 := 1#32
  ⟨v476, v473, c1_i32_339⟩
def k0_off972 (i : grid0.Coords) (k0_t13 : Fin (k0_t13_loop i).trips) : Fin 3 → Nat :=
  let c0_i32_336 : BitVec 32 := 0#32
  let arg1 : BitVec 32 := BitVec.ofNat 32 (i 1).val
  let c1_i32 : BitVec 32 := 1#32
  let v0 : BitVec 32 := Scalar.addi arg1 c1_i32
  let v472 : BitVec 32 := Scalar.subi v0 c0_i32_336
  let c1_i32_337 : BitVec 32 := 1#32
  let v474 : BitVec 32 := Scalar.divsi v472 c1_i32_337
  let v475 : BitVec 32 := Scalar.muli v474 c1_i32_337
  let v476 : BitVec 32 := Scalar.addi c0_i32_336 v475
  let c1_i32_339 : BitVec 32 := 1#32
  let arg21 : BitVec 32 := Scf.iv v476 c1_i32_339 k0_t13
  let v477 : Index := Scalar.indexCast arg21
  let c0_340 : Index := 0#32
  let c0_341 : Index := 0#32
  ![v477.toNat, 0, 0]
def k0_off973 (i : grid0.Coords) (k0_t13 : Fin (k0_t13_loop i).trips) : Fin 3 → Nat :=
  let c0_i32_336 : BitVec 32 := 0#32
  let arg1 : BitVec 32 := BitVec.ofNat 32 (i 1).val
  let c1_i32 : BitVec 32 := 1#32
  let v0 : BitVec 32 := Scalar.addi arg1 c1_i32
  let v472 : BitVec 32 := Scalar.subi v0 c0_i32_336
  let c1_i32_337 : BitVec 32 := 1#32
  let v474 : BitVec 32 := Scalar.divsi v472 c1_i32_337
  let v475 : BitVec 32 := Scalar.muli v474 c1_i32_337
  let v476 : BitVec 32 := Scalar.addi c0_i32_336 v475
  let c1_i32_339 : BitVec 32 := 1#32
  let arg21 : BitVec 32 := Scf.iv v476 c1_i32_339 k0_t13
  let v485 : Index := Scalar.indexCast arg21
  let c0_344 : Index := 0#32
  let c0_345 : Index := 0#32
  ![v485.toNat, 0, 0]
@[reducible] def k0_t14_loop (i : grid0.Coords) : Scf.Loop 32 :=
  let c0_i32_336 : BitVec 32 := 0#32
  let arg1 : BitVec 32 := BitVec.ofNat 32 (i 1).val
  let c1_i32 : BitVec 32 := 1#32
  let v0 : BitVec 32 := Scalar.addi arg1 c1_i32
  let v473 : BitVec 32 := Scalar.subi v0 c0_i32_336
  let c1_i32_337 : BitVec 32 := 1#32
  let v475 : BitVec 32 := Scalar.divsi v473 c1_i32_337
  let v476 : BitVec 32 := Scalar.muli v475 c1_i32_337
  let v477 : BitVec 32 := Scalar.addi c0_i32_336 v476
  let c1_i32_338 : BitVec 32 := 1#32
  ⟨c0_i32_336, v477, c1_i32_338⟩
def k0_off974 (i : grid0.Coords) (k0_t14 : Fin (k0_t14_loop i).trips) : Fin 3 → Nat :=
  let c0_i32_336 : BitVec 32 := 0#32
  let c1_i32_338 : BitVec 32 := 1#32
  let arg21 : BitVec 32 := Scf.iv c0_i32_336 c1_i32_338 k0_t14
  let v492 : Index := Scalar.indexCast arg21
  let c0_351 : Index := 0#32
  let c0_352 : Index := 0#32
  ![v492.toNat, 0, 0]
@[reducible] def k0_t15_loop (i : grid0.Coords) : Scf.Loop 32 :=
  let c0_i32_336 : BitVec 32 := 0#32
  let arg1 : BitVec 32 := BitVec.ofNat 32 (i 1).val
  let c1_i32 : BitVec 32 := 1#32
  let v0 : BitVec 32 := Scalar.addi arg1 c1_i32
  let v473 : BitVec 32 := Scalar.subi v0 c0_i32_336
  let c1_i32_337 : BitVec 32 := 1#32
  let v475 : BitVec 32 := Scalar.divsi v473 c1_i32_337
  let v476 : BitVec 32 := Scalar.muli v475 c1_i32_337
  let v477 : BitVec 32 := Scalar.addi c0_i32_336 v476
  let v474 : BitVec 32 := Scalar.addi c0_i32_336 v473
  let c1_i32_339 : BitVec 32 := 1#32
  ⟨v477, v474, c1_i32_339⟩
def k0_off975 (i : grid0.Coords) (k0_t15 : Fin (k0_t15_loop i).trips) : Fin 3 → Nat :=
  let c0_i32_336 : BitVec 32 := 0#32
  let arg1 : BitVec 32 := BitVec.ofNat 32 (i 1).val
  let c1_i32 : BitVec 32 := 1#32
  let v0 : BitVec 32 := Scalar.addi arg1 c1_i32
  let v473 : BitVec 32 := Scalar.subi v0 c0_i32_336
  let c1_i32_337 : BitVec 32 := 1#32
  let v475 : BitVec 32 := Scalar.divsi v473 c1_i32_337
  let v476 : BitVec 32 := Scalar.muli v475 c1_i32_337
  let v477 : BitVec 32 := Scalar.addi c0_i32_336 v476
  let c1_i32_339 : BitVec 32 := 1#32
  let arg21 : BitVec 32 := Scf.iv v477 c1_i32_339 k0_t15
  let v492 : Index := Scalar.indexCast arg21
  let c0_351 : Index := 0#32
  let c0_352 : Index := 0#32
  ![v492.toNat, 0, 0]
@[reducible] def k0_t16_loop : Scf.Loop 32 :=
  let c0_i32_343 : BitVec 32 := 0#32
  let c13_i32 : BitVec 32 := 13#32
  let v485 : BitVec 32 := Scalar.addi c0_i32_343 c13_i32
  let c1_i32_344 : BitVec 32 := 1#32
  ⟨c0_i32_343, v485, c1_i32_344⟩
@[reducible] def k0_t17_loop (i : grid0.Coords) : Scf.Loop 32 :=
  let c0_i32_353 : BitVec 32 := 0#32
  let arg1 : BitVec 32 := BitVec.ofNat 32 (i 1).val
  let c1_i32 : BitVec 32 := 1#32
  let v0 : BitVec 32 := Scalar.addi arg1 c1_i32
  let v497 : BitVec 32 := Scalar.subi v0 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_355 : BitVec 32 := 1#32
  ⟨c0_i32_353, v501, c1_i32_355⟩
def k0_off976 (i : grid0.Coords) (k0_t17 : Fin (k0_t17_loop i).trips) : Fin 3 → Nat :=
  let c0_i32_353 : BitVec 32 := 0#32
  let c1_i32_355 : BitVec 32 := 1#32
  let arg23 : BitVec 32 := Scf.iv c0_i32_353 c1_i32_355 k0_t17
  let v508 : Index := Scalar.indexCast arg23
  let c0_358 : Index := 0#32
  let c0_359 : Index := 0#32
  ![v508.toNat, 0, 0]
@[reducible] def k0_t18_loop (i : grid0.Coords) : Scf.Loop 32 :=
  let c0_i32_353 : BitVec 32 := 0#32
  let arg1 : BitVec 32 := BitVec.ofNat 32 (i 1).val
  let c1_i32 : BitVec 32 := 1#32
  let v0 : BitVec 32 := Scalar.addi arg1 c1_i32
  let v497 : BitVec 32 := Scalar.subi v0 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let v498 : BitVec 32 := Scalar.addi c0_i32_353 v497
  let c1_i32_356 : BitVec 32 := 1#32
  ⟨v501, v498, c1_i32_356⟩
def k0_off977 (i : grid0.Coords) (k0_t18 : Fin (k0_t18_loop i).trips) : Fin 3 → Nat :=
  let c0_i32_353 : BitVec 32 := 0#32
  let arg1 : BitVec 32 := BitVec.ofNat 32 (i 1).val
  let c1_i32 : BitVec 32 := 1#32
  let v0 : BitVec 32 := Scalar.addi arg1 c1_i32
  let v497 : BitVec 32 := Scalar.subi v0 c0_i32_353
  let c1_i32_354 : BitVec 32 := 1#32
  let v499 : BitVec 32 := Scalar.divsi v497 c1_i32_354
  let v500 : BitVec 32 := Scalar.muli v499 c1_i32_354
  let v501 : BitVec 32 := Scalar.addi c0_i32_353 v500
  let c1_i32_356 : BitVec 32 := 1#32
  let arg23 : BitVec 32 := Scf.iv v501 c1_i32_356 k0_t18
  let v508 : Index := Scalar.indexCast arg23
  let c0_358 : Index := 0#32
  let c0_359 : Index := 0#32
  ![v508.toNat, 0, 0]
@[reducible] def k0_t19_loop (i : grid0.Coords) : Scf.Loop 32 :=
  let c0_i32_347 : BitVec 32 := 0#32
  let arg1 : BitVec 32 := BitVec.ofNat 32 (i 1).val
  let c1_i32 : BitVec 32 := 1#32
  let v0 : BitVec 32 := Scalar.addi arg1 c1_i32
  let v487 : BitVec 32 := Scalar.subi v0 c0_i32_347
  let c1_i32_348 : BitVec 32 := 1#32
  let v489 : BitVec 32 := Scalar.divsi v487 c1_i32_348
  let v490 : BitVec 32 := Scalar.muli v489 c1_i32_348
  let v491 : BitVec 32 := Scalar.addi c0_i32_347 v490
  let c1_i32_349 : BitVec 32 := 1#32
  ⟨c0_i32_347, v491, c1_i32_349⟩
def k0_off978 (i : grid0.Coords) (k0_t19 : Fin (k0_t19_loop i).trips) : Fin 3 → Nat :=
  let c0_i32_347 : BitVec 32 := 0#32
  let c1_i32_349 : BitVec 32 := 1#32
  let arg21 : BitVec 32 := Scf.iv c0_i32_347 c1_i32_349 k0_t19
  let v492 : Index := Scalar.indexCast arg21
  let c0_351 : Index := 0#32
  let c0_352 : Index := 0#32
  ![v492.toNat, 0, 0]
def k0_off979 (i : grid0.Coords) (k0_t19 : Fin (k0_t19_loop i).trips) : Fin 3 → Nat :=
  let c0_i32_347 : BitVec 32 := 0#32
  let c1_i32_349 : BitVec 32 := 1#32
  let arg21 : BitVec 32 := Scf.iv c0_i32_347 c1_i32_349 k0_t19
  let v510 : Index := Scalar.indexCast arg21
  let c0_356 : Index := 0#32
  let c0_357 : Index := 0#32
  ![v510.toNat, 0, 0]
@[reducible] def k0_t20_loop (i : grid0.Coords) : Scf.Loop 32 :=
  let c0_i32_347 : BitVec 32 := 0#32
  let arg1 : BitVec 32 := BitVec.ofNat 32 (i 1).val
  let c1_i32 : BitVec 32 := 1#32
  let v0 : BitVec 32 := Scalar.addi arg1 c1_i32
  let v487 : BitVec 32 := Scalar.subi v0 c0_i32_347
  let c1_i32_348 : BitVec 32 := 1#32
  let v489 : BitVec 32 := Scalar.divsi v487 c1_i32_348
  let v490 : BitVec 32 := Scalar.muli v489 c1_i32_348
  let v491 : BitVec 32 := Scalar.addi c0_i32_347 v490
  let v488 : BitVec 32 := Scalar.addi c0_i32_347 v487
  let c1_i32_350 : BitVec 32 := 1#32
  ⟨v491, v488, c1_i32_350⟩
def k0_off980 (i : grid0.Coords) (k0_t20 : Fin (k0_t20_loop i).trips) : Fin 3 → Nat :=
  let c0_i32_347 : BitVec 32 := 0#32
  let arg1 : BitVec 32 := BitVec.ofNat 32 (i 1).val
  let c1_i32 : BitVec 32 := 1#32
  let v0 : BitVec 32 := Scalar.addi arg1 c1_i32
  let v487 : BitVec 32 := Scalar.subi v0 c0_i32_347
  let c1_i32_348 : BitVec 32 := 1#32
  let v489 : BitVec 32 := Scalar.divsi v487 c1_i32_348
  let v490 : BitVec 32 := Scalar.muli v489 c1_i32_348
  let v491 : BitVec 32 := Scalar.addi c0_i32_347 v490
  let c1_i32_350 : BitVec 32 := 1#32
  let arg21 : BitVec 32 := Scf.iv v491 c1_i32_350 k0_t20
  let v492 : Index := Scalar.indexCast arg21
  let c0_351 : Index := 0#32
  let c0_352 : Index := 0#32
  ![v492.toNat, 0, 0]
def k0_off981 (i : grid0.Coords) (k0_t20 : Fin (k0_t20_loop i).trips) : Fin 3 → Nat :=
  let c0_i32_347 : BitVec 32 := 0#32
  let arg1 : BitVec 32 := BitVec.ofNat 32 (i 1).val
  let c1_i32 : BitVec 32 := 1#32
  let v0 : BitVec 32 := Scalar.addi arg1 c1_i32
  let v487 : BitVec 32 := Scalar.subi v0 c0_i32_347
  let c1_i32_348 : BitVec 32 := 1#32
  let v489 : BitVec 32 := Scalar.divsi v487 c1_i32_348
  let v490 : BitVec 32 := Scalar.muli v489 c1_i32_348
  let v491 : BitVec 32 := Scalar.addi c0_i32_347 v490
  let c1_i32_350 : BitVec 32 := 1#32
  let arg21 : BitVec 32 := Scf.iv v491 c1_i32_350 k0_t20
  let v510 : Index := Scalar.indexCast arg21
  let c0_356 : Index := 0#32
  let c0_357 : Index := 0#32
  ![v510.toNat, 0, 0]
def k0_cond6 (i : grid0.Coords) : BitVec 1 :=
  let arg1 : BitVec 32 := BitVec.ofNat 32 (i 1).val
  let c0_i32_115 : BitVec 32 := 0#32
  let v190 : BitVec 1 := Scalar.cmpi .sge arg1 c0_i32_115
  let v191 : BitVec 32 := Scalar.extui v190
  let c0_i32_116 : BitVec 32 := 0#32
  let v192 : BitVec 1 := Scalar.cmpi .ne v191 c0_i32_116
  v192

def k0_off982 (i : grid0.Coords) : Fin 3 → Nat :=
  let arg1 : BitVec 32 := BitVec.ofNat 32 (i 1).val
  let c0_i32_335 : BitVec 32 := 0#32
  let v472 : BitVec 32 := Scalar.subi arg1 c0_i32_335
  let v473 : Index := Scalar.indexCast v472
  let c0_336 : Index := 0#32
  let c0_337 : Index := 0#32
  ![v473.toNat, 0, 0]
def k0_cond7 (i : grid0.Coords) : BitVec 1 :=
  let arg1 : BitVec 32 := BitVec.ofNat 32 (i 1).val
  let c1_i32_117 : BitVec 32 := 1#32
  let v193 : BitVec 1 := Scalar.cmpi .sge arg1 c1_i32_117
  let v194 : BitVec 32 := Scalar.extui v193
  let c0_i32_118 : BitVec 32 := 0#32
  let v195 : BitVec 1 := Scalar.cmpi .ne v194 c0_i32_118
  v195

def k0_off983 (i : grid0.Coords) : Fin 3 → Nat :=
  let arg1 : BitVec 32 := BitVec.ofNat 32 (i 1).val
  let c1_i32_335 : BitVec 32 := 1#32
  let v472 : BitVec 32 := Scalar.subi arg1 c1_i32_335
  let v473 : Index := Scalar.indexCast v472
  let c0_336 : Index := 0#32
  let c0_337 : Index := 0#32
  ![v473.toNat, 0, 0]
def k0_mult7 : BitVec 32 :=
  let c0_i32_131 : BitVec 32 := 0#32
  c0_i32_131
def k0_off984 (i : grid0.Coords) (c0_i32_137 : BitVec 32) : Fin 3 → Nat :=
  let arg1 : BitVec 32 := BitVec.ofNat 32 (i 1).val
  let c1_i32_134 : BitVec 32 := 1#32
  let v214 : BitVec 32 := Scalar.subi arg1 c1_i32_134
  let c0_i32_135 : BitVec 32 := 0#32
  let v215 : BitVec 1 := Scalar.cmpi .sle v214 c0_i32_135
  let c16_i32 : BitVec 32 := 16#32
  let c0_i32_136 : BitVec 32 := 0#32
  let v216 : BitVec 32 := Scalar.subi arg1 c0_i32_136
  let c8_i32 : BitVec 32 := 8#32
  let v217 : BitVec 32 := Scalar.muli v216 c8_i32
  let v218 : BitVec 32 := Scalar.addi c16_i32 v217
  let v219 : BitVec 32 := Scalar.addi v218 c0_i32_137
  let c0_i32_138 : BitVec 32 := 0#32
  let v220 : BitVec 32 := Scalar.select v215 v219 c0_i32_138
  let v224 : Index := Scalar.indexCast v220
  let c0_143 : Index := 0#32
  let c0_144 : Index := 0#32
  ![v224.toNat, 0, 0]
@[reducible] def k0_t21_loop (i : grid0.Coords) : Scf.Loop 32 :=
  let c0_i32_262 : BitVec 32 := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c0_i32_255 : BitVec 32 := 0#32
  let v363 : BitVec 1 := Scalar.cmpi .sgt v208 c0_i32_255
  let v364 : BitVec 32 := Scalar.extui v363
  let c0_i32_256 : BitVec 32 := 0#32
  let v365 : BitVec 1 := Scalar.cmpi .slt v208 c0_i32_256
  let v366 : BitVec 32 := Scalar.extui v365
  let v367 : BitVec 32 := Scalar.subi v364 v366
  let c2_i32_254 : BitVec 32 := 2#32
  let c0_i32_257 : BitVec 32 := 0#32
  let v368 : BitVec 1 := Scalar.cmpi .sgt c2_i32_254 c0_i32_257
  let v369 : BitVec 32 := Scalar.extui v368
  let c0_i32_258 : BitVec 32 := 0#32
  let v370 : BitVec 1 := Scalar.cmpi .slt c2_i32_254 c0_i32_258
  let v371 : BitVec 32 := Scalar.extui v370
  let v372 : BitVec 32 := Scalar.subi v369 v371
  let v373 : BitVec 1 := Scalar.cmpi .ne v367 v372
  let v374 : BitVec 32 := Scalar.remsi v208 c2_i32_254
  let c0_i32_259 : BitVec 32 := 0#32
  let v375 : BitVec 1 := Scalar.cmpi .ne v374 c0_i32_259
  let v376 : BitVec 1 := Scalar.andi v373 v375
  let v362 : BitVec 32 := Scalar.divsi v208 c2_i32_254
  let c1_i32_260 : BitVec 32 := 1#32
  let v377 : BitVec 32 := Scalar.subi v362 c1_i32_260
  let v378 : BitVec 32 := Scalar.select v376 v377 v362
  let v379 : BitVec 32 := Scalar.subi v378 c0_i32_262
  let c1_i32_263 : BitVec 32 := 1#32
  let v381 : BitVec 32 := Scalar.divsi v379 c1_i32_263
  let v382 : BitVec 32 := Scalar.muli v381 c1_i32_263
  let v383 : BitVec 32 := Scalar.addi c0_i32_262 v382
  let c1_i32_264 : BitVec 32 := 1#32
  ⟨c0_i32_262, v383, c1_i32_264⟩
def k0_mult8 (i : grid0.Coords) (k0_t21 : Fin (k0_t21_loop i).trips) : BitVec 32 :=
  let c2_i32_335 : BitVec 32 := 2#32
  let c0_i32_262 : BitVec 32 := 0#32
  let c1_i32_264 : BitVec 32 := 1#32
  let arg21 : BitVec 32 := Scf.iv c0_i32_262 c1_i32_264 k0_t21
  let v472 : BitVec 32 := Scalar.muli c2_i32_335 arg21
  let c1_i32_336 : BitVec 32 := 1#32
  let v473 : BitVec 32 := Scalar.addi v472 c1_i32_336
  let c256_i32_339 : BitVec 32 := 256#32
  let v475 : BitVec 32 := Scalar.muli v473 c256_i32_339
  v475
def k0_off985 (i : grid0.Coords) (k0_t21 : Fin (k0_t21_loop i).trips) (c1_i32_336 : BitVec 32) : Fin 3 → Nat :=
  let c0_340 : Index := 0#32
  let c2_i32_335 : BitVec 32 := 2#32
  let c0_i32_262 : BitVec 32 := 0#32
  let c1_i32_264 : BitVec 32 := 1#32
  let arg21 : BitVec 32 := Scf.iv c0_i32_262 c1_i32_264 k0_t21
  let v472 : BitVec 32 := Scalar.muli c2_i32_335 arg21
  let v473 : BitVec 32 := Scalar.addi v472 c1_i32_336
  let c256_i32_339 : BitVec 32 := 256#32
  let v475 : BitVec 32 := Scalar.muli v473 c256_i32_339
  let v476 : BitVec 32 := v475
  let v477 : Index := Scalar.indexCast v476
  let c0_341 : Index := 0#32
  ![0, v477.toNat, 0]
def k0_off986 (i : grid0.Coords) (k0_t21 : Fin (k0_t21_loop i).trips) : Fin 4 → Nat :=
  let c0_343 : Index := 0#32
  let c2_i32_335 : BitVec 32 := 2#32
  let c0_i32_262 : BitVec 32 := 0#32
  let c1_i32_264 : BitVec 32 := 1#32
  let arg21 : BitVec 32 := Scf.iv c0_i32_262 c1_i32_264 k0_t21
  let v472 : BitVec 32 := Scalar.muli c2_i32_335 arg21
  let v482 : Index := Scalar.indexCast v472
  let c0_344 : Index := 0#32
  let c0_345 : Index := 0#32
  ![0, v482.toNat, 0, 0]
def k0_off987 (i : grid0.Coords) (k0_t21 : Fin (k0_t21_loop i).trips) (c1_i32_336 : BitVec 32) (c0_i32_350 : BitVec 32) : Fin 3 → Nat :=
  let c2_i32_335 : BitVec 32 := 2#32
  let c0_i32_262 : BitVec 32 := 0#32
  let c1_i32_264 : BitVec 32 := 1#32
  let arg21 : BitVec 32 := Scf.iv c0_i32_262 c1_i32_264 k0_t21
  let v472 : BitVec 32 := Scalar.muli c2_i32_335 arg21
  let v473 : BitVec 32 := Scalar.addi v472 c1_i32_336
  let arg1 : BitVec 32 := BitVec.ofNat 32 (i 1).val
  let c1_i32_342 : BitVec 32 := 1#32
  let v480 : BitVec 32 := Scalar.subi arg1 c1_i32_342
  let v481 : BitVec 1 := Scalar.cmpi .sge v473 v480
  let c16_i32_349 : BitVec 32 := 16#32
  let v486 : BitVec 32 := Scalar.subi arg1 v473
  let c8_i32_348 : BitVec 32 := 8#32
  let v487 : BitVec 32 := Scalar.muli v486 c8_i32_348
  let v488 : BitVec 32 := Scalar.addi c16_i32_349 v487
  let v489 : BitVec 32 := Scalar.addi v488 c0_i32_350
  let v490 : BitVec 32 := Scalar.select v481 v489 v473
  let v494 : Index := Scalar.indexCast v490
  let c0_355 : Index := 0#32
  let c0_356 : Index := 0#32
  ![v494.toNat, 0, 0]
def k0_mult9 (i : grid0.Coords) (k0_t21 : Fin (k0_t21_loop i).trips) : BitVec 32 :=
  let c2_i32_335 : BitVec 32 := 2#32
  let c0_i32_262 : BitVec 32 := 0#32
  let c1_i32_264 : BitVec 32 := 1#32
  let arg21 : BitVec 32 := Scf.iv c0_i32_262 c1_i32_264 k0_t21
  let v472 : BitVec 32 := Scalar.muli c2_i32_335 arg21
  let c2_i32_524 : BitVec 32 := 2#32
  let v783 : BitVec 32 := Scalar.addi v472 c2_i32_524
  let c256_i32_528 : BitVec 32 := 256#32
  let v786 : BitVec 32 := Scalar.muli v783 c256_i32_528
  v786
def k0_off988 (i : grid0.Coords) (k0_t21 : Fin (k0_t21_loop i).trips) : Fin 4 → Nat :=
  let c0_532 : Index := 0#32
  let c2_i32_335 : BitVec 32 := 2#32
  let c0_i32_262 : BitVec 32 := 0#32
  let c1_i32_264 : BitVec 32 := 1#32
  let arg21 : BitVec 32 := Scf.iv c0_i32_262 c1_i32_264 k0_t21
  let v472 : BitVec 32 := Scalar.muli c2_i32_335 arg21
  let c1_i32_525 : BitVec 32 := 1#32
  let v784 : BitVec 32 := Scalar.addi v472 c1_i32_525
  let v793 : Index := Scalar.indexCast v784
  let c0_533 : Index := 0#32
  let c0_534 : Index := 0#32
  ![0, v793.toNat, 0, 0]
@[reducible] def k0_t22_loop (i : grid0.Coords) : Scf.Loop 32 :=
  let c0_i32_262 : BitVec 32 := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c0_i32_255 : BitVec 32 := 0#32
  let v363 : BitVec 1 := Scalar.cmpi .sgt v208 c0_i32_255
  let v364 : BitVec 32 := Scalar.extui v363
  let c0_i32_256 : BitVec 32 := 0#32
  let v365 : BitVec 1 := Scalar.cmpi .slt v208 c0_i32_256
  let v366 : BitVec 32 := Scalar.extui v365
  let v367 : BitVec 32 := Scalar.subi v364 v366
  let c2_i32_254 : BitVec 32 := 2#32
  let c0_i32_257 : BitVec 32 := 0#32
  let v368 : BitVec 1 := Scalar.cmpi .sgt c2_i32_254 c0_i32_257
  let v369 : BitVec 32 := Scalar.extui v368
  let c0_i32_258 : BitVec 32 := 0#32
  let v370 : BitVec 1 := Scalar.cmpi .slt c2_i32_254 c0_i32_258
  let v371 : BitVec 32 := Scalar.extui v370
  let v372 : BitVec 32 := Scalar.subi v369 v371
  let v373 : BitVec 1 := Scalar.cmpi .ne v367 v372
  let v374 : BitVec 32 := Scalar.remsi v208 c2_i32_254
  let c0_i32_259 : BitVec 32 := 0#32
  let v375 : BitVec 1 := Scalar.cmpi .ne v374 c0_i32_259
  let v376 : BitVec 1 := Scalar.andi v373 v375
  let v362 : BitVec 32 := Scalar.divsi v208 c2_i32_254
  let c1_i32_260 : BitVec 32 := 1#32
  let v377 : BitVec 32 := Scalar.subi v362 c1_i32_260
  let v378 : BitVec 32 := Scalar.select v376 v377 v362
  let v379 : BitVec 32 := Scalar.subi v378 c0_i32_262
  let c1_i32_263 : BitVec 32 := 1#32
  let v381 : BitVec 32 := Scalar.divsi v379 c1_i32_263
  let v382 : BitVec 32 := Scalar.muli v381 c1_i32_263
  let v383 : BitVec 32 := Scalar.addi c0_i32_262 v382
  let v380 : BitVec 32 := Scalar.addi c0_i32_262 v379
  let c1_i32_265 : BitVec 32 := 1#32
  ⟨v383, v380, c1_i32_265⟩
def k0_mult10 (i : grid0.Coords) (k0_t22 : Fin (k0_t22_loop i).trips) : BitVec 32 :=
  let c2_i32_335 : BitVec 32 := 2#32
  let c0_i32_262 : BitVec 32 := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c0_i32_255 : BitVec 32 := 0#32
  let v363 : BitVec 1 := Scalar.cmpi .sgt v208 c0_i32_255
  let v364 : BitVec 32 := Scalar.extui v363
  let c0_i32_256 : BitVec 32 := 0#32
  let v365 : BitVec 1 := Scalar.cmpi .slt v208 c0_i32_256
  let v366 : BitVec 32 := Scalar.extui v365
  let v367 : BitVec 32 := Scalar.subi v364 v366
  let c2_i32_254 : BitVec 32 := 2#32
  let c0_i32_257 : BitVec 32 := 0#32
  let v368 : BitVec 1 := Scalar.cmpi .sgt c2_i32_254 c0_i32_257
  let v369 : BitVec 32 := Scalar.extui v368
  let c0_i32_258 : BitVec 32 := 0#32
  let v370 : BitVec 1 := Scalar.cmpi .slt c2_i32_254 c0_i32_258
  let v371 : BitVec 32 := Scalar.extui v370
  let v372 : BitVec 32 := Scalar.subi v369 v371
  let v373 : BitVec 1 := Scalar.cmpi .ne v367 v372
  let v374 : BitVec 32 := Scalar.remsi v208 c2_i32_254
  let c0_i32_259 : BitVec 32 := 0#32
  let v375 : BitVec 1 := Scalar.cmpi .ne v374 c0_i32_259
  let v376 : BitVec 1 := Scalar.andi v373 v375
  let v362 : BitVec 32 := Scalar.divsi v208 c2_i32_254
  let c1_i32_260 : BitVec 32 := 1#32
  let v377 : BitVec 32 := Scalar.subi v362 c1_i32_260
  let v378 : BitVec 32 := Scalar.select v376 v377 v362
  let v379 : BitVec 32 := Scalar.subi v378 c0_i32_262
  let c1_i32_263 : BitVec 32 := 1#32
  let v381 : BitVec 32 := Scalar.divsi v379 c1_i32_263
  let v382 : BitVec 32 := Scalar.muli v381 c1_i32_263
  let v383 : BitVec 32 := Scalar.addi c0_i32_262 v382
  let c1_i32_265 : BitVec 32 := 1#32
  let arg21 : BitVec 32 := Scf.iv v383 c1_i32_265 k0_t22
  let v472 : BitVec 32 := Scalar.muli c2_i32_335 arg21
  let c1_i32_336 : BitVec 32 := 1#32
  let v473 : BitVec 32 := Scalar.addi v472 c1_i32_336
  let c256_i32_339 : BitVec 32 := 256#32
  let v475 : BitVec 32 := Scalar.muli v473 c256_i32_339
  v475
def k0_off989 (i : grid0.Coords) (k0_t22 : Fin (k0_t22_loop i).trips) (c1_i32_336 : BitVec 32) : Fin 3 → Nat :=
  let c0_340 : Index := 0#32
  let c2_i32_335 : BitVec 32 := 2#32
  let c0_i32_262 : BitVec 32 := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c0_i32_255 : BitVec 32 := 0#32
  let v363 : BitVec 1 := Scalar.cmpi .sgt v208 c0_i32_255
  let v364 : BitVec 32 := Scalar.extui v363
  let c0_i32_256 : BitVec 32 := 0#32
  let v365 : BitVec 1 := Scalar.cmpi .slt v208 c0_i32_256
  let v366 : BitVec 32 := Scalar.extui v365
  let v367 : BitVec 32 := Scalar.subi v364 v366
  let c2_i32_254 : BitVec 32 := 2#32
  let c0_i32_257 : BitVec 32 := 0#32
  let v368 : BitVec 1 := Scalar.cmpi .sgt c2_i32_254 c0_i32_257
  let v369 : BitVec 32 := Scalar.extui v368
  let c0_i32_258 : BitVec 32 := 0#32
  let v370 : BitVec 1 := Scalar.cmpi .slt c2_i32_254 c0_i32_258
  let v371 : BitVec 32 := Scalar.extui v370
  let v372 : BitVec 32 := Scalar.subi v369 v371
  let v373 : BitVec 1 := Scalar.cmpi .ne v367 v372
  let v374 : BitVec 32 := Scalar.remsi v208 c2_i32_254
  let c0_i32_259 : BitVec 32 := 0#32
  let v375 : BitVec 1 := Scalar.cmpi .ne v374 c0_i32_259
  let v376 : BitVec 1 := Scalar.andi v373 v375
  let v362 : BitVec 32 := Scalar.divsi v208 c2_i32_254
  let c1_i32_260 : BitVec 32 := 1#32
  let v377 : BitVec 32 := Scalar.subi v362 c1_i32_260
  let v378 : BitVec 32 := Scalar.select v376 v377 v362
  let v379 : BitVec 32 := Scalar.subi v378 c0_i32_262
  let c1_i32_263 : BitVec 32 := 1#32
  let v381 : BitVec 32 := Scalar.divsi v379 c1_i32_263
  let v382 : BitVec 32 := Scalar.muli v381 c1_i32_263
  let v383 : BitVec 32 := Scalar.addi c0_i32_262 v382
  let c1_i32_265 : BitVec 32 := 1#32
  let arg21 : BitVec 32 := Scf.iv v383 c1_i32_265 k0_t22
  let v472 : BitVec 32 := Scalar.muli c2_i32_335 arg21
  let v473 : BitVec 32 := Scalar.addi v472 c1_i32_336
  let c256_i32_339 : BitVec 32 := 256#32
  let v475 : BitVec 32 := Scalar.muli v473 c256_i32_339
  let v476 : BitVec 32 := v475
  let v477 : Index := Scalar.indexCast v476
  let c0_341 : Index := 0#32
  ![0, v477.toNat, 0]
def k0_off990 (i : grid0.Coords) (k0_t22 : Fin (k0_t22_loop i).trips) : Fin 4 → Nat :=
  let c0_343 : Index := 0#32
  let c2_i32_335 : BitVec 32 := 2#32
  let c0_i32_262 : BitVec 32 := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c0_i32_255 : BitVec 32 := 0#32
  let v363 : BitVec 1 := Scalar.cmpi .sgt v208 c0_i32_255
  let v364 : BitVec 32 := Scalar.extui v363
  let c0_i32_256 : BitVec 32 := 0#32
  let v365 : BitVec 1 := Scalar.cmpi .slt v208 c0_i32_256
  let v366 : BitVec 32 := Scalar.extui v365
  let v367 : BitVec 32 := Scalar.subi v364 v366
  let c2_i32_254 : BitVec 32 := 2#32
  let c0_i32_257 : BitVec 32 := 0#32
  let v368 : BitVec 1 := Scalar.cmpi .sgt c2_i32_254 c0_i32_257
  let v369 : BitVec 32 := Scalar.extui v368
  let c0_i32_258 : BitVec 32 := 0#32
  let v370 : BitVec 1 := Scalar.cmpi .slt c2_i32_254 c0_i32_258
  let v371 : BitVec 32 := Scalar.extui v370
  let v372 : BitVec 32 := Scalar.subi v369 v371
  let v373 : BitVec 1 := Scalar.cmpi .ne v367 v372
  let v374 : BitVec 32 := Scalar.remsi v208 c2_i32_254
  let c0_i32_259 : BitVec 32 := 0#32
  let v375 : BitVec 1 := Scalar.cmpi .ne v374 c0_i32_259
  let v376 : BitVec 1 := Scalar.andi v373 v375
  let v362 : BitVec 32 := Scalar.divsi v208 c2_i32_254
  let c1_i32_260 : BitVec 32 := 1#32
  let v377 : BitVec 32 := Scalar.subi v362 c1_i32_260
  let v378 : BitVec 32 := Scalar.select v376 v377 v362
  let v379 : BitVec 32 := Scalar.subi v378 c0_i32_262
  let c1_i32_263 : BitVec 32 := 1#32
  let v381 : BitVec 32 := Scalar.divsi v379 c1_i32_263
  let v382 : BitVec 32 := Scalar.muli v381 c1_i32_263
  let v383 : BitVec 32 := Scalar.addi c0_i32_262 v382
  let c1_i32_265 : BitVec 32 := 1#32
  let arg21 : BitVec 32 := Scf.iv v383 c1_i32_265 k0_t22
  let v472 : BitVec 32 := Scalar.muli c2_i32_335 arg21
  let v482 : Index := Scalar.indexCast v472
  let c0_344 : Index := 0#32
  let c0_345 : Index := 0#32
  ![0, v482.toNat, 0, 0]
def k0_off991 (i : grid0.Coords) (k0_t22 : Fin (k0_t22_loop i).trips) (c1_i32_336 : BitVec 32) (c0_i32_350 : BitVec 32) : Fin 3 → Nat :=
  let c2_i32_335 : BitVec 32 := 2#32
  let c0_i32_262 : BitVec 32 := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c0_i32_255 : BitVec 32 := 0#32
  let v363 : BitVec 1 := Scalar.cmpi .sgt v208 c0_i32_255
  let v364 : BitVec 32 := Scalar.extui v363
  let c0_i32_256 : BitVec 32 := 0#32
  let v365 : BitVec 1 := Scalar.cmpi .slt v208 c0_i32_256
  let v366 : BitVec 32 := Scalar.extui v365
  let v367 : BitVec 32 := Scalar.subi v364 v366
  let c2_i32_254 : BitVec 32 := 2#32
  let c0_i32_257 : BitVec 32 := 0#32
  let v368 : BitVec 1 := Scalar.cmpi .sgt c2_i32_254 c0_i32_257
  let v369 : BitVec 32 := Scalar.extui v368
  let c0_i32_258 : BitVec 32 := 0#32
  let v370 : BitVec 1 := Scalar.cmpi .slt c2_i32_254 c0_i32_258
  let v371 : BitVec 32 := Scalar.extui v370
  let v372 : BitVec 32 := Scalar.subi v369 v371
  let v373 : BitVec 1 := Scalar.cmpi .ne v367 v372
  let v374 : BitVec 32 := Scalar.remsi v208 c2_i32_254
  let c0_i32_259 : BitVec 32 := 0#32
  let v375 : BitVec 1 := Scalar.cmpi .ne v374 c0_i32_259
  let v376 : BitVec 1 := Scalar.andi v373 v375
  let v362 : BitVec 32 := Scalar.divsi v208 c2_i32_254
  let c1_i32_260 : BitVec 32 := 1#32
  let v377 : BitVec 32 := Scalar.subi v362 c1_i32_260
  let v378 : BitVec 32 := Scalar.select v376 v377 v362
  let v379 : BitVec 32 := Scalar.subi v378 c0_i32_262
  let c1_i32_263 : BitVec 32 := 1#32
  let v381 : BitVec 32 := Scalar.divsi v379 c1_i32_263
  let v382 : BitVec 32 := Scalar.muli v381 c1_i32_263
  let v383 : BitVec 32 := Scalar.addi c0_i32_262 v382
  let c1_i32_265 : BitVec 32 := 1#32
  let arg21 : BitVec 32 := Scf.iv v383 c1_i32_265 k0_t22
  let v472 : BitVec 32 := Scalar.muli c2_i32_335 arg21
  let v473 : BitVec 32 := Scalar.addi v472 c1_i32_336
  let c1_i32_342 : BitVec 32 := 1#32
  let v480 : BitVec 32 := Scalar.subi arg1 c1_i32_342
  let v481 : BitVec 1 := Scalar.cmpi .sge v473 v480
  let c16_i32_349 : BitVec 32 := 16#32
  let v486 : BitVec 32 := Scalar.subi arg1 v473
  let c8_i32_348 : BitVec 32 := 8#32
  let v487 : BitVec 32 := Scalar.muli v486 c8_i32_348
  let v488 : BitVec 32 := Scalar.addi c16_i32_349 v487
  let v489 : BitVec 32 := Scalar.addi v488 c0_i32_350
  let v490 : BitVec 32 := Scalar.select v481 v489 v473
  let v494 : Index := Scalar.indexCast v490
  let c0_355 : Index := 0#32
  let c0_356 : Index := 0#32
  ![v494.toNat, 0, 0]
def k0_mult11 (i : grid0.Coords) (k0_t22 : Fin (k0_t22_loop i).trips) : BitVec 32 :=
  let c2_i32_335 : BitVec 32 := 2#32
  let c0_i32_262 : BitVec 32 := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c0_i32_255 : BitVec 32 := 0#32
  let v363 : BitVec 1 := Scalar.cmpi .sgt v208 c0_i32_255
  let v364 : BitVec 32 := Scalar.extui v363
  let c0_i32_256 : BitVec 32 := 0#32
  let v365 : BitVec 1 := Scalar.cmpi .slt v208 c0_i32_256
  let v366 : BitVec 32 := Scalar.extui v365
  let v367 : BitVec 32 := Scalar.subi v364 v366
  let c2_i32_254 : BitVec 32 := 2#32
  let c0_i32_257 : BitVec 32 := 0#32
  let v368 : BitVec 1 := Scalar.cmpi .sgt c2_i32_254 c0_i32_257
  let v369 : BitVec 32 := Scalar.extui v368
  let c0_i32_258 : BitVec 32 := 0#32
  let v370 : BitVec 1 := Scalar.cmpi .slt c2_i32_254 c0_i32_258
  let v371 : BitVec 32 := Scalar.extui v370
  let v372 : BitVec 32 := Scalar.subi v369 v371
  let v373 : BitVec 1 := Scalar.cmpi .ne v367 v372
  let v374 : BitVec 32 := Scalar.remsi v208 c2_i32_254
  let c0_i32_259 : BitVec 32 := 0#32
  let v375 : BitVec 1 := Scalar.cmpi .ne v374 c0_i32_259
  let v376 : BitVec 1 := Scalar.andi v373 v375
  let v362 : BitVec 32 := Scalar.divsi v208 c2_i32_254
  let c1_i32_260 : BitVec 32 := 1#32
  let v377 : BitVec 32 := Scalar.subi v362 c1_i32_260
  let v378 : BitVec 32 := Scalar.select v376 v377 v362
  let v379 : BitVec 32 := Scalar.subi v378 c0_i32_262
  let c1_i32_263 : BitVec 32 := 1#32
  let v381 : BitVec 32 := Scalar.divsi v379 c1_i32_263
  let v382 : BitVec 32 := Scalar.muli v381 c1_i32_263
  let v383 : BitVec 32 := Scalar.addi c0_i32_262 v382
  let c1_i32_265 : BitVec 32 := 1#32
  let arg21 : BitVec 32 := Scf.iv v383 c1_i32_265 k0_t22
  let v472 : BitVec 32 := Scalar.muli c2_i32_335 arg21
  let c2_i32_524 : BitVec 32 := 2#32
  let v783 : BitVec 32 := Scalar.addi v472 c2_i32_524
  let c256_i32_528 : BitVec 32 := 256#32
  let v786 : BitVec 32 := Scalar.muli v783 c256_i32_528
  v786
def k0_off992 (i : grid0.Coords) (k0_t22 : Fin (k0_t22_loop i).trips) : Fin 4 → Nat :=
  let c0_532 : Index := 0#32
  let c2_i32_335 : BitVec 32 := 2#32
  let c0_i32_262 : BitVec 32 := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c0_i32_255 : BitVec 32 := 0#32
  let v363 : BitVec 1 := Scalar.cmpi .sgt v208 c0_i32_255
  let v364 : BitVec 32 := Scalar.extui v363
  let c0_i32_256 : BitVec 32 := 0#32
  let v365 : BitVec 1 := Scalar.cmpi .slt v208 c0_i32_256
  let v366 : BitVec 32 := Scalar.extui v365
  let v367 : BitVec 32 := Scalar.subi v364 v366
  let c2_i32_254 : BitVec 32 := 2#32
  let c0_i32_257 : BitVec 32 := 0#32
  let v368 : BitVec 1 := Scalar.cmpi .sgt c2_i32_254 c0_i32_257
  let v369 : BitVec 32 := Scalar.extui v368
  let c0_i32_258 : BitVec 32 := 0#32
  let v370 : BitVec 1 := Scalar.cmpi .slt c2_i32_254 c0_i32_258
  let v371 : BitVec 32 := Scalar.extui v370
  let v372 : BitVec 32 := Scalar.subi v369 v371
  let v373 : BitVec 1 := Scalar.cmpi .ne v367 v372
  let v374 : BitVec 32 := Scalar.remsi v208 c2_i32_254
  let c0_i32_259 : BitVec 32 := 0#32
  let v375 : BitVec 1 := Scalar.cmpi .ne v374 c0_i32_259
  let v376 : BitVec 1 := Scalar.andi v373 v375
  let v362 : BitVec 32 := Scalar.divsi v208 c2_i32_254
  let c1_i32_260 : BitVec 32 := 1#32
  let v377 : BitVec 32 := Scalar.subi v362 c1_i32_260
  let v378 : BitVec 32 := Scalar.select v376 v377 v362
  let v379 : BitVec 32 := Scalar.subi v378 c0_i32_262
  let c1_i32_263 : BitVec 32 := 1#32
  let v381 : BitVec 32 := Scalar.divsi v379 c1_i32_263
  let v382 : BitVec 32 := Scalar.muli v381 c1_i32_263
  let v383 : BitVec 32 := Scalar.addi c0_i32_262 v382
  let c1_i32_265 : BitVec 32 := 1#32
  let arg21 : BitVec 32 := Scf.iv v383 c1_i32_265 k0_t22
  let v472 : BitVec 32 := Scalar.muli c2_i32_335 arg21
  let c1_i32_525 : BitVec 32 := 1#32
  let v784 : BitVec 32 := Scalar.addi v472 c1_i32_525
  let v793 : Index := Scalar.indexCast v784
  let c0_533 : Index := 0#32
  let c0_534 : Index := 0#32
  ![0, v793.toNat, 0, 0]
def k0_cond8 (i : grid0.Coords) : BitVec 1 :=
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c2_i32_266 : BitVec 32 := 2#32
  let c0_i32_267 : BitVec 32 := 0#32
  let v384 : BitVec 1 := Scalar.cmpi .eq c2_i32_266 c0_i32_267
  let c1_i32_268 : BitVec 32 := 1#32
  let v385 : BitVec 32 := Scalar.select v384 c1_i32_268 c2_i32_266
  let v386 : BitVec 32 := Scalar.remsi v208 v385
  let c0_i32_270 : BitVec 32 := 0#32
  let v388 : BitVec 1 := Scalar.cmpi .slt v386 c0_i32_270
  let c0_i32_271 : BitVec 32 := 0#32
  let v389 : BitVec 1 := Scalar.cmpi .slt v385 c0_i32_271
  let v390 : BitVec 1 := Scalar.xori v388 v389
  let c0_i32_269 : BitVec 32 := 0#32
  let v387 : BitVec 1 := Scalar.cmpi .ne v386 c0_i32_269
  let v391 : BitVec 1 := Scalar.andi v390 v387
  let v392 : BitVec 32 := Scalar.addi v386 v385
  let v393 : BitVec 32 := Scalar.select v391 v392 v386
  let c1_i32_272 : BitVec 32 := 1#32
  let v394 : BitVec 1 := Scalar.cmpi .eq v393 c1_i32_272
  let v395 : BitVec 32 := Scalar.extui v394
  let c0_i32_273 : BitVec 32 := 0#32
  let v396 : BitVec 1 := Scalar.cmpi .ne v395 c0_i32_273
  v396

def k0_mult12 (i : grid0.Coords) : BitVec 32 :=
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c256_i32_338 : BitVec 32 := 256#32
  let v474 : BitVec 32 := Scalar.muli v208 c256_i32_338
  v474
def k0_off993 (i : grid0.Coords) : Fin 3 → Nat :=
  let c0_339 : Index := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c256_i32_338 : BitVec 32 := 256#32
  let v474 : BitVec 32 := Scalar.muli v208 c256_i32_338
  let v475 : BitVec 32 := v474
  let v476 : Index := Scalar.indexCast v475
  let c0_340 : Index := 0#32
  ![0, v476.toNat, 0]
def k0_off994 (i : grid0.Coords) : Fin 4 → Nat :=
  let c0_342 : Index := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c1_i32_335 : BitVec 32 := 1#32
  let v472 : BitVec 32 := Scalar.subi v208 c1_i32_335
  let v481 : Index := Scalar.indexCast v472
  let c0_343 : Index := 0#32
  let c0_344 : Index := 0#32
  ![0, v481.toNat, 0, 0]
def k0_off995 (i : grid0.Coords) (c0_i32_349 : BitVec 32) : Fin 3 → Nat :=
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c1_i32_341 : BitVec 32 := 1#32
  let v479 : BitVec 32 := Scalar.subi arg1 c1_i32_341
  let v480 : BitVec 1 := Scalar.cmpi .sge v208 v479
  let c16_i32_348 : BitVec 32 := 16#32
  let v485 : BitVec 32 := Scalar.subi arg1 v208
  let c8_i32_347 : BitVec 32 := 8#32
  let v486 : BitVec 32 := Scalar.muli v485 c8_i32_347
  let v487 : BitVec 32 := Scalar.addi c16_i32_348 v486
  let v488 : BitVec 32 := Scalar.addi v487 c0_i32_349
  let v489 : BitVec 32 := Scalar.select v480 v488 v208
  let v493 : Index := Scalar.indexCast v489
  let c0_354 : Index := 0#32
  let c0_355 : Index := 0#32
  ![v493.toNat, 0, 0]
def k0_off996 (i : grid0.Coords) : Fin 4 → Nat :=
  let c0_525 : Index := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let v783 : Index := Scalar.indexCast v208
  let c0_526 : Index := 0#32
  let c0_527 : Index := 0#32
  ![0, v783.toNat, 0, 0]
def k0_cond9 (i : grid0.Coords) : BitVec 1 :=
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let c2_i32_274 : BitVec 32 := 2#32
  let c0_i32_275 : BitVec 32 := 0#32
  let v397 : BitVec 1 := Scalar.cmpi .eq c2_i32_274 c0_i32_275
  let c1_i32_276 : BitVec 32 := 1#32
  let v398 : BitVec 32 := Scalar.select v397 c1_i32_276 c2_i32_274
  let v399 : BitVec 32 := Scalar.remsi v208 v398
  let c0_i32_278 : BitVec 32 := 0#32
  let v401 : BitVec 1 := Scalar.cmpi .slt v399 c0_i32_278
  let c0_i32_279 : BitVec 32 := 0#32
  let v402 : BitVec 1 := Scalar.cmpi .slt v398 c0_i32_279
  let v403 : BitVec 1 := Scalar.xori v401 v402
  let c0_i32_277 : BitVec 32 := 0#32
  let v400 : BitVec 1 := Scalar.cmpi .ne v399 c0_i32_277
  let v404 : BitVec 1 := Scalar.andi v403 v400
  let v405 : BitVec 32 := Scalar.addi v399 v398
  let v406 : BitVec 32 := Scalar.select v404 v405 v399
  let c0_i32_280 : BitVec 32 := 0#32
  let v407 : BitVec 1 := Scalar.cmpi .eq v406 c0_i32_280
  let v408 : BitVec 32 := Scalar.extui v407
  let c0_i32_281 : BitVec 32 := 0#32
  let v409 : BitVec 1 := Scalar.cmpi .ne v408 c0_i32_281
  v409

def k0_off997 (i : grid0.Coords) : Fin 4 → Nat :=
  let c0_337 : Index := 0#32
  let arg1 : BitVec 32 := BitVec.ofNat 32 (i 1).val
  let c1_i32 : BitVec 32 := 1#32
  let v0 : BitVec 32 := Scalar.addi arg1 c1_i32
  let c1_i32_128 : BitVec 32 := 1#32
  let v208 : BitVec 32 := Scalar.subi v0 c1_i32_128
  let v473 : Index := Scalar.indexCast v208
  let c0_338 : Index := 0#32
  let c0_339 : Index := 0#32
  ![0, v473.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x80x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.Row.lean ====
/-
  One row of the layer's second half as a function of that row alone, over the extended reals: the gates, the two
  branch projections, the merged branch, the residual sums, the feed-forward part and the closing normalisation.
-/
module

public import Idealize.ShloMosaic.Lib.Pointwise

@[expose] public section

noncomputable section

namespace Cert.Row

open Idealize.ShloMosaic

/-- The reciprocal root mean square of a row of 1024 numbers: one over the root of the mean of the squares plus a
    small constant. -/
def invRms (x : Fin 1024 → EReal) : EReal :=
  Ideal.rsqrt (Ideal.div (∑ k, x k * x k) (Ideal.ofBits .f32 0x44800000#32) + Ideal.ofBits .f32 0x358637BD#32)

/-- A row normalised by its root mean square and scaled entry by entry by `g`. -/
def norm (x g : Fin 1024 → EReal) (d : Fin 1024) : EReal := x d * invRms x * g d

/-- A row times a matrix. -/
def lin {K N : Nat} (h : Fin K → EReal) (w : Fin K → Fin N → EReal) (j : Fin N) : EReal := ∑ k, h k * w k j

/-- The gates of a normalised row: the logistic function of its product with the gate weights plus the gate bias. -/
def gates (h : Fin 1024 → EReal) (w : Fin 1024 → Fin 2048 → EReal) (b : Fin 2048 → EReal) (j : Fin 2048) : EReal :=
  Ideal.logistic (lin h w j + b j)

/-- The two branches merged under their gates: the first half of the gates weighs the first branch, the second half
    the second. -/
def merged (g : Fin 2048 → EReal) (ya yb : Fin 1024 → EReal) (d : Fin 1024) : EReal :=
  g ⟨d.val, by omega⟩ * ya d + g ⟨1024 + d.val, by omega⟩ * yb d

/-- The gated linear unit of the feed-forward part: silu of one projection times the other. -/
def swiglu (h : Fin 1024 → EReal) (wg wu : Fin 1024 → Fin 2816 → EReal) (j : Fin 2816) : EReal :=
  lin h wg j * Ideal.logistic (lin h wg j) * lin h wu j

/-- A row after the merged branches are projected and added to it. -/
def afterMix (x : Fin 1024 → EReal) (g : Fin 2048 → EReal) (ya yb : Fin 1024 → EReal)
    (wo : Fin 1024 → Fin 1024 → EReal) (d : Fin 1024) : EReal := x d + lin (merged g ya yb) wo d

/-- A row after the feed-forward part of its normalised form `h` is added to it. -/
def afterFfn (x h : Fin 1024 → EReal) (wg wu : Fin 1024 → Fin 2816 → EReal) (wd : Fin 2816 → Fin 1024 → EReal)
    (d : Fin 1024) : EReal := x d + lin (swiglu h wg wu) wd d

/-- The whole row function: gates of the normalised row, branches merged, residual, feed-forward, residual, last
    normalisation. -/
def out (x : Fin 1024 → EReal) (mix att : Fin 512 → EReal) (gm : Fin 1024 → EReal)
    (wg : Fin 1024 → Fin 2048 → EReal) (bg : Fin 2048 → EReal) (wa wb : Fin 512 → Fin 1024 → EReal)
    (wo : Fin 1024 → Fin 1024 → EReal) (gf : Fin 1024 → EReal) (wfg wfu : Fin 1024 → Fin 2816 → EReal)
    (wfd : Fin 2816 → Fin 1024 → EReal) (gfin : Fin 1024 → EReal) : Fin 1024 → EReal :=
  let x1 := afterMix x (gates (norm x gm) wg bg) (lin mix wa) (lin att wb) wo
  norm (afterFfn x1 (norm x1 gf) wfg wfu wfd) gfin

end Cert.Row

end
-- ==== Proof.Block.lean ====
/-
  The merge kernel's block read row by row: every value its body computes over a half block of 256 rows, at a row and a
  column, as the row functions of Row.lean of that half block's row; and the block of 512 rows it leaves, which is the
  whole row function of every row.
-/
module

public import proofs.«01_k».proof.Proof.Gen.KernelIdeal.Frame
public import Idealize.ShloMosaic.Lib.Pipeline.Value
public import proofs.«01_k».proof.Proof.Row

@[expose] public section

set_option maxRecDepth 16384

noncomputable section

namespace Cert.MergeBlock

open Cert.KernelIdeal Cert.KernelIdeal.Gen Idealize.ShloMosaic

/-- The stored upper half: the normalised row, the squares given. -/
theorem pay1_apply (a : FVec Ideal S256x1024 .f32) (g : FVec Ideal S1x1024 .f32) (r : Fin 256) (d : Fin 1024) :
    k0_pay1 a g (mulf a a) (ix3 0 r d) = Row.norm (fun k => a (ix2 r k)) (fun k => g (ix2 0 k)) d := by
  pointwise [k0_pay1, Row.norm, Row.invRms]

/-- The stored lower half: the normalised row. -/
theorem pay2_apply (a : FVec Ideal S256x1024 .f32) (g : Vec Ideal S1x1024 .f32) (r : Fin 256) (d : Fin 1024) :
    k0_pay2 a g (ix3 0 r d) = Row.norm (fun k => a (ix2 r k)) (fun k => g (ix2 0 k)) d := by
  pointwise [k0_pay2, Row.norm, Row.invRms]

/-- The upper half's block as a matrix. -/
theorem pay3_apply (x : Vec Ideal S1x256x1024 .f32) (r : Fin 256) (d : Fin 1024) :
    k0_pay3 x (ix2 r d) = x (ix3 0 r d) := by
  pointwise [k0_pay3]

/-- The lower half's block as a matrix. -/
theorem pay4_apply (x : Vec Ideal S1x256x1024 .f32) (r : Fin 256) (d : Fin 1024) :
    k0_pay4 x (ix2 r d) = x (ix3 0 r d) := by
  pointwise [k0_pay4]

/-- The lower half's first normalisation. -/
theorem pay5_apply (x : Vec Ideal S1x256x1024 .f32) (g : Vec Ideal S1x1024 .f32) (r : Fin 256) (d : Fin 1024) :
    k0_pay5 x g (ix2 r d) = Row.norm (fun k => x (ix3 0 r k)) (fun k => g (ix2 0 k)) d := by
  pointwise [k0_pay5, k0_pay4, Row.norm, Row.invRms]

/-- The upper half's gates. -/
theorem gate0_apply (x : Vec Ideal S1x256x1024 .f32) (g : Vec Ideal S1x1024 .f32) (w : Vec Ideal S1024x2048 .bf16) (b : Vec Ideal S1x2048 .f32) (r : Fin 256) (d : Fin 2048) :
    k0_pay7 (k0_pay6 x g w) b (ix2 r d) = Row.gates (Row.norm (fun k => x (ix3 0 r k)) (fun k => g (ix2 0 k))) (fun k j => w (ix2 k j)) (fun k => b (ix2 0 k)) d := by
  pointwise [k0_pay7, k0_pay6, k0_pay3, Row.gates, Row.lin, Row.norm, Row.invRms]

/-- The lower half's gates. -/
theorem gate1_apply (h : FVec Ideal S256x1024 .bf16) (w : Vec Ideal S1024x2048 .bf16) (b : Vec Ideal S1x2048 .f32) (r : Fin 256) (d : Fin 2048) :
    k0_pay8 h w b (ix2 r d) = Row.gates (fun k => h (ix2 r k)) (fun k j => w (ix2 k j)) (fun k => b (ix2 0 k)) d := by
  pointwise [k0_pay8, Row.gates, Row.lin]

/-- The upper half of the first branch projected. -/
theorem pay9_apply (x : Vec Ideal S1x256x512 .bf16) (w : Vec Ideal S512x1024 .bf16) (r : Fin 256) (d : Fin 1024) :
    k0_pay9 x w (ix2 r d) = Row.lin (fun k => x (ix3 0 r k)) (fun k j => w (ix2 k j)) d := by
  pointwise [k0_pay9, Row.lin]

/-- The lower half of the first branch projected. -/
theorem pay10_apply (x : Vec Ideal S1x256x512 .bf16) (w : Vec Ideal S512x1024 .bf16) (r : Fin 256) (d : Fin 1024) :
    k0_pay10 x w (ix2 r d) = Row.lin (fun k => x (ix3 0 r k)) (fun k j => w (ix2 k j)) d := by
  pointwise [k0_pay10, Row.lin]

/-- The upper half of the second branch projected. -/
theorem pay11_apply (x : Vec Ideal S1x256x512 .bf16) (w : Vec Ideal S512x1024 .bf16) (r : Fin 256) (d : Fin 1024) :
    k0_pay11 x w (ix2 r d) = Row.lin (fun k => x (ix3 0 r k)) (fun k j => w (ix2 k j)) d := by
  pointwise [k0_pay11, Row.lin]

/-- The upper half after the merged branches are added. -/
theorem pay14_apply (a : FVec Ideal S256x1024 .f32) (g : FVec Ideal S256x2048 .f32) (ya yb : FVec Ideal S256x1024 .f32) (w : Vec Ideal S1024x1024 .bf16) (r : Fin 256) (d : Fin 1024) :
    k0_pay14 a g ya yb w (ix2 r d) = Row.afterMix (fun k => a (ix2 r k)) (fun k => g (ix2 r k)) (fun k => ya (ix2 r k)) (fun k => yb (ix2 r k)) (fun k j => w (ix2 k j)) d := by
  pointwise [k0_pay14, Row.afterMix, Row.merged, Row.lin]

/-- The lower half after the merged branches are added, the second branch projected in place. -/
theorem pay15_apply (a : FVec Ideal S256x1024 .f32) (g : FVec Ideal S256x2048 .f32) (ya : FVec Ideal S256x1024 .f32) (x : Vec Ideal S1x256x512 .bf16) (v : Vec Ideal S512x1024 .bf16) (w : Vec Ideal S1024x1024 .bf16) (r : Fin 256) (d : Fin 1024) :
    k0_pay15 a g ya (k0_pay12 x) (k0_pay13 v) w (ix2 r d) = Row.afterMix (fun k => a (ix2 r k)) (fun k => g (ix2 r k)) (fun k => ya (ix2 r k)) (Row.lin (fun k => x (ix3 0 r k)) (fun k j => v (ix2 k j))) (fun k j => w (ix2 k j)) d := by
  pointwise [k0_pay15, k0_pay12, k0_pay13, Row.afterMix, Row.merged, Row.lin]

/-- The upper half's second normalisation. -/
theorem pay16_apply (a : FVec Ideal S256x1024 .f32) (g : FVec Ideal S256x2048 .f32) (ya yb : FVec Ideal S256x1024 .f32) (w : Vec Ideal S1024x1024 .bf16) (gf : Vec Ideal S1x1024 .f32) (r : Fin 256) (d : Fin 1024) :
    k0_pay16 a g ya yb w gf (ix2 r d) = Row.norm (fun k => k0_pay14 a g ya yb w (ix2 r k)) (fun k => gf (ix2 0 k)) d := by
  pointwise [k0_pay16, Row.norm, Row.invRms]

/-- The upper half after the feed-forward part is added. -/
theorem pay19_apply (a : FVec Ideal S256x1024 .f32) (h : FVec Ideal S256x1024 .bf16) (wg wu : Vec Ideal S1024x2816 .bf16) (wd : Vec Ideal S2816x1024 .bf16) (r : Fin 256) (d : Fin 1024) :
    k0_pay19 a h wg wu wd (ix2 r d) = Row.afterFfn (fun k => a (ix2 r k)) (fun k => h (ix2 r k)) (fun k j => wg (ix2 k j)) (fun k j => wu (ix2 k j)) (fun k j => wd (ix2 k j)) d := by
  pointwise [k0_pay19, Row.afterFfn, Row.swiglu, Row.lin]

/-- The lower half after the feed-forward part of its normalised form is added. -/
theorem pay20_apply (a : FVec Ideal S256x1024 .f32) (g : FVec Ideal S256x2048 .f32) (ya : FVec Ideal S256x1024 .f32) (x : FVec Ideal S256x512 .bf16) (v : FVec Ideal S512x1024 .bf16) (w : Vec Ideal S1024x1024 .bf16) (gf : Vec Ideal S1x1024 .f32) (wg wu : Vec Ideal S1024x2816 .bf16) (wd : Vec Ideal S2816x1024 .bf16) (r : Fin 256) (d : Fin 1024) :
    k0_pay20 (k0_pay15 a g ya x v w) (k0_pay17 gf) (k0_pay18 a g ya x v w) (Scalar.ofBits .f32 0x358637BD#32) wg wu wd (ix2 r d) = Row.afterFfn (fun k => k0_pay15 a g ya x v w (ix2 r k)) (Row.norm (fun k => k0_pay15 a g ya x v w (ix2 r k)) (fun k => gf (ix2 0 k))) (fun k j => wg (ix2 k j)) (fun k j => wu (ix2 k j)) (fun k j => wd (ix2 k j)) d := by
  pointwise [k0_pay20, k0_pay17, k0_pay18, Row.afterFfn, Row.swiglu, Row.lin, Row.norm, Row.invRms]

/-- An index of a half block names its row and its column. -/
theorem half_idx (x : S1x256x1024.Idx) : ∃ (r : Fin 256) (d : Fin 1024), x = ix3 0 r d :=
  ⟨x 1, x 2, by idx_vars x; rw [Subsingleton.elim x0 0]⟩

/-- The upper half's place in the block of 512 rows: its own rows. -/
theorem emb0 (r : Fin 256) (d : Fin 1024) : r0_0.emb (ix3 0 r d) = ix3 0 ⟨r.val, by omega⟩ d := by
  show r0_0.toLoadRect.idx _ = _
  pointwise

/-- The lower half's place in the block of 512 rows: 256 rows down. -/
theorem emb1 (r : Fin 256) (d : Fin 1024) : r0_1.emb (ix3 0 r d) = ix3 0 ⟨256 + r.val, by omega⟩ d := by
  show r0_1.toLoadRect.idx _ = _
  pointwise

section
variable (x0 : Vec Ideal S1x512x1024 .f32) (x1 : Vec Ideal S1x512x512 .bf16) (x2 : Vec Ideal S1x512x512 .bf16) (x3 : Vec Ideal S1x1024 .f32) (x4 : Vec Ideal S1024x2048 .bf16) (x5 : Vec Ideal S1x2048 .f32) (x6 : Vec Ideal S512x1024 .bf16) (x7 : Vec Ideal S512x1024 .bf16) (x8 : Vec Ideal S1024x1024 .bf16) (x9 : Vec Ideal S1x1024 .f32) (x10 : Vec Ideal S1024x2816 .bf16) (x11 : Vec Ideal S1024x2816 .bf16) (x12 : Vec Ideal S2816x1024 .bf16) (x13 : Vec Ideal S1x1024 .f32)

/-- The block of 512 rows the body is shown to leave: the row function of each row of the three row inputs' blocks, with the
    weights' blocks. -/
def block (y : S1x512x1024.Idx) : EReal :=
  Row.out (fun k => x0 (ix3 0 (y 1) k)) (fun k => x1 (ix3 0 (y 1) k)) (fun k => x2 (ix3 0 (y 1) k)) (fun k => x3 (ix2 0 k))
    (fun k j => x4 (ix2 k j)) (fun k => x5 (ix2 0 k)) (fun k j => x6 (ix2 k j)) (fun k j => x7 (ix2 k j))
    (fun k j => x8 (ix2 k j)) (fun k => x9 (ix2 0 k)) (fun k j => x10 (ix2 k j)) (fun k j => x11 (ix2 k j))
    (fun k j => x12 (ix2 k j)) (fun k => x13 (ix2 0 k)) (y 2)

/-- The block the body leaves is the row function of every row: the upper 256 rows by its first store, the lower 256 by
    its second. -/
theorem out_eq (y : S1x512x1024.Idx) : out0_14 x0 x1 x2 x3 x4 x5 x6 x7 x8 x9 x10 x11 x12 x13 y = block x0 x1 x2 x3 x4 x5 x6 x7 x8 x9 x10 x11 x12 x13 y := by
  unfold out0_14
  refine View.canon_apply_of_pieces (Val := Elt Ideal) (block x0 x1 x2 x3 x4 x5 x6 x7 x8 x9 x10 x11 x12 x13) _ ?_ y (cover0_14 _ _ y)
  intro p hp
  simp only [List.mem_cons, List.not_mem_nil, or_false] at hp
  rcases hp with rfl | rfl
  · intro x
    obtain ⟨r, d, rfl⟩ := half_idx x
    unfold k0_pay24 k0_pay26 k0_pay28 k0_pay30 k0_pay31
    simp only [pay2_apply, pay20_apply, pay15_apply, pay4_apply, gate1_apply, pay5_apply, pay10_apply]
    rw [emb1]
    pointwise
    rfl
  · intro x
    obtain ⟨r, d, rfl⟩ := half_idx x
    unfold k0_pay33 k0_pay32 k0_pay29 k0_pay27 k0_pay25 k0_pay23 k0_pay22 k0_pay21
    simp only [pay1_apply, pay19_apply, pay16_apply, pay14_apply, pay3_apply, gate0_apply, pay9_apply, pay11_apply]
    rw [emb0]
    pointwise
    rfl
end

end Cert.MergeBlock

end
-- ==== Proof.Whole.lean ====
/-
  The array the layer's second half computes, as one function of its fourteen argument arrays: at batch `b`, position `s`
  and column `d`, the row function of Row.lean of the rows at `(b, s)`.
-/
module

public import proofs.«01_k».proof.Proof.Row

@[expose] public section

noncomputable section

namespace Cert.Row

open Idealize.ShloMosaic

/-- The whole result array from the arguments: the two gate blocks are columns 2760 … 4807 of the input projection. -/
def whole (x : Vec Ideal ⟨3, ![8, 4096, 1024]⟩ .f32) (mix att : Vec Ideal ⟨3, ![8, 4096, 512]⟩ .bf16)
    (gm : Vec Ideal ⟨2, ![1, 1024]⟩ .f32) (wi : Vec Ideal ⟨3, ![1, 1024, 4808]⟩ .f32) (bg : Vec Ideal ⟨2, ![1, 2048]⟩ .f32)
    (wa wb : Vec Ideal ⟨3, ![1, 512, 1024]⟩ .f32) (wo : Vec Ideal ⟨3, ![1, 1024, 1024]⟩ .f32)
    (gf : Vec Ideal ⟨2, ![1, 1024]⟩ .f32) (wfg wfu : Vec Ideal ⟨3, ![1, 1024, 2816]⟩ .f32)
    (wfd : Vec Ideal ⟨3, ![1, 2816, 1024]⟩ .f32) (gfin : Vec Ideal ⟨1, ![1024]⟩ .f32) :
    Vec Ideal ⟨3, ![8, 4096, 1024]⟩ .f32 := fun i =>
  out (fun k => x (ix3 (i 0) (i 1) k)) (fun k => mix (ix3 (i 0) (i 1) k)) (fun k => att (ix3 (i 0) (i 1) k))
    (fun k => gm (ix2 0 k)) (fun k j => wi (ix3 0 k ⟨2760 + j.val, by omega⟩)) (fun k => bg (ix2 0 k))
    (fun k j => wa (ix3 0 k j)) (fun k j => wb (ix3 0 k j)) (fun k j => wo (ix3 0 k j)) (fun k => gf (ix2 0 k))
    (fun k j => wfg (ix3 0 k j)) (fun k j => wfu (ix3 0 k j)) (fun k j => wfd (ix3 0 k j)) (fun k => gfin (ix1 k)) (i 2)

end Cert.Row

end
-- ==== Proof.Array.lean ====
/-
  The merge kernel's result array at the ideal values: its 64 blocks of 512 rows tile the result, each the row function of
  the argument rows it stages, so the array is the whole function of the arguments (Whole.lean).
-/
module

public import proofs.«01_k».proof.Proof.Gen.KernelIdeal.Value
public import proofs.«01_k».proof.Proof.Block
public import proofs.«01_k».proof.Proof.Whole
public import Idealize.ShloMosaic.Lib.StableHlo.Run

@[expose] public section

set_option maxRecDepth 16384

noncomputable section

namespace Cert.MergeArray

open Cert.KernelIdeal Cert.KernelIdeal.Gen Idealize.ShloMosaic Idealize.ShloMosaic.TcCoe Idealize.SL.Sem
open Idealize.ShloMosaic.StableHlo
open Idealize.ShloMosaic.Pipeline (Dat)

/-- An index of a block of 512 rows names its row and its column. -/
theorem block_idx (x : S1x512x1024.Idx) : ∃ (r : Fin 512) (d : Fin 1024), x = ix3 0 r d :=
  ⟨x 1, x 2, by idx_vars x; rw [Subsingleton.elim x0 0]⟩

variable (m : (ℓ : Loc nD τ sig) → Buf (Elt Ideal) ℓ) (ρ : Dev nD → PrngReg)

/-- What the region finds in the prepared array `main_v15`, at an index, of the arguments. -/
theorem V_v15 (c : Dev nD) (k : Fin 1024) :
    (V m c main_v15 : Vec Ideal _ _) (ix2 0 k) = (m ((c : Thread nD τ).loc main_arg3) : Vec Ideal _ _) (ix2 0 k) := by
  unfold_abbrev_sides
  after_results
  pointwise

/-- What the region finds in the prepared array `main_v13`, at an index, of the arguments. -/
theorem V_v13 (c : Dev nD) (k : Fin 1024) (j : Fin 2048) :
    (V m c main_v13 : Vec Ideal _ _) (ix2 k j) = (m ((c : Thread nD τ).loc main_arg4) : Vec Ideal _ _) (ix3 0 k ⟨2760 + j.val, by omega⟩) := by
  unfold_abbrev_sides
  after_results
  pointwise
  split
  · rfl
  · refine congrArg (m _) ?_
    congr 1
    exact Fin.ext (by show 3784 + (j.val - 1024) = 2760 + j.val; omega)

/-- What the region finds in the prepared array `main_v17`, at an index, of the arguments. -/
theorem V_v17 (c : Dev nD) (k : Fin 2048) :
    (V m c main_v17 : Vec Ideal _ _) (ix2 0 k) = (m ((c : Thread nD τ).loc main_arg5) : Vec Ideal _ _) (ix2 0 k) := by
  unfold_abbrev_sides
  after_results
  pointwise

/-- What the region finds in the prepared array `main_v19`, at an index, of the arguments. -/
theorem V_v19 (c : Dev nD) (k : Fin 512) (j : Fin 1024) :
    (V m c main_v19 : Vec Ideal _ _) (ix2 k j) = (m ((c : Thread nD τ).loc main_arg6) : Vec Ideal _ _) (ix3 0 k j) := by
  unfold_abbrev_sides
  after_results
  pointwise

/-- What the region finds in the prepared array `main_v21`, at an index, of the arguments. -/
theorem V_v21 (c : Dev nD) (k : Fin 512) (j : Fin 1024) :
    (V m c main_v21 : Vec Ideal _ _) (ix2 k j) = (m ((c : Thread nD τ).loc main_arg7) : Vec Ideal _ _) (ix3 0 k j) := by
  unfold_abbrev_sides
  after_results
  pointwise

/-- What the region finds in the prepared array `main_v23`, at an index, of the arguments. -/
theorem V_v23 (c : Dev nD) (k : Fin 1024) (j : Fin 1024) :
    (V m c main_v23 : Vec Ideal _ _) (ix2 k j) = (m ((c : Thread nD τ).loc main_arg8) : Vec Ideal _ _) (ix3 0 k j) := by
  unfold_abbrev_sides
  after_results
  pointwise

/-- What the region finds in the prepared array `main_v25`, at an index, of the arguments. -/
theorem V_v25 (c : Dev nD) (k : Fin 1024) :
    (V m c main_v25 : Vec Ideal _ _) (ix2 0 k) = (m ((c : Thread nD τ).loc main_arg9) : Vec Ideal _ _) (ix2 0 k) := by
  unfold_abbrev_sides
  after_results
  pointwise

/-- What the region finds in the prepared array `main_v27`, at an index, of the arguments. -/
theorem V_v27 (c : Dev nD) (k : Fin 1024) (j : Fin 2816) :
    (V m c main_v27 : Vec Ideal _ _) (ix2 k j) = (m ((c : Thread nD τ).loc main_arg10) : Vec Ideal _ _) (ix3 0 k j) := by
  unfold_abbrev_sides
  after_results
  pointwise

/-- What the region finds in the prepared array `main_v29`, at an index, of the arguments. -/
theorem V_v29 (c : Dev nD) (k : Fin 1024) (j : Fin 2816) :
    (V m c main_v29 : Vec Ideal _ _) (ix2 k j) = (m ((c : Thread nD τ).loc main_arg11) : Vec Ideal _ _) (ix3 0 k j) := by
  unfold_abbrev_sides
  after_results
  pointwise

/-- What the region finds in the prepared array `main_v31`, at an index, of the arguments. -/
theorem V_v31 (c : Dev nD) (k : Fin 2816) (j : Fin 1024) :
    (V m c main_v31 : Vec Ideal _ _) (ix2 k j) = (m ((c : Thread nD τ).loc main_arg12) : Vec Ideal _ _) (ix3 0 k j) := by
  unfold_abbrev_sides
  after_results
  pointwise

/-- What the region finds in the prepared array `main_v32`, at an index, of the arguments. -/
theorem V_v32 (c : Dev nD) (k : Fin 1024) :
    (V m c main_v32 : Vec Ideal _ _) (ix2 0 k) = (m ((c : Thread nD τ).loc main_arg13) : Vec Ideal _ _) (ix1 k) := by
  unfold_abbrev_sides
  after_results
  pointwise

/-- Window 0's block index at point `t`: batch `t / 8`, row block `t % 8`. -/
theorem idx0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- Window 0's block at point `t`: rows `512 (t % 8)` on of batch `t / 8` of argument 0. -/
theorem iblk0 (c : Dev nD) (t : Fin cfg0.N) (r : Fin 512) (k : Fin 1024) (hb : t.val / 8 < 8) (hs : t.val % 8 * 512 + r.val < 4096) :
    (iblk m c 0 t : Vec Ideal S1x512x1024 _) (ix3 0 r k)
      = (m ((c : Thread nD τ).loc main_arg0) : Vec Ideal S8x4096x1024 _) (ix3 ⟨t.val / 8, hb⟩ ⟨t.val % 8 * 512 + r.val, hs⟩ k) := by
  show (V m c main_arg0 : Vec Ideal S8x4096x1024 _) ((win0_0.rect t).emb (ix3 0 r k)) = _
  rw [V_main_arg0]
  congr 1
  obtain ⟨h0, h1, h2⟩ := idx0 t
  funext a
  match a with
  | ⟨0, _⟩ => exact Fin.ext (by show win0_0.index t 0 * 1 + 1 * 0 = t.val / 8; omega)
  | ⟨1, _⟩ => exact Fin.ext (by show win0_0.index t 1 * 512 + 1 * r.val = t.val % 8 * 512 + r.val; omega)
  | ⟨2, _⟩ => exact Fin.ext (by show win0_0.index t 2 * 1024 + 1 * k.val = k.val; omega)

/-- Window 1's block index at point `t`: batch `t / 8`, row block `t % 8`. -/
theorem idx1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)

/-- Window 1's block at point `t`: rows `512 (t % 8)` on of batch `t / 8` of argument 1. -/
theorem iblk1 (c : Dev nD) (t : Fin cfg0.N) (r : Fin 512) (k : Fin 512) (hb : t.val / 8 < 8) (hs : t.val % 8 * 512 + r.val < 4096) :
    (iblk m c 1 t : Vec Ideal S1x512x512 _) (ix3 0 r k)
      = (m ((c : Thread nD τ).loc main_arg1) : Vec Ideal S8x4096x512 _) (ix3 ⟨t.val / 8, hb⟩ ⟨t.val % 8 * 512 + r.val, hs⟩ k) := by
  show (V m c main_arg1 : Vec Ideal S8x4096x512 _) ((win0_1.rect t).emb (ix3 0 r k)) = _
  rw [V_main_arg1]
  congr 1
  obtain ⟨h0, h1, h2⟩ := idx1 t
  funext a
  match a with
  | ⟨0, _⟩ => exact Fin.ext (by show win0_1.index t 0 * 1 + 1 * 0 = t.val / 8; omega)
  | ⟨1, _⟩ => exact Fin.ext (by show win0_1.index t 1 * 512 + 1 * r.val = t.val % 8 * 512 + r.val; omega)
  | ⟨2, _⟩ => exact Fin.ext (by show win0_1.index t 2 * 512 + 1 * k.val = k.val; omega)

/-- Window 2's block index at point `t`: batch `t / 8`, row block `t % 8`. -/
theorem idx2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

/-- Window 2's block at point `t`: rows `512 (t % 8)` on of batch `t / 8` of argument 2. -/
theorem iblk2 (c : Dev nD) (t : Fin cfg0.N) (r : Fin 512) (k : Fin 512) (hb : t.val / 8 < 8) (hs : t.val % 8 * 512 + r.val < 4096) :
    (iblk m c 2 t : Vec Ideal S1x512x512 _) (ix3 0 r k)
      = (m ((c : Thread nD τ).loc main_arg2) : Vec Ideal S8x4096x512 _) (ix3 ⟨t.val / 8, hb⟩ ⟨t.val % 8 * 512 + r.val, hs⟩ k) := by
  show (V m c main_arg2 : Vec Ideal S8x4096x512 _) ((win0_2.rect t).emb (ix3 0 r k)) = _
  rw [V_main_arg2]
  congr 1
  obtain ⟨h0, h1, h2⟩ := idx2 t
  funext a
  match a with
  | ⟨0, _⟩ => exact Fin.ext (by show win0_2.index t 0 * 1 + 1 * 0 = t.val / 8; omega)
  | ⟨1, _⟩ => exact Fin.ext (by show win0_2.index t 1 * 512 + 1 * r.val = t.val % 8 * 512 + r.val; omega)
  | ⟨2, _⟩ => exact Fin.ext (by show win0_2.index t 2 * 512 + 1 * k.val = k.val; omega)

/-- Window 3's block at every point is its whole array, read here off argument 3. -/
theorem iblk3 (c : Dev nD) (t : Fin cfg0.N) (j : Fin 1024) :
    (iblk m c 3 t : Vec Ideal S1x1024 _) (ix2 0 j) = (m ((c : Thread nD τ).loc main_arg3) : Vec Ideal _ _) (ix2 0 j) := by
  refine Eq.trans ?_ (V_v15 m c j)
  show (V m c main_v15 : Vec Ideal S1x1024 _) ((win0_3.rect t).emb (ix2 0 j)) = (V m c main_v15 : Vec Ideal S1x1024 _) (ix2 0 j)
  congr 1
  funext a
  match a with
  | ⟨0, _⟩ => exact Fin.ext (by show 0 * 1 + 1 * 0 = 0; omega)
  | ⟨1, _⟩ => exact Fin.ext (by show 0 * 1024 + 1 * j.val = j.val; omega)

/-- Window 4's block at every point is its whole array, read here off argument 4. -/
theorem iblk4 (c : Dev nD) (t : Fin cfg0.N) (k : Fin 1024) (j : Fin 2048) :
    (iblk m c 4 t : Vec Ideal S1024x2048 _) (ix2 k j) = (m ((c : Thread nD τ).loc main_arg4) : Vec Ideal _ _) (ix3 0 k ⟨2760 + j.val, by omega⟩) := by
  refine Eq.trans ?_ (V_v13 m c k j)
  show (V m c main_v13 : Vec Ideal S1024x2048 _) ((win0_4.rect t).emb (ix2 k j)) = (V m c main_v13 : Vec Ideal S1024x2048 _) (ix2 k j)
  congr 1
  funext a
  match a with
  | ⟨0, _⟩ => exact Fin.ext (by show 0 * 1024 + 1 * k.val = k.val; omega)
  | ⟨1, _⟩ => exact Fin.ext (by show 0 * 2048 + 1 * j.val = j.val; omega)

/-- Window 5's block at every point is its whole array, read here off argument 5. -/
theorem iblk5 (c : Dev nD) (t : Fin cfg0.N) (j : Fin 2048) :
    (iblk m c 5 t : Vec Ideal S1x2048 _) (ix2 0 j) = (m ((c : Thread nD τ).loc main_arg5) : Vec Ideal _ _) (ix2 0 j) := by
  refine Eq.trans ?_ (V_v17 m c j)
  show (V m c main_v17 : Vec Ideal S1x2048 _) ((win0_5.rect t).emb (ix2 0 j)) = (V m c main_v17 : Vec Ideal S1x2048 _) (ix2 0 j)
  congr 1
  funext a
  match a with
  | ⟨0, _⟩ => exact Fin.ext (by show 0 * 1 + 1 * 0 = 0; omega)
  | ⟨1, _⟩ => exact Fin.ext (by show 0 * 2048 + 1 * j.val = j.val; omega)

/-- Window 6's block at every point is its whole array, read here off argument 6. -/
theorem iblk6 (c : Dev nD) (t : Fin cfg0.N) (k : Fin 512) (j : Fin 1024) :
    (iblk m c 6 t : Vec Ideal S512x1024 _) (ix2 k j) = (m ((c : Thread nD τ).loc main_arg6) : Vec Ideal _ _) (ix3 0 k j) := by
  refine Eq.trans ?_ (V_v19 m c k j)
  show (V m c main_v19 : Vec Ideal S512x1024 _) ((win0_6.rect t).emb (ix2 k j)) = (V m c main_v19 : Vec Ideal S512x1024 _) (ix2 k j)
  congr 1
  funext a
  match a with
  | ⟨0, _⟩ => exact Fin.ext (by show 0 * 512 + 1 * k.val = k.val; omega)
  | ⟨1, _⟩ => exact Fin.ext (by show 0 * 1024 + 1 * j.val = j.val; omega)

/-- Window 7's block at every point is its whole array, read here off argument 7. -/
theorem iblk7 (c : Dev nD) (t : Fin cfg0.N) (k : Fin 512) (j : Fin 1024) :
    (iblk m c 7 t : Vec Ideal S512x1024 _) (ix2 k j) = (m ((c : Thread nD τ).loc main_arg7) : Vec Ideal _ _) (ix3 0 k j) := by
  refine Eq.trans ?_ (V_v21 m c k j)
  show (V m c main_v21 : Vec Ideal S512x1024 _) ((win0_7.rect t).emb (ix2 k j)) = (V m c main_v21 : Vec Ideal S512x1024 _) (ix2 k j)
  congr 1
  funext a
  match a with
  | ⟨0, _⟩ => exact Fin.ext (by show 0 * 512 + 1 * k.val = k.val; omega)
  | ⟨1, _⟩ => exact Fin.ext (by show 0 * 1024 + 1 * j.val = j.val; omega)

/-- Window 8's block at every point is its whole array, read here off argument 8. -/
theorem iblk8 (c : Dev nD) (t : Fin cfg0.N) (k : Fin 1024) (j : Fin 1024) :
    (iblk m c 8 t : Vec Ideal S1024x1024 _) (ix2 k j) = (m ((c : Thread nD τ).loc main_arg8) : Vec Ideal _ _) (ix3 0 k j) := by
  refine Eq.trans ?_ (V_v23 m c k j)
  show (V m c main_v23 : Vec Ideal S1024x1024 _) ((win0_8.rect t).emb (ix2 k j)) = (V m c main_v23 : Vec Ideal S1024x1024 _) (ix2 k j)
  congr 1
  funext a
  match a with
  | ⟨0, _⟩ => exact Fin.ext (by show 0 * 1024 + 1 * k.val = k.val; omega)
  | ⟨1, _⟩ => exact Fin.ext (by show 0 * 1024 + 1 * j.val = j.val; omega)

/-- Window 9's block at every point is its whole array, read here off argument 9. -/
theorem iblk9 (c : Dev nD) (t : Fin cfg0.N) (j : Fin 1024) :
    (iblk m c 9 t : Vec Ideal S1x1024 _) (ix2 0 j) = (m ((c : Thread nD τ).loc main_arg9) : Vec Ideal _ _) (ix2 0 j) := by
  refine Eq.trans ?_ (V_v25 m c j)
  show (V m c main_v25 : Vec Ideal S1x1024 _) ((win0_9.rect t).emb (ix2 0 j)) = (V m c main_v25 : Vec Ideal S1x1024 _) (ix2 0 j)
  congr 1
  funext a
  match a with
  | ⟨0, _⟩ => exact Fin.ext (by show 0 * 1 + 1 * 0 = 0; omega)
  | ⟨1, _⟩ => exact Fin.ext (by show 0 * 1024 + 1 * j.val = j.val; omega)

/-- Window 10's block at every point is its whole array, read here off argument 10. -/
theorem iblk10 (c : Dev nD) (t : Fin cfg0.N) (k : Fin 1024) (j : Fin 2816) :
    (iblk m c 10 t : Vec Ideal S1024x2816 _) (ix2 k j) = (m ((c : Thread nD τ).loc main_arg10) : Vec Ideal _ _) (ix3 0 k j) := by
  refine Eq.trans ?_ (V_v27 m c k j)
  show (V m c main_v27 : Vec Ideal S1024x2816 _) ((win0_10.rect t).emb (ix2 k j)) = (V m c main_v27 : Vec Ideal S1024x2816 _) (ix2 k j)
  congr 1
  funext a
  match a with
  | ⟨0, _⟩ => exact Fin.ext (by show 0 * 1024 + 1 * k.val = k.val; omega)
  | ⟨1, _⟩ => exact Fin.ext (by show 0 * 2816 + 1 * j.val = j.val; omega)

/-- Window 11's block at every point is its whole array, read here off argument 11. -/
theorem iblk11 (c : Dev nD) (t : Fin cfg0.N) (k : Fin 1024) (j : Fin 2816) :
    (iblk m c 11 t : Vec Ideal S1024x2816 _) (ix2 k j) = (m ((c : Thread nD τ).loc main_arg11) : Vec Ideal _ _) (ix3 0 k j) := by
  refine Eq.trans ?_ (V_v29 m c k j)
  show (V m c main_v29 : Vec Ideal S1024x2816 _) ((win0_11.rect t).emb (ix2 k j)) = (V m c main_v29 : Vec Ideal S1024x2816 _) (ix2 k j)
  congr 1
  funext a
  match a with
  | ⟨0, _⟩ => exact Fin.ext (by show 0 * 1024 + 1 * k.val = k.val; omega)
  | ⟨1, _⟩ => exact Fin.ext (by show 0 * 2816 + 1 * j.val = j.val; omega)

/-- Window 12's block at every point is its whole array, read here off argument 12. -/
theorem iblk12 (c : Dev nD) (t : Fin cfg0.N) (k : Fin 2816) (j : Fin 1024) :
    (iblk m c 12 t : Vec Ideal S2816x1024 _) (ix2 k j) = (m ((c : Thread nD τ).loc main_arg12) : Vec Ideal _ _) (ix3 0 k j) := by
  refine Eq.trans ?_ (V_v31 m c k j)
  show (V m c main_v31 : Vec Ideal S2816x1024 _) ((win0_12.rect t).emb (ix2 k j)) = (V m c main_v31 : Vec Ideal S2816x1024 _) (ix2 k j)
  congr 1
  funext a
  match a with
  | ⟨0, _⟩ => exact Fin.ext (by show 0 * 2816 + 1 * k.val = k.val; omega)
  | ⟨1, _⟩ => exact Fin.ext (by show 0 * 1024 + 1 * j.val = j.val; omega)

/-- Window 13's block at every point is its whole array, read here off argument 13. -/
theorem iblk13 (c : Dev nD) (t : Fin cfg0.N) (j : Fin 1024) :
    (iblk m c 13 t : Vec Ideal S1x1024 _) (ix2 0 j) = (m ((c : Thread nD τ).loc main_arg13) : Vec Ideal _ _) (ix1 j) := by
  refine Eq.trans ?_ (V_v32 m c j)
  show (V m c main_v32 : Vec Ideal S1x1024 _) ((win0_13.rect t).emb (ix2 0 j)) = (V m c main_v32 : Vec Ideal S1x1024 _) (ix2 0 j)
  congr 1
  funext a
  match a with
  | ⟨0, _⟩ => exact Fin.ext (by show 0 * 1 + 1 * 0 = 0; omega)
  | ⟨1, _⟩ => exact Fin.ext (by show 0 * 1024 + 1 * j.val = j.val; omega)

/-- The result array the kernel is shown to leave on device `c`: the whole function of the arguments there. -/
abbrev result (c : Dev nD) : Buf (Elt Ideal) ((c : Thread nD τ).loc main_v33) :=
  Row.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The result window's block index at point `t`: batch `t / 8`, row block `t % 8`. -/
theorem idx14 : ∀ t : Fin cfg0.N, win0_14.index t 0 = t.val / 8 ∧ win0_14.index t 1 = t.val % 8 ∧ win0_14.index t 2 = 0 :=
  (by decide +kernel : ∀ t : Fin grid0.N, win0_14.index t 0 = t.val / 8 ∧ win0_14.index t 1 = t.val % 8 ∧ win0_14.index t 2 = 0)

/-- Where row `r`, column `d` of point `t`'s block lies in the result array. -/
theorem emb14 (t : Fin cfg0.N) (r : Fin 512) (d : Fin 1024) (hb : t.val / 8 < 8) (hs : t.val % 8 * 512 + r.val < 4096) :
    (win0_14.rect t).emb (ix3 0 r d) = (ix3 ⟨t.val / 8, hb⟩ ⟨t.val % 8 * 512 + r.val, hs⟩ d : S8x4096x1024.Idx) := by
  obtain ⟨h0, h1, h2⟩ := idx14 t
  funext a
  match a with
  | ⟨0, _⟩ => exact Fin.ext (by show win0_14.index t 0 * 1 + 1 * 0 = t.val / 8; omega)
  | ⟨1, _⟩ => exact Fin.ext (by show win0_14.index t 1 * 512 + 1 * r.val = t.val % 8 * 512 + r.val; omega)
  | ⟨2, _⟩ => exact Fin.ext (by show win0_14.index t 2 * 1024 + 1 * d.val = d.val; omega)

/-- What point `t` writes back is block `t` of the whole function of the arguments. -/
theorem flushed_eq (c : Dev nD) (t : Fin cfg0.N) :
    (dats m 0 c).flushed 14 t = (win0_14.blk t).view.read (Elt Ideal) (result m c) := by
  have hN : t.val < 64 := t.isLt.trans_eq N_0
  rw [Value.flushed14]
  funext y
  obtain ⟨r, d, rfl⟩ : ∃ (r : Fin 512) (d : Fin 1024), (y : S1x512x1024.Idx) = ix3 0 r d := block_idx y
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 0 r d) = result m c ((win0_14.rect t).emb (ix3 0 r d))
  have hb : t.val / 8 < 8 := by omega
  have hs : t.val % 8 * 512 + r.val < 4096 := by omega
  rw [MergeBlock.out_eq, emb14 t r d hb hs]
  unfold MergeBlock.block result Row.whole
  have e0 := fun k => iblk0 m c t r k hb hs
  have e1 := fun k => iblk1 m c t r k hb hs
  have e2 := fun k => iblk2 m c t r k hb hs
  simp only [ix3_0, ix3_1, ix3_2, e0, e1, e2, iblk3, iblk4, iblk5, iblk6, iblk7, iblk8, iblk9, iblk10, iblk11, iblk12, iblk13]

/-- Every index of the result array lies in the block of a point that writes back: batch `b`, row block `s / 512`. -/
theorem cover (i : S8x4096x1024.Idx) :
    ∃ t : Fin cfg0.N, (cfg0.win 14).flush t = true ∧ i ∈ ((cfg0.win 14).blk t).view.set := by
  idx_vars i
  have hN : cfg0.N = 64 := N_0
  have h0 := i0.isLt
  have h1 := i1.isLt
  refine ⟨⟨i0.val * 8 + i1.val / 512, by omega⟩, flush0_14 _, ?_⟩
  show _ ∈ ((View.whole main_v33).slice (win0_14.rect _)).set
  rw [View.set_slice_whole]
  have e := emb14 ⟨i0.val * 8 + i1.val / 512, by omega⟩ ⟨i1.val % 512, by omega⟩ i2 (by show (i0.val * 8 + i1.val / 512) / 8 < 8; omega)
    (by show (i0.val * 8 + i1.val / 512) % 8 * 512 + i1.val % 512 < 4096; omega)
  have e' : (ix3 ⟨(i0.val * 8 + i1.val / 512) / 8, by omega⟩ ⟨(i0.val * 8 + i1.val / 512) % 8 * 512 + i1.val % 512, by omega⟩ i2 : S8x4096x1024.Idx)
      = ix3 i0 i1 i2 := by
    congr 1
    · exact Fin.ext (by show (i0.val * 8 + i1.val / 512) / 8 = i0.val; omega)
    · exact Fin.ext (by show (i0.val * 8 + i1.val / 512) % 8 * 512 + i1.val % 512 = i1.val; omega)
  rw [← e', ← e]
  rw [← Rect.map_emb_univ]
  exact Finset.mem_map_of_mem _ (Finset.mem_univ _)

/-- So the result array ends holding the whole function of the arguments. -/
theorem final (c : Dev nD) : (dats m 0 c).arrAt 14 cfg0.N = result m c :=
  (dats m 0 c).arrAt_eq_of_cover 14 (result m c) (fun t _ => flushed_eq m c t) cover

end Cert.MergeArray

end
-- ==== Proof.Ref.lean ====
/-
  The reference read index by index: each array it names, at a batch, a position and a column, is the row function of
  Row.lean of the row there; so its result is the whole function of the arguments (Whole.lean).
-/
module

public import proofs.«01_k».proof.Proof.Gen.ReferenceIdeal.Run
public import proofs.«01_k».proof.Proof.Whole

@[expose] public section

set_option maxRecDepth 16384

noncomputable section

namespace Cert.RefRow

open Cert.ReferenceIdeal Cert.ReferenceIdeal.Gen Cert.ReferenceIdeal.Value Idealize.ShloMosaic Idealize.ShloMosaic.TcCoe
open Idealize.ShloMosaic.StableHlo

variable (V : Valuation τ sig (Elt Ideal))

/-- Argument 0's contents. -/
abbrev A0 : Vec Ideal S8x4096x1024 .f32 := V (Proc.devRef .tc main_arg0)
/-- Argument 1's contents. -/
abbrev A1 : Vec Ideal S8x4096x512 .bf16 := V (Proc.devRef .tc main_arg1)
/-- Argument 2's contents. -/
abbrev A2 : Vec Ideal S8x4096x512 .bf16 := V (Proc.devRef .tc main_arg2)
/-- Argument 3's contents. -/
abbrev A3 : Vec Ideal S1x1024 .f32 := V (Proc.devRef .tc main_arg3)
/-- Argument 4's contents. -/
abbrev A4 : Vec Ideal S1x1024x4808 .f32 := V (Proc.devRef .tc main_arg4)
/-- Argument 5's contents. -/
abbrev A5 : Vec Ideal S1x2048 .f32 := V (Proc.devRef .tc main_arg5)
/-- Argument 6's contents. -/
abbrev A6 : Vec Ideal S1x512x1024 .f32 := V (Proc.devRef .tc main_arg6)
/-- Argument 7's contents. -/
abbrev A7 : Vec Ideal S1x512x1024 .f32 := V (Proc.devRef .tc main_arg7)
/-- Argument 8's contents. -/
abbrev A8 : Vec Ideal S1x1024x1024 .f32 := V (Proc.devRef .tc main_arg8)
/-- Argument 9's contents. -/
abbrev A9 : Vec Ideal S1x1024 .f32 := V (Proc.devRef .tc main_arg9)
/-- Argument 10's contents. -/
abbrev A10 : Vec Ideal S1x1024x2816 .f32 := V (Proc.devRef .tc main_arg10)
/-- Argument 11's contents. -/
abbrev A11 : Vec Ideal S1x1024x2816 .f32 := V (Proc.devRef .tc main_arg11)
/-- Argument 12's contents. -/
abbrev A12 : Vec Ideal S1x2816x1024 .f32 := V (Proc.devRef .tc main_arg12)
/-- Argument 13's contents. -/
abbrev A13 : Vec Ideal S1024 .f32 := V (Proc.devRef .tc main_arg13)

/-- The input projection at an index. -/
theorem v17_apply (b : Fin 8) (s : Fin 4096) (j : Fin 4808) :
    (res_main_v17 V : Vec Ideal S8x4096x4808 .f32) (ix3 b s j) = Row.lin (Row.norm (fun k => A0 V (ix3 b s k)) (fun k => A3 V (ix2 0 k))) (fun k j => A4 V (ix3 0 k j)) j := by
  pointwise [res_main_v17, Row.lin, Row.norm, Row.invRms]

/-- The gates at an index. -/
theorem v34_apply (b : Fin 8) (s : Fin 4096) (j : Fin 2048) :
    (res_main_v34 V : Vec Ideal S8x4096x2048 .f32) (ix3 b s j) = (Row.gates (Row.norm (fun k => A0 V (ix3 b s k)) (fun k => A3 V (ix2 0 k))) (fun k j => A4 V (ix3 0 k ⟨2760 + j.val, by omega⟩)) (fun k => A5 V (ix2 0 k))) j := by
  pointwise [res_main_v34, v17_apply]
  have e : (if h : j.val < 1024 then Row.lin (Row.norm (fun k => A0 V (ix3 b s k)) (fun k => A3 V (ix2 0 k))) (fun k j => A4 V (ix3 0 k j)) ⟨2760 + j.val, by omega⟩
        else Row.lin (Row.norm (fun k => A0 V (ix3 b s k)) (fun k => A3 V (ix2 0 k))) (fun k j => A4 V (ix3 0 k j)) ⟨3784 + (j.val - 1024), by omega⟩)
      = Row.lin (Row.norm (fun k => A0 V (ix3 b s k)) (fun k => A3 V (ix2 0 k))) (fun k j => A4 V (ix3 0 k ⟨2760 + j.val, by omega⟩)) j := by
    split
    · rfl
    · exact congrArg (Row.lin (Row.norm (fun k => A0 V (ix3 b s k)) (fun k => A3 V (ix2 0 k))) (fun k j => A4 V (ix3 0 k j))) (Fin.ext (by show 3784 + (j.val - 1024) = 2760 + j.val; omega))
  exact congrArg (fun z => Ideal.div 1 (1 + Ideal.exp (-(z + A5 V (ix2 0 j))))) e

/-- The row after the merged branches are added, at an index. -/
theorem v42_apply (b : Fin 8) (s : Fin 4096) (d : Fin 1024) :
    (res_main_v42 V : Vec Ideal S8x4096x1024 .f32) (ix3 b s d) = (Row.afterMix (fun k => A0 V (ix3 b s k)) (Row.gates (Row.norm (fun k => A0 V (ix3 b s k)) (fun k => A3 V (ix2 0 k))) (fun k j => A4 V (ix3 0 k ⟨2760 + j.val, by omega⟩)) (fun k => A5 V (ix2 0 k))) (Row.lin (fun k => A1 V (ix3 b s k)) (fun k j => A6 V (ix3 0 k j))) (Row.lin (fun k => A2 V (ix3 b s k)) (fun k j => A7 V (ix3 0 k j))) (fun k j => A8 V (ix3 0 k j))) d := by
  pointwise [res_main_v42, v34_apply, Row.afterMix, Row.merged, Row.lin]

/-- Its normalised form at an index. -/
theorem v56_apply (b : Fin 8) (s : Fin 4096) (d : Fin 1024) :
    (res_main_v56 V : Vec Ideal S8x4096x1024 .f32) (ix3 b s d) = Row.norm (fun k => (res_main_v42 V : Vec Ideal S8x4096x1024 .f32) (ix3 b s k)) (fun k => A9 V (ix2 0 k)) d := by
  pointwise [res_main_v56, Row.norm, Row.invRms]

/-- The first feed-forward projection at an index. -/
theorem v58_apply (b : Fin 8) (s : Fin 4096) (j : Fin 2816) :
    (res_main_v58 V : Vec Ideal S8x4096x2816 .f32) (ix3 b s j) = Row.lin (fun k => (res_main_v56 V : Vec Ideal S8x4096x1024 .f32) (ix3 b s k)) (fun k j => A10 V (ix3 0 k j)) j := by
  pointwise [res_main_v58, Row.lin]

/-- The row after the feed-forward part is added, at an index. -/
theorem v65_apply (b : Fin 8) (s : Fin 4096) (d : Fin 1024) :
    (res_main_v65 V : Vec Ideal S8x4096x1024 .f32) (ix3 b s d) = Row.afterFfn (fun k => (res_main_v42 V : Vec Ideal S8x4096x1024 .f32) (ix3 b s k)) (fun k => (res_main_v56 V : Vec Ideal S8x4096x1024 .f32) (ix3 b s k)) (fun k j => A10 V (ix3 0 k j)) (fun k j => A11 V (ix3 0 k j)) (fun k j => A12 V (ix3 0 k j)) d := by
  pointwise [res_main_v65, v58_apply, Row.afterFfn, Row.swiglu, Row.lin]
  rfl

/-- The result: the last normalisation of `main_v65`, is the whole function of the arguments. -/
theorem result_eq (Z : Vec Ideal S8x4096x1024 .f32)
    (hZ : Z = mulf (mulf (res_main_v65 V) (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf (res_main_v65 V) (res_main_v65 V)) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (A13 V)))) :
    Z = Row.whole (A0 V) (A1 V) (A2 V) (A3 V) (A4 V) (A5 V) (A6 V) (A7 V) (A8 V) (A9 V) (A10 V) (A11 V) (A12 V) (A13 V) := by
  funext i
  idx_vars i
  have e : Z (ix3 i0 i1 i2) = Row.norm (fun k => (res_main_v65 V : Vec Ideal S8x4096x1024 .f32) (ix3 i0 i1 k)) (fun k => A13 V (ix1 k)) i2 := by
    subst hZ
    pointwise [Row.norm, Row.invRms]
  rw [e]
  simp only [v65_apply, v56_apply, v42_apply]
  rfl

end Cert.RefRow

end
-- ==== Proof.Merge.lean ====
/-
  The claims about the merge kernel: it runs and leaves its arguments alone, and at the ideal values its result is the
  reference's.
-/
module

public import proofs.«01_k».proof.Defs
public import proofs.«01_k».proof.Proof.Gen.Kernel.Frame
public import proofs.«01_k».proof.Proof.Gen.ReferenceIdeal
public import proofs.«01_k».proof.Proof.Array
public import proofs.«01_k».proof.Proof.Ref
public import Idealize.ShloMosaic.Lib.Quiescent

@[expose] public section

set_option maxRecDepth 16384

noncomputable section

open Idealize.ShloMosaic Idealize.ShloMosaic.TcCoe Idealize.SL.Sem

namespace Cert.Merge

/-- The kernel runs, ends with every semaphore at zero, and leaves its arguments alone. -/
theorem frame_kernel : Cert.quiescent_Kernel := fun m ρ _ => Cert.Kernel.Gen.frame m ρ

/-- The same of the kernel at the ideal values. -/
theorem frame_ideal : Cert.quiescent_KernelIdeal := fun m ρ _ => Cert.KernelIdeal.Gen.frame m ρ

/-- The reference runs and leaves its arguments alone; it has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- No operation was rewritten between the kernel and its ideal reading. -/
theorem preserves : Cert.preserves_Kernel_KernelIdeal := trivial

/-- At the ideal values the kernel and the reference leave the same result from the same arguments: both the whole function
    of the arguments. -/
theorem algebraic : Cert.algebraic_KernelIdeal_ReferenceIdeal := fun m ρ m' ρ' _ hag =>
  ⟨fun c => MergeArray.result m c,
    (θ_run Cert.KernelIdeal.defs _ _).mono (fun _ h c => ⟨(h c).1.trans (MergeArray.final m c), (h c).2⟩)
      (Cert.KernelIdeal.Value.run_blocks m ρ),
    (θ_run Cert.ReferenceIdeal.defs _ _).mono (fun _ h c => ⟨(RefRow.result_eq (StableHlo.launchContents m' c) _ (h c).1).trans (by
        obtain ⟨e0, e1, e2, e3, e4, e5, e6, e7, e8, e9, e10, e11, e12, e13⟩ := hag c
        exact (congr (congr (congr (congr (congr (congr (congr (congr (congr (congr (congr (congr (congr (congrArg Row.whole e0) e1) e2) e3) e4) e5) e6) e7) e8) e9) e10) e11) e12) e13)), (h c).2⟩)
      (Cert.ReferenceIdeal.Value.run m' ρ')⟩

end Cert.Merge

end
-- ==== Proof.ProjPay.lean ====
/-
  The projection kernel's payloads read at an index: every value its body computes over a half block of 256 rows, at a row
  and a column, as products of that row's normalised form with the weights' columns.
-/
module

public import proofs.«01_k».proof.Proof.Gen.Kernel2Ideal.Frame
public import Idealize.ShloMosaic.Lib.Pipeline.Value
public import proofs.«01_k».proof.Proof.Row

@[expose] public section

set_option maxRecDepth 16384

noncomputable section

namespace Cert.ProjPay

open Cert.Kernel2Ideal Cert.Kernel2Ideal.Gen Idealize.ShloMosaic

/-- The upper half's rows normalised. -/
theorem pay5_apply (x : Vec Ideal S1x256x1024 .f32) (g : Vec Ideal S1x1024 .f32) (r : Fin 256) (d : Fin 1024) :
    k0_pay5 x g (ix2 r d) = Row.norm (fun k => x (ix3 0 r k)) (fun k => g (ix2 0 k)) d := by
  pointwise [k0_pay5, Row.norm, Row.invRms]

/-- The lower half's rows normalised. -/
theorem pay6_apply (x : Vec Ideal S1x256x1024 .f32) (g : Vec Ideal S1x1024 .f32) (r : Fin 256) (d : Fin 1024) :
    k0_pay6 x g (ix2 r d) = Row.norm (fun k => x (ix3 0 r k)) (fun k => g (ix2 0 k)) d := by
  pointwise [k0_pay6, Row.norm, Row.invRms]

/-- The zero rows stored before a sequence's first block. -/
theorem pay7_apply  (r : Fin 8) (j : Fin 512) :
    k0_pay7 (F := Ideal) (ix2 r j) = 0 := by
  pointwise [k0_pay7]

/-- The upper half's convolution input. -/
theorem pay8_apply (h : FVec Ideal S256x1024 .bf16) (a : Vec Ideal S1024x512 .bf16) (b : Vec Ideal S1024x512 .bf16) (r : Fin 256) (j : Fin 512) :
    k0_pay8 h a b (ix2 r j) = Row.lin (fun k => h (ix2 r k)) (fun k j => a (ix2 k j)) j * Row.lin (fun k => h (ix2 r k)) (fun k j => b (ix2 k j)) j := by
  pointwise [k0_pay8, k0_pay8, k0_pay9, Row.lin]

/-- The lower half's convolution input. -/
theorem pay9_apply (h : FVec Ideal S256x1024 .bf16) (a : Vec Ideal S1024x512 .bf16) (b : Vec Ideal S1024x512 .bf16) (r : Fin 256) (j : Fin 512) :
    k0_pay9 h a b (ix2 r j) = Row.lin (fun k => h (ix2 r k)) (fun k j => a (ix2 k j)) j * Row.lin (fun k => h (ix2 r k)) (fun k j => b (ix2 k j)) j := by
  pointwise [k0_pay9, k0_pay8, k0_pay9, Row.lin]

/-- The upper half's convolution input. -/
theorem pay10_apply (h : FVec Ideal S256x1024 .bf16) (a : Vec Ideal S1024x512 .bf16) (b : Vec Ideal S1024x512 .bf16) (r : Fin 256) (j : Fin 512) :
    k0_pay10 h a b (ix2 r j) = Row.lin (fun k => h (ix2 r k)) (fun k j => a (ix2 k j)) j * Row.lin (fun k => h (ix2 r k)) (fun k j => b (ix2 k j)) j := by
  pointwise [k0_pay10, k0_pay8, k0_pay9, Row.lin]

/-- The lower half's convolution input. -/
theorem pay11_apply (h : FVec Ideal S256x1024 .bf16) (a : Vec Ideal S1024x512 .bf16) (b : Vec Ideal S1024x512 .bf16) (r : Fin 256) (j : Fin 512) :
    k0_pay11 h a b (ix2 r j) = Row.lin (fun k => h (ix2 r k)) (fun k j => a (ix2 k j)) j * Row.lin (fun k => h (ix2 r k)) (fun k j => b (ix2 k j)) j := by
  pointwise [k0_pay11, k0_pay8, k0_pay9, Row.lin]

/-- The upper half's convolution. -/
theorem pay13_apply (h : FVec Ideal S256x1024 .bf16) (a : Vec Ideal S1024x512 .bf16) (b : Vec Ideal S1024x512 .bf16) (cw : Vec Ideal S3x512 .f32) (u1 u2 : Vec Ideal S256x512 .f32) (r : Fin 256) (j : Fin 512) :
    k0_pay13 h a b cw u1 u2 (ix2 r j) = cw (ix2 0 j) * u2 (ix2 r j) + cw (ix2 1 j) * u1 (ix2 r j) + cw (ix2 2 j) * k0_pay8 h a b (ix2 r j) := by
  pointwise [k0_pay13, k0_pay12]

/-- The upper half's gated convolution. -/
theorem pay14_apply (h : FVec Ideal S256x1024 .bf16) (y : FVec Ideal S256x512 .f32) (a : Vec Ideal S1024x512 .bf16) (r : Fin 256) (j : Fin 512) :
    k0_pay14 h y a (ix3 0 r j) = Row.lin (fun k => h (ix2 r k)) (fun k j => a (ix2 k j)) j * y (ix2 r j) := by
  pointwise [k0_pay14, Row.lin]

/-- The lower half's gated convolution. -/
theorem pay15_apply (h : FVec Ideal S256x1024 .bf16) (u : FVec Ideal S256x512 .f32) (cw : Vec Ideal S3x512 .f32) (u1 u2 : Vec Ideal S256x512 .f32) (a : Vec Ideal S1024x512 .bf16) (r : Fin 256) (j : Fin 512) :
    k0_pay15 h u (k0_pay12 cw) u1 u2 a (ix3 0 r j) = Row.lin (fun k => h (ix2 r k)) (fun k j => a (ix2 k j)) j * (cw (ix2 0 j) * u2 (ix2 r j) + cw (ix2 1 j) * u1 (ix2 r j) + cw (ix2 2 j) * u (ix2 r j)) := by
  pointwise [k0_pay15, k0_pay12, Row.lin]

/-- The last eight rows kept for the next block. -/
theorem pay16_apply (u : FVec Ideal S256x512 .f32) (r : Fin 8) (j : Fin 512) :
    k0_pay16 u (ix2 r j) = u (ix2 ⟨248 + r.val, by omega⟩ j) := by
  pointwise [k0_pay16]

/-- The upper half of the keys. -/
theorem pay19_apply (h : FVec Ideal S256x1024 .bf16) (a : Vec Ideal S1024x128 .bf16) (r : Fin 256) (j : Fin 64) :
    k0_pay19 (k0_pay18 h a) (ix3 0 r j) = Row.lin (fun k => h (ix2 r k)) (fun k j => a (ix2 k j)) ⟨0 + j.val, by omega⟩ := by
  pointwise [k0_pay17, k0_pay18, k0_pay19, k0_pay20, k0_pay21, k0_pay22, k0_pay23, Row.lin]

/-- The upper half of the indexer's keys. -/
theorem pay20_apply (h : FVec Ideal S256x1024 .bf16) (a : Vec Ideal S1024x128 .bf16) (r : Fin 256) (j : Fin 64) :
    k0_pay20 (k0_pay17 h a) (ix3 0 r j) = Row.lin (fun k => h (ix2 r k)) (fun k j => a (ix2 k j)) ⟨64 + j.val, by omega⟩ := by
  pointwise [k0_pay17, k0_pay18, k0_pay19, k0_pay20, k0_pay21, k0_pay22, k0_pay23, Row.lin]

/-- The lower half of the keys. -/
theorem pay22_apply (h : FVec Ideal S256x1024 .bf16) (a : Vec Ideal S1024x128 .bf16) (r : Fin 256) (j : Fin 64) :
    k0_pay22 h a (ix3 0 r j) = Row.lin (fun k => h (ix2 r k)) (fun k j => a (ix2 k j)) ⟨0 + j.val, by omega⟩ := by
  pointwise [k0_pay17, k0_pay18, k0_pay19, k0_pay20, k0_pay21, k0_pay22, k0_pay23, Row.lin]

/-- The lower half of the indexer's keys. -/
theorem pay23_apply (h : FVec Ideal S256x1024 .bf16) (a : Vec Ideal S1024x128 .bf16) (r : Fin 256) (j : Fin 64) :
    k0_pay23 h a (ix3 0 r j) = Row.lin (fun k => h (ix2 r k)) (fun k j => a (ix2 k j)) ⟨64 + j.val, by omega⟩ := by
  pointwise [k0_pay17, k0_pay18, k0_pay19, k0_pay20, k0_pay21, k0_pay22, k0_pay23, Row.lin]

/-- The upper half of the queries, channels first. -/
theorem pay24_apply (h : FVec Ideal S256x1024 .bf16) (a : Vec Ideal S512x1024 .bf16) (j : Fin 512) (r : Fin 256) :
    k0_pay24 h a (ix3 0 j r) = ∑ k, a (ix2 j k) * h (ix2 r k) := by
  pointwise [k0_pay24, k0_pay25, k0_pay26, k0_pay27, k0_pay28]

/-- The lower half of the queries, channels first. -/
theorem pay26_apply (h : FVec Ideal S256x1024 .bf16) (a : Vec Ideal S512x1024 .bf16) (j : Fin 512) (r : Fin 256) :
    k0_pay26 (k0_pay25 h a) (ix3 0 j r) = ∑ k, a (ix2 j k) * h (ix2 r k) := by
  pointwise [k0_pay24, k0_pay25, k0_pay26, k0_pay27, k0_pay28]

/-- The upper half of the indexer's queries, channels first. -/
theorem pay27_apply (h : FVec Ideal S256x1024 .bf16) (a : Vec Ideal S512x1024 .bf16) (j : Fin 512) (r : Fin 256) :
    k0_pay27 h a (ix3 0 j r) = ∑ k, a (ix2 j k) * h (ix2 r k) := by
  pointwise [k0_pay24, k0_pay25, k0_pay26, k0_pay27, k0_pay28]

/-- The lower half of the indexer's queries, channels first. -/
theorem pay28_apply (h : FVec Ideal S256x1024 .bf16) (a : Vec Ideal S512x1024 .bf16) (j : Fin 512) (r : Fin 256) :
    k0_pay28 h a (ix3 0 j r) = ∑ k, a (ix2 j k) * h (ix2 r k) := by
  pointwise [k0_pay24, k0_pay25, k0_pay26, k0_pay27, k0_pay28]

/-- A row of ones above fifteen rows of zeros. -/
theorem pay29_apply  (j : Fin 16) (r : Fin 256) :
    k0_pay29 (F := Ideal) (ix2 j r) = if j.val = 0 then 1 else 0 := by
  pointwise [k0_pay29]
  rw [(by decide : ∀ j : Fin 16, BitVec.setWidth 32 (IntOp.cmpi CmpIPredicate.eq (BitVec.ofNat 32 j.val) 0#32)
    = if j.val = 0 then 1#32 else 0#32) j]
  split
  · show (((1#32 : BitVec 32).toInt : ℝ) : EReal) = 1
    simp
  · show (((0#32 : BitVec 32).toInt : ℝ) : EReal) = 0
    simp

/-- The upper half of the values, channels first, with the row of ones under them. -/
theorem pay31_apply (h : FVec Ideal S256x1024 .bf16) (a : Vec Ideal S80x1024 .bf16) (j : Fin 80) (r : Fin 256) :
    k0_pay31 h a (ix4 0 0 j r) = if j.val < 64 then ∑ k, a (ix2 j k) * h (ix2 r k) else if j.val = 64 then 1 else 0 := by
  pointwise [k0_pay31, k0_pay30, k0_pay3, k0_pay2]
  split
  · rfl
  · rw [pay29_apply]
    have e : (j.val - 64 = 0) = (j.val = 64) := propext (by omega)
    simp only [e]

/-- The lower half of the values, channels first, with the row of ones under them. -/
theorem pay3_apply (h : FVec Ideal S256x1024 .bf16) (a : Vec Ideal S80x1024 .bf16) (j : Fin 80) (r : Fin 256) :
    k0_pay3 h (k0_pay29 (F := Ideal)) a (ix4 0 0 j r) = if j.val < 64 then ∑ k, a (ix2 j k) * h (ix2 r k) else if j.val = 64 then 1 else 0 := by
  pointwise [k0_pay31, k0_pay30, k0_pay3, k0_pay2]
  split
  · rfl
  · rw [pay29_apply]
    have e : (j.val - 64 = 0) = (j.val = 64) := propext (by omega)
    simp only [e]

/-- The upper half of the indexer's weights, scaled, heads first. -/
theorem pay1_apply (h : FVec Ideal S256x1024 .bf16) (a : Vec Ideal S80x1024 .bf16) (j : Fin 8) (r : Fin 256) :
    k0_pay1 (k0_pay32 h a) (ix3 0 j r) = (∑ k, a (ix2 ⟨64 + j.val, by omega⟩ k) * h (ix2 r k)) * Ideal.ofBits .f32 0x3D3504F3#32 := by
  pointwise [k0_pay1, k0_pay32, k0_pay30, k0_pay4, k0_pay2]

/-- The lower half of the indexer's weights, scaled, heads first. -/
theorem pay4_apply (h : FVec Ideal S256x1024 .bf16) (a : Vec Ideal S80x1024 .bf16) (j : Fin 8) (r : Fin 256) :
    k0_pay4 h a (ix3 0 j r) = (∑ k, a (ix2 ⟨64 + j.val, by omega⟩ k) * h (ix2 r k)) * Ideal.ofBits .f32 0x3D3504F3#32 := by
  pointwise [k0_pay1, k0_pay32, k0_pay30, k0_pay4, k0_pay2]

end Cert.ProjPay

end
-- ==== Proof.ProjBlock.lean ====
/-
  The blocks the projection kernel's body leaves, read index by index: the gated convolution's block, the blocks of keys,
  queries, values and indexer weights, and the eight rows carried to the next block, as functions of the input blocks.
-/
module

public import proofs.«01_k».proof.Proof.ProjPay
public import Idealize.ShloMosaic.Lib.WritesUnit

@[expose] public section

set_option maxRecDepth 16384

noncomputable section

namespace Cert.ProjBlock

open Cert.Kernel2Ideal Cert.Kernel2Ideal.Gen Idealize.ShloMosaic Cert.ProjPay

section fns
variable (x0 : Vec Ideal S1x512x1024 .f32) (x1 : Vec Ideal S1x1024 .f32) (x2 : Vec Ideal S1024x1664 .bf16)
  (x3 : Vec Ideal S1104x1024 .bf16) (x4 : Vec Ideal S3x512 .f32) (p : Fin 8 → Fin 512 → EReal)

/-- Row `r` of the block, normalised. -/
def H (r : Fin 512) (d : Fin 1024) : EReal := Row.norm (fun k => x0 (ix3 0 r k)) (fun k => x1 (ix2 0 k)) d

/-- Row `r` times column `j` of the first weights. -/
def nat (r : Fin 512) (j : Fin 1664) : EReal := Row.lin (H x0 x1 r) (fun k j => x2 (ix2 k j)) j

/-- Row `j` of the second weights times row `r`. -/
def tr (j : Fin 1104) (r : Fin 512) : EReal := ∑ k, x3 (ix2 j k) * H x0 x1 r k

/-- The convolution's input at row `r`. -/
def U (r j : Fin 512) : EReal := nat x0 x1 x2 r ⟨512 + j.val, by omega⟩ * nat x0 x1 x2 r ⟨1024 + j.val, by omega⟩

/-- The convolution's input with the eight rows `p` before it. -/
def ext (n : Fin 520) (j : Fin 512) : EReal := if h : n.val < 8 then p ⟨n.val, h⟩ j else U x0 x1 x2 ⟨n.val - 8, by omega⟩ j

/-- The gated convolution's block after the eight rows `p`. -/
def mix (r j : Fin 512) : EReal :=
  nat x0 x1 x2 r ⟨j.val, by omega⟩ * (x4 (ix2 0 j) * ext x0 x1 x2 p ⟨6 + r.val, by omega⟩ j
    + x4 (ix2 1 j) * ext x0 x1 x2 p ⟨7 + r.val, by omega⟩ j + x4 (ix2 2 j) * U x0 x1 x2 r j)

/-- The values' block: 64 rows of values, a row of ones, rows of zeros. -/
def vals (n : Fin 2) (j : Fin 80) (l : Fin 256) : EReal :=
  if h : j.val < 64 then tr x0 x1 x3 ⟨1024 + j.val, by omega⟩ ⟨256 * n.val + l.val, by omega⟩ else if j.val = 64 then 1 else 0

end fns

section ld
variable (x0 : Vec Ideal S1x512x1024 .f32) (x1 : Vec Ideal S1x1024 .f32) (x2 : Vec Ideal S1024x1664 .bf16)
  (x3 : Vec Ideal S1104x1024 .bf16) (x4 : Vec Ideal S3x512 .f32)

/-- The upper half's normalised row. -/
theorem hA (r : Fin 256) (d : Fin 1024) :
    (k0_pay5 (View.ld x0 (Rect.unit ![0, 0, 0] ![1, 256, 1024] inb_S1x512x1024_S1x256x1024_0_0_0)) (View.ld x1 (Rect.unit ![0, 0] ![1, 1024] inb_S1x1024_S1x1024_0_0))) (ix2 r d) = H x0 x1 ⟨r.val, by omega⟩ d := by
  rw [pay5_apply]
  unfold H
  pointwise

/-- The lower half's normalised row. -/
theorem hB (r : Fin 256) (d : Fin 1024) :
    (k0_pay6 (View.ld x0 (Rect.unit ![0, 256, 0] ![1, 256, 1024] inb_S1x512x1024_S1x256x1024_0_256_0)) (View.ld x1 (Rect.unit ![0, 0] ![1, 1024] inb_S1x1024_S1x1024_0_0))) (ix2 r d) = H x0 x1 ⟨256 + r.val, by omega⟩ d := by
  rw [pay6_apply]
  unfold H
  pointwise

/-- The upper half's convolution input. -/
theorem uA (r : Fin 256) (j : Fin 512) :
    k0_pay8 (k0_pay5 (View.ld x0 (Rect.unit ![0, 0, 0] ![1, 256, 1024] inb_S1x512x1024_S1x256x1024_0_0_0)) (View.ld x1 (Rect.unit ![0, 0] ![1, 1024] inb_S1x1024_S1x1024_0_0))) (View.ld x2 (Rect.unit ![0, 512] ![1024, 512] inb_S1024x1664_S1024x512_0_512)) (View.ld x2 (Rect.unit ![0, 1024] ![1024, 512] inb_S1024x1664_S1024x512_0_1024)) (ix2 r j) = U x0 x1 x2 ⟨r.val, by omega⟩ j := by
  rw [pay8_apply]
  simp only [hA]
  unfold U nat Row.lin
  pointwise

/-- The lower half's convolution input. -/
theorem uB (r : Fin 256) (j : Fin 512) :
    k0_pay9 (k0_pay6 (View.ld x0 (Rect.unit ![0, 256, 0] ![1, 256, 1024] inb_S1x512x1024_S1x256x1024_0_256_0)) (View.ld x1 (Rect.unit ![0, 0] ![1, 1024] inb_S1x1024_S1x1024_0_0))) (View.ld x2 (Rect.unit ![0, 512] ![1024, 512] inb_S1024x1664_S1024x512_0_512)) (View.ld x2 (Rect.unit ![0, 1024] ![1024, 512] inb_S1024x1664_S1024x512_0_1024)) (ix2 r j) = U x0 x1 x2 ⟨256 + r.val, by omega⟩ j := by
  rw [pay9_apply]
  simp only [hB]
  unfold U nat Row.lin
  pointwise

/-- The upper half's convolution input as stored. -/
theorem uA' (r : Fin 256) (j : Fin 512) :
    k0_pay10 (k0_pay5 (View.ld x0 (Rect.unit ![0, 0, 0] ![1, 256, 1024] inb_S1x512x1024_S1x256x1024_0_0_0)) (View.ld x1 (Rect.unit ![0, 0] ![1, 1024] inb_S1x1024_S1x1024_0_0))) (View.ld x2 (Rect.unit ![0, 512] ![1024, 512] inb_S1024x1664_S1024x512_0_512)) (View.ld x2 (Rect.unit ![0, 1024] ![1024, 512] inb_S1024x1664_S1024x512_0_1024)) (ix2 r j) = U x0 x1 x2 ⟨r.val, by omega⟩ j := by
  rw [pay10_apply]
  simp only [hA]
  unfold U nat Row.lin
  pointwise

/-- The lower half's convolution input as stored. -/
theorem uB' (r : Fin 256) (j : Fin 512) :
    k0_pay11 (k0_pay6 (View.ld x0 (Rect.unit ![0, 256, 0] ![1, 256, 1024] inb_S1x512x1024_S1x256x1024_0_256_0)) (View.ld x1 (Rect.unit ![0, 0] ![1, 1024] inb_S1x1024_S1x1024_0_0))) (View.ld x2 (Rect.unit ![0, 512] ![1024, 512] inb_S1024x1664_S1024x512_0_512)) (View.ld x2 (Rect.unit ![0, 1024] ![1024, 512] inb_S1024x1664_S1024x512_0_1024)) (ix2 r j) = U x0 x1 x2 ⟨256 + r.val, by omega⟩ j := by
  rw [pay11_apply]
  simp only [hB]
  unfold U nat Row.lin
  pointwise

/-- The scratch after both halves are stored in it: the rows below the eighth hold the convolution's input. -/
theorem scratch_eq {arg14 : Memref sig .tc .vmem S520x512 .f32} (f : arg14.view.ref.ty.Contents (Elt Ideal))
    (L : List (View.Piece (Elt Ideal) S520x512 .f32)) (p : Fin 8 → Fin 512 → EReal)
    (hp : ∀ (n : Fin 520) (h : n.val < 8) (j : Fin 512),
      View.read (Elt Ideal) arg14.view (arg14.view.writes (Elt Ideal) f L) (ix2 n j) = p ⟨n.val, h⟩ j) (n : Fin 520) (j : Fin 512) :
    View.read (Elt Ideal) arg14.view (arg14.view.writes (Elt Ideal) f (⟨Rect.unit ![264, 0] ![256, 512] inb_S520x512_S256x512_264_0, k0_pay11 (k0_pay6 (View.ld x0 (Rect.unit ![0, 256, 0] ![1, 256, 1024] inb_S1x512x1024_S1x256x1024_0_256_0)) (View.ld x1 (Rect.unit ![0, 0] ![1, 1024] inb_S1x1024_S1x1024_0_0))) (View.ld x2 (Rect.unit ![0, 512] ![1024, 512] inb_S1024x1664_S1024x512_0_512)) (View.ld x2 (Rect.unit ![0, 1024] ![1024, 512] inb_S1024x1664_S1024x512_0_1024))⟩ ::
      ⟨Rect.unit ![8, 0] ![256, 512] inb_S520x512_S256x512_8_0, k0_pay10 (k0_pay5 (View.ld x0 (Rect.unit ![0, 0, 0] ![1, 256, 1024] inb_S1x512x1024_S1x256x1024_0_0_0)) (View.ld x1 (Rect.unit ![0, 0] ![1, 1024] inb_S1x1024_S1x1024_0_0))) (View.ld x2 (Rect.unit ![0, 512] ![1024, 512] inb_S1024x1664_S1024x512_0_512)) (View.ld x2 (Rect.unit ![0, 1024] ![1024, 512] inb_S1024x1664_S1024x512_0_1024))⟩ :: L)) (ix2 n j) = ext x0 x1 x2 p n j := by
  unfold ext
  rcases lt_or_ge n.val 264 with hn | hn
  · rw [View.read_writes_cons_rows_of_not_mem arg14.view f _ _ _ (ix2 n j) rfl rfl (Or.inl hn)]
    rcases lt_or_ge n.val 8 with h8 | h8
    · rw [View.read_writes_cons_rows_of_not_mem arg14.view f _ _ _ (ix2 n j) rfl rfl (Or.inl h8), dif_pos h8]
      exact hp n h8 j
    · rw [dif_neg (by omega)]
      refine (View.read_writes_cons_rows_of_mem arg14.view f _ _ _ (ix2 n j) (ix2 (⟨n.val - 8, by omega⟩ : Fin 256) j) rfl
        (by show n.val = 8 + (n.val - 8); omega) rfl).trans ?_
      exact uA' x0 x1 x2 _ _
  · rw [dif_neg (by omega)]
    refine (View.read_writes_cons_rows_of_mem arg14.view f _ _ _ (ix2 n j) (ix2 (⟨n.val - 264, by omega⟩ : Fin 256) j) rfl
      (by show n.val = 264 + (n.val - 264); omega) rfl).trans ?_
    rw [uB']
    congr 1
    exact Fin.ext (by show 256 + (n.val - 264) = n.val - 8; omega)

end ld

section outs
variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1104x1024 .bf16) (harg5 : arg5.IsWhole) (arg6 : Memref sig .tc .vmem S3x512 .f32) (harg6 : arg6.IsWhole) (arg7 : Memref sig .tc .vmem S1x512x512 .bf16) (harg7 : arg7.IsWhole) (arg8 : Memref sig .tc .vmem S1x512x64 .bf16) (harg8 : arg8.IsWhole) (arg9 : Memref sig .tc .vmem S1x512x64 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x2x80x256 .bf16) (harg12 : arg12.IsWhole) (arg13 : Memref sig .tc .vmem S1x8x512 .f32) (harg13 : arg13.IsWhole) (arg14 : Memref sig .tc .vmem S520x512 .f32) (harg14 : arg14.IsWhole)
  (x0 : Vec Ideal S1x512x1024 .f32) (x1 : Vec Ideal S1x1024 .f32) (x2 : Vec Ideal S1024x1664 .bf16) (x3 : Vec Ideal S1104x1024 .bf16) (x4 : Vec Ideal S3x512 .f32) (xs0 : Vec Ideal S520x512 .f32)

/-- Two halves of 256 rows cover a block of 512 rows. -/
theorem half_idx {n : Nat} (x : (⟨3, ![1, 256, n]⟩ : Shape).Idx) : ∃ (r : Fin 256) (d : Fin n), x = ix3 0 r d :=
  ⟨x 1, x 2, by
    funext a
    match a with
    | ⟨0, _⟩ => exact Subsingleton.elim (α := Fin 1) _ _
    | ⟨1, _⟩ => rfl
    | ⟨2, _⟩ => rfl⟩

/-- An index of a half block whose columns are positions. -/
theorem half_idx' {n : Nat} (x : (⟨3, ![1, n, 256]⟩ : Shape).Idx) : ∃ (d : Fin n) (r : Fin 256), x = ix3 0 d r :=
  ⟨x 1, x 2, by
    funext a
    match a with
    | ⟨0, _⟩ => exact Subsingleton.elim (α := Fin 1) _ _
    | ⟨1, _⟩ => rfl
    | ⟨2, _⟩ => rfl⟩

/-- An index of one of the two value tiles. -/
theorem half_idx4 (x : (⟨4, ![1, 1, 80, 256]⟩ : Shape).Idx) : ∃ (d : Fin 80) (r : Fin 256), x = ix4 0 0 d r :=
  ⟨x 2, x 3, by idx_vars x; rw [Subsingleton.elim x0 0, Subsingleton.elim x1 0]⟩

/-- The place of a half block in its block. -/
theorem embA512 (r : Fin 256) (j : Fin 512) : (Rect.unit (s := S1x512x512) ![0, 0, 0] ![1, 256, 512] inb_S1x512x512_S1x256x512_0_0_0).emb (ix3 0 r j) = ix3 0 ⟨r.val, by omega⟩ j := by
  show (Rect.unit (s := S1x512x512) ![0, 0, 0] ![1, 256, 512] inb_S1x512x512_S1x256x512_0_0_0).toLoadRect.idx _ = _
  pointwise

/-- The place of a half block in its block. -/
theorem embB512 (r : Fin 256) (j : Fin 512) : (Rect.unit (s := S1x512x512) ![0, 256, 0] ![1, 256, 512] inb_S1x512x512_S1x256x512_0_256_0).emb (ix3 0 r j) = ix3 0 ⟨256 + r.val, by omega⟩ j := by
  show (Rect.unit (s := S1x512x512) ![0, 256, 0] ![1, 256, 512] inb_S1x512x512_S1x256x512_0_256_0).toLoadRect.idx _ = _
  pointwise

/-- The place of a half block in its block. -/
theorem embA64 (r : Fin 256) (j : Fin 64) : (Rect.unit (s := S1x512x64) ![0, 0, 0] ![1, 256, 64] inb_S1x512x64_S1x256x64_0_0_0).emb (ix3 0 r j) = ix3 0 ⟨r.val, by omega⟩ j := by
  show (Rect.unit (s := S1x512x64) ![0, 0, 0] ![1, 256, 64] inb_S1x512x64_S1x256x64_0_0_0).toLoadRect.idx _ = _
  pointwise

/-- The place of a half block in its block. -/
theorem embB64 (r : Fin 256) (j : Fin 64) : (Rect.unit (s := S1x512x64) ![0, 256, 0] ![1, 256, 64] inb_S1x512x64_S1x256x64_0_256_0).emb (ix3 0 r j) = ix3 0 ⟨256 + r.val, by omega⟩ j := by
  show (Rect.unit (s := S1x512x64) ![0, 256, 0] ![1, 256, 64] inb_S1x512x64_S1x256x64_0_256_0).toLoadRect.idx _ = _
  pointwise

/-- The place of a half block in its block. -/
theorem embC512 (r : Fin 256) (j : Fin 512) : (Rect.unit (s := S1x512x512) ![0, 0, 0] ![1, 512, 256] inb_S1x512x512_S1x512x256_0_0_0).emb (ix3 0 j r) = ix3 0 j ⟨r.val, by omega⟩ := by
  show (Rect.unit (s := S1x512x512) ![0, 0, 0] ![1, 512, 256] inb_S1x512x512_S1x512x256_0_0_0).toLoadRect.idx _ = _
  pointwise

/-- The place of a half block in its block. -/
theorem embD512 (r : Fin 256) (j : Fin 512) : (Rect.unit (s := S1x512x512) ![0, 0, 256] ![1, 512, 256] inb_S1x512x512_S1x512x256_0_0_256).emb (ix3 0 j r) = ix3 0 j ⟨256 + r.val, by omega⟩ := by
  show (Rect.unit (s := S1x512x512) ![0, 0, 256] ![1, 512, 256] inb_S1x512x512_S1x512x256_0_0_256).toLoadRect.idx _ = _
  pointwise

/-- The place of a half block in its block. -/
theorem embC8 (r : Fin 256) (j : Fin 8) : (Rect.unit (s := S1x8x512) ![0, 0, 0] ![1, 8, 256] inb_S1x8x512_S1x8x256_0_0_0).emb (ix3 0 j r) = ix3 0 j ⟨r.val, by omega⟩ := by
  show (Rect.unit (s := S1x8x512) ![0, 0, 0] ![1, 8, 256] inb_S1x8x512_S1x8x256_0_0_0).toLoadRect.idx _ = _
  pointwise

/-- The place of a half block in its block. -/
theorem embD8 (r : Fin 256) (j : Fin 8) : (Rect.unit (s := S1x8x512) ![0, 0, 256] ![1, 8, 256] inb_S1x8x512_S1x8x256_0_0_256).emb (ix3 0 j r) = ix3 0 j ⟨256 + r.val, by omega⟩ := by
  show (Rect.unit (s := S1x8x512) ![0, 0, 256] ![1, 8, 256] inb_S1x8x512_S1x8x256_0_0_256).toLoadRect.idx _ = _
  pointwise

/-- The place of a half block in its block. -/
theorem embV0 (r : Fin 256) (j : Fin 80) : (Rect.unit (s := S1x2x80x256) ![0, 0, 0, 0] ![1, 1, 80, 256] inb_S1x2x80x256_S1x1x80x256_0_0_0_0).emb (ix4 0 0 j r) = ix4 0 0 j r := by
  show (Rect.unit (s := S1x2x80x256) ![0, 0, 0, 0] ![1, 1, 80, 256] inb_S1x2x80x256_S1x1x80x256_0_0_0_0).toLoadRect.idx _ = _
  pointwise

/-- The place of a half block in its block. -/
theorem embV1 (r : Fin 256) (j : Fin 80) : (Rect.unit (s := S1x2x80x256) ![0, 1, 0, 0] ![1, 1, 80, 256] inb_S1x2x80x256_S1x1x80x256_0_1_0_0).emb (ix4 0 0 j r) = ix4 0 1 j r := by
  show (Rect.unit (s := S1x2x80x256) ![0, 1, 0, 0] ![1, 1, 80, 256] inb_S1x2x80x256_S1x1x80x256_0_1_0_0).toLoadRect.idx _ = _
  pointwise

/-- The rows a load of the scratch shifted to row 6 reads. -/
theorem embS6 (r : Fin 256) (j : Fin 512) : (Rect.unit (s := S520x512) ![6, 0] ![256, 512] inb_S520x512_S256x512_6_0).emb (ix2 r j) = ix2 ⟨6 + r.val, by omega⟩ j := by
  show (Rect.unit (s := S520x512) ![6, 0] ![256, 512] inb_S520x512_S256x512_6_0).toLoadRect.idx _ = _
  pointwise

/-- A load of the scratch from row 6 reads the rows from 6 on. -/
theorem loadB6 (p : Fin 8 → Fin 512 → EReal) {arg14 : Memref sig .tc .vmem S520x512 .f32} (f : arg14.view.ref.ty.Contents (Elt Ideal)) (L : List (View.Piece (Elt Ideal) S520x512 .f32))
    (hW : ∀ n j, View.read (Elt Ideal) arg14.view (arg14.view.writes (Elt Ideal) f L) (ix2 n j) = ext x0 x1 x2 p n j)
    (r : Fin 256) (j : Fin 512) : View.ld (View.read (Elt Ideal) arg14.view (arg14.view.writes (Elt Ideal) f L)) (Rect.unit (s := S520x512) ![6, 0] ![256, 512] inb_S520x512_S256x512_6_0) (ix2 r j) = ext x0 x1 x2 p ⟨6 + r.val, by omega⟩ j :=
  (congrArg (View.read (Elt Ideal) arg14.view (arg14.view.writes (Elt Ideal) f L)) (embS6 r j)).trans (hW _ _)

/-- The same, of a scratch written whole in the body. -/
theorem loadA6 (p : Fin 8 → Fin 512 → EReal) (arg14 : Memref sig .tc .vmem S520x512 .f32) (L : List (View.Piece (Elt Ideal) S520x512 .f32))
    (hW : ∀ n j, View.read (Elt Ideal) arg14.view (arg14.view.writes (Elt Ideal) arg14.view.junk L) (ix2 n j) = ext x0 x1 x2 p n j)
    (r : Fin 256) (j : Fin 512) : arg14.view.readCov L (Rect.unit (s := S520x512) ![6, 0] ![256, 512] inb_S520x512_S256x512_6_0).toLoadRect (ix2 r j) = ext x0 x1 x2 p ⟨6 + r.val, by omega⟩ j :=
  (congrArg (View.read (Elt Ideal) arg14.view (arg14.view.writes (Elt Ideal) arg14.view.junk L)) (embS6 r j)).trans (hW _ _)

/-- The rows a load of the scratch shifted to row 7 reads. -/
theorem embS7 (r : Fin 256) (j : Fin 512) : (Rect.unit (s := S520x512) ![7, 0] ![256, 512] inb_S520x512_S256x512_7_0).emb (ix2 r j) = ix2 ⟨7 + r.val, by omega⟩ j := by
  show (Rect.unit (s := S520x512) ![7, 0] ![256, 512] inb_S520x512_S256x512_7_0).toLoadRect.idx _ = _
  pointwise

/-- A load of the scratch from row 7 reads the rows from 7 on. -/
theorem loadB7 (p : Fin 8 → Fin 512 → EReal) {arg14 : Memref sig .tc .vmem S520x512 .f32} (f : arg14.view.ref.ty.Contents (Elt Ideal)) (L : List (View.Piece (Elt Ideal) S520x512 .f32))
    (hW : ∀ n j, View.read (Elt Ideal) arg14.view (arg14.view.writes (Elt Ideal) f L) (ix2 n j) = ext x0 x1 x2 p n j)
    (r : Fin 256) (j : Fin 512) : View.ld (View.read (Elt Ideal) arg14.view (arg14.view.writes (Elt Ideal) f L)) (Rect.unit (s := S520x512) ![7, 0] ![256, 512] inb_S520x512_S256x512_7_0) (ix2 r j) = ext x0 x1 x2 p ⟨7 + r.val, by omega⟩ j :=
  (congrArg (View.read (Elt Ideal) arg14.view (arg14.view.writes (Elt Ideal) f L)) (embS7 r j)).trans (hW _ _)

/-- The same, of a scratch written whole in the body. -/
theorem loadA7 (p : Fin 8 → Fin 512 → EReal) (arg14 : Memref sig .tc .vmem S520x512 .f32) (L : List (View.Piece (Elt Ideal) S520x512 .f32))
    (hW : ∀ n j, View.read (Elt Ideal) arg14.view (arg14.view.writes (Elt Ideal) arg14.view.junk L) (ix2 n j) = ext x0 x1 x2 p n j)
    (r : Fin 256) (j : Fin 512) : arg14.view.readCov L (Rect.unit (s := S520x512) ![7, 0] ![256, 512] inb_S520x512_S256x512_7_0).toLoadRect (ix2 r j) = ext x0 x1 x2 p ⟨7 + r.val, by omega⟩ j :=
  (congrArg (View.read (Elt Ideal) arg14.view (arg14.view.writes (Elt Ideal) arg14.view.junk L)) (embS7 r j)).trans (hW _ _)

/-- The rows a load of the scratch shifted to row 262 reads. -/
theorem embS262 (r : Fin 256) (j : Fin 512) : (Rect.unit (s := S520x512) ![262, 0] ![256, 512] inb_S520x512_S256x512_262_0).emb (ix2 r j) = ix2 ⟨262 + r.val, by omega⟩ j := by
  show (Rect.unit (s := S520x512) ![262, 0] ![256, 512] inb_S520x512_S256x512_262_0).toLoadRect.idx _ = _
  pointwise

/-- A load of the scratch from row 262 reads the rows from 262 on. -/
theorem loadB262 (p : Fin 8 → Fin 512 → EReal) {arg14 : Memref sig .tc .vmem S520x512 .f32} (f : arg14.view.ref.ty.Contents (Elt Ideal)) (L : List (View.Piece (Elt Ideal) S520x512 .f32))
    (hW : ∀ n j, View.read (Elt Ideal) arg14.view (arg14.view.writes (Elt Ideal) f L) (ix2 n j) = ext x0 x1 x2 p n j)
    (r : Fin 256) (j : Fin 512) : View.ld (View.read (Elt Ideal) arg14.view (arg14.view.writes (Elt Ideal) f L)) (Rect.unit (s := S520x512) ![262, 0] ![256, 512] inb_S520x512_S256x512_262_0) (ix2 r j) = ext x0 x1 x2 p ⟨262 + r.val, by omega⟩ j :=
  (congrArg (View.read (Elt Ideal) arg14.view (arg14.view.writes (Elt Ideal) f L)) (embS262 r j)).trans (hW _ _)

/-- The same, of a scratch written whole in the body. -/
theorem loadA262 (p : Fin 8 → Fin 512 → EReal) (arg14 : Memref sig .tc .vmem S520x512 .f32) (L : List (View.Piece (Elt Ideal) S520x512 .f32))
    (hW : ∀ n j, View.read (Elt Ideal) arg14.view (arg14.view.writes (Elt Ideal) arg14.view.junk L) (ix2 n j) = ext x0 x1 x2 p n j)
    (r : Fin 256) (j : Fin 512) : arg14.view.readCov L (Rect.unit (s := S520x512) ![262, 0] ![256, 512] inb_S520x512_S256x512_262_0).toLoadRect (ix2 r j) = ext x0 x1 x2 p ⟨262 + r.val, by omega⟩ j :=
  (congrArg (View.read (Elt Ideal) arg14.view (arg14.view.writes (Elt Ideal) arg14.view.junk L)) (embS262 r j)).trans (hW _ _)

/-- The rows a load of the scratch shifted to row 263 reads. -/
theorem embS263 (r : Fin 256) (j : Fin 512) : (Rect.unit (s := S520x512) ![263, 0] ![256, 512] inb_S520x512_S256x512_263_0).emb (ix2 r j) = ix2 ⟨263 + r.val, by omega⟩ j := by
  show (Rect.unit (s := S520x512) ![263, 0] ![256, 512] inb_S520x512_S256x512_263_0).toLoadRect.idx _ = _
  pointwise

/-- A load of the scratch from row 263 reads the rows from 263 on. -/
theorem loadB263 (p : Fin 8 → Fin 512 → EReal) {arg14 : Memref sig .tc .vmem S520x512 .f32} (f : arg14.view.ref.ty.Contents (Elt Ideal)) (L : List (View.Piece (Elt Ideal) S520x512 .f32))
    (hW : ∀ n j, View.read (Elt Ideal) arg14.view (arg14.view.writes (Elt Ideal) f L) (ix2 n j) = ext x0 x1 x2 p n j)
    (r : Fin 256) (j : Fin 512) : View.ld (View.read (Elt Ideal) arg14.view (arg14.view.writes (Elt Ideal) f L)) (Rect.unit (s := S520x512) ![263, 0] ![256, 512] inb_S520x512_S256x512_263_0) (ix2 r j) = ext x0 x1 x2 p ⟨263 + r.val, by omega⟩ j :=
  (congrArg (View.read (Elt Ideal) arg14.view (arg14.view.writes (Elt Ideal) f L)) (embS263 r j)).trans (hW _ _)

/-- The same, of a scratch written whole in the body. -/
theorem loadA263 (p : Fin 8 → Fin 512 → EReal) (arg14 : Memref sig .tc .vmem S520x512 .f32) (L : List (View.Piece (Elt Ideal) S520x512 .f32))
    (hW : ∀ n j, View.read (Elt Ideal) arg14.view (arg14.view.writes (Elt Ideal) arg14.view.junk L) (ix2 n j) = ext x0 x1 x2 p n j)
    (r : Fin 256) (j : Fin 512) : arg14.view.readCov L (Rect.unit (s := S520x512) ![263, 0] ![256, 512] inb_S520x512_S256x512_263_0).toLoadRect (ix2 r j) = ext x0 x1 x2 p ⟨263 + r.val, by omega⟩ j :=
  (congrArg (View.read (Elt Ideal) arg14.view (arg14.view.writes (Elt Ideal) arg14.view.junk L)) (embS263 r j)).trans (hW _ _)

/-- The scratch's rows at a load shifted by `o` rows. -/
theorem ext_congr (p : Fin 8 → Fin 512 → EReal) {n n' : Fin 520} (h : n.val = n'.val) (j : Fin 512) :
    ext x0 x1 x2 p n j = ext x0 x1 x2 p n' j := by rw [Fin.ext h]

/-- From row 8 on the scratch does not depend on what was carried over. -/
theorem ext_high (p q : Fin 8 → Fin 512 → EReal) (n : Fin 520) (h : 8 ≤ n.val) (j : Fin 512) :
    ext x0 x1 x2 p n j = ext x0 x1 x2 q n j := by
  unfold ext
  rw [dif_neg (by omega), dif_neg (by omega)]

/-- The keys the body leaves in a sequence's first block. -/
theorem outA6 (hc0 : cond0_0 i) (y : S1x512x64.Idx) :
    out0_A_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y = nat x0 x1 x2 (y 1) ⟨1536 + (y 2).val, by have := (y 2).isLt; simp at this; omega⟩ := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  refine View.canon_apply_of_pieces (Val := Elt Ideal) (fun y : S1x512x64.Idx => nat x0 x1 x2 (y 1) ⟨1536 + (y 2).val, by have := (y 2).isLt; simp at this; omega⟩) _ ?_ y (cover0_A_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y)
  unfold kernelRun0_A
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx x
    simp only [pay22_apply, hB]
    rw [embB64]
    unfold nat Row.lin
    pointwise [H]
  · intro x
    obtain ⟨r, j, rfl⟩ := half_idx x
    simp only [pay19_apply, hA]
    rw [embA64]
    unfold nat Row.lin
    pointwise [H]

/-- The keys the body leaves in a later block. -/
theorem outB6 (hc0 : ¬cond0_0 i) (y : S1x512x64.Idx) :
    out0_B_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y = nat x0 x1 x2 (y 1) ⟨1536 + (y 2).val, by have := (y 2).isLt; simp at this; omega⟩ := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0)]
  refine View.canon_apply_of_pieces (Val := Elt Ideal) (fun y : S1x512x64.Idx => nat x0 x1 x2 (y 1) ⟨1536 + (y 2).val, by have := (y 2).isLt; simp at this; omega⟩) _ ?_ y (cover0_B_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y)
  unfold kernelRun0_B
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx x
    simp only [pay22_apply, hB]
    rw [embB64]
    unfold nat Row.lin
    pointwise [H]
  · intro x
    obtain ⟨r, j, rfl⟩ := half_idx x
    simp only [pay19_apply, hA]
    rw [embA64]
    unfold nat Row.lin
    pointwise [H]

/-- The indexer's keys the body leaves in a sequence's first block. -/
theorem outA7 (hc0 : cond0_0 i) (y : S1x512x64.Idx) :
    out0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y = nat x0 x1 x2 (y 1) ⟨1600 + (y 2).val, by have := (y 2).isLt; simp at this; omega⟩ := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  refine View.canon_apply_of_pieces (Val := Elt Ideal) (fun y : S1x512x64.Idx => nat x0 x1 x2 (y 1) ⟨1600 + (y 2).val, by have := (y 2).isLt; simp at this; omega⟩) _ ?_ y (cover0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y)
  unfold kernelRun0_A
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx x
    simp only [pay23_apply, hB]
    rw [embB64]
    unfold nat Row.lin
    pointwise [H]
    refine Finset.sum_congr rfl fun k _ => congrArg₂ (· * ·) rfl (congrArg x2 ?_)
    exact congrArg (fun a : Fin 1664 => (ix2 k a : S1024x1664.Idx)) (Fin.ext (by show 1536 + (64 + j.val) = 1600 + j.val; omega))
  · intro x
    obtain ⟨r, j, rfl⟩ := half_idx x
    simp only [pay20_apply, hA]
    rw [embA64]
    unfold nat Row.lin
    pointwise [H]
    refine Finset.sum_congr rfl fun k _ => congrArg₂ (· * ·) rfl (congrArg x2 ?_)
    exact congrArg (fun a : Fin 1664 => (ix2 k a : S1024x1664.Idx)) (Fin.ext (by show 1536 + (64 + j.val) = 1600 + j.val; omega))

/-- The indexer's keys the body leaves in a later block. -/
theorem outB7 (hc0 : ¬cond0_0 i) (y : S1x512x64.Idx) :
    out0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y = nat x0 x1 x2 (y 1) ⟨1600 + (y 2).val, by have := (y 2).isLt; simp at this; omega⟩ := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0)]
  refine View.canon_apply_of_pieces (Val := Elt Ideal) (fun y : S1x512x64.Idx => nat x0 x1 x2 (y 1) ⟨1600 + (y 2).val, by have := (y 2).isLt; simp at this; omega⟩) _ ?_ y (cover0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y)
  unfold kernelRun0_B
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx x
    simp only [pay23_apply, hB]
    rw [embB64]
    unfold nat Row.lin
    pointwise [H]
    refine Finset.sum_congr rfl fun k _ => congrArg₂ (· * ·) rfl (congrArg x2 ?_)
    exact congrArg (fun a : Fin 1664 => (ix2 k a : S1024x1664.Idx)) (Fin.ext (by show 1536 + (64 + j.val) = 1600 + j.val; omega))
  · intro x
    obtain ⟨r, j, rfl⟩ := half_idx x
    simp only [pay20_apply, hA]
    rw [embA64]
    unfold nat Row.lin
    pointwise [H]
    refine Finset.sum_congr rfl fun k _ => congrArg₂ (· * ·) rfl (congrArg x2 ?_)
    exact congrArg (fun a : Fin 1664 => (ix2 k a : S1024x1664.Idx)) (Fin.ext (by show 1536 + (64 + j.val) = 1600 + j.val; omega))

/-- The queries the body leaves in a sequence's first block. -/
theorem outA8 (hc0 : cond0_0 i) (y : S1x512x512.Idx) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y = tr x0 x1 x3 ⟨(y 1).val, by have := (y 1).isLt; simp at this; omega⟩ (y 2) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  refine View.canon_apply_of_pieces (Val := Elt Ideal) (fun y : S1x512x512.Idx => tr x0 x1 x3 ⟨(y 1).val, by have := (y 1).isLt; simp at this; omega⟩ (y 2)) _ ?_ y (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y)
  unfold kernelRun0_A
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx' x
    simp only [pay26_apply, hB]
    rw [embD512]
    unfold tr
    pointwise [H]
  · intro x
    obtain ⟨r, j, rfl⟩ := half_idx' x
    simp only [pay24_apply, hA]
    rw [embC512]
    unfold tr
    pointwise [H]

/-- The queries the body leaves in a later block. -/
theorem outB8 (hc0 : ¬cond0_0 i) (y : S1x512x512.Idx) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y = tr x0 x1 x3 ⟨(y 1).val, by have := (y 1).isLt; simp at this; omega⟩ (y 2) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0)]
  refine View.canon_apply_of_pieces (Val := Elt Ideal) (fun y : S1x512x512.Idx => tr x0 x1 x3 ⟨(y 1).val, by have := (y 1).isLt; simp at this; omega⟩ (y 2)) _ ?_ y (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y)
  unfold kernelRun0_B
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx' x
    simp only [pay26_apply, hB]
    rw [embD512]
    unfold tr
    pointwise [H]
  · intro x
    obtain ⟨r, j, rfl⟩ := half_idx' x
    simp only [pay24_apply, hA]
    rw [embC512]
    unfold tr
    pointwise [H]

/-- The indexer's queries the body leaves in a sequence's first block. -/
theorem outA9 (hc0 : cond0_0 i) (y : S1x512x512.Idx) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y = tr x0 x1 x3 ⟨512 + (y 1).val, by have := (y 1).isLt; simp at this; omega⟩ (y 2) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  refine View.canon_apply_of_pieces (Val := Elt Ideal) (fun y : S1x512x512.Idx => tr x0 x1 x3 ⟨512 + (y 1).val, by have := (y 1).isLt; simp at this; omega⟩ (y 2)) _ ?_ y (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y)
  unfold kernelRun0_A
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx' x
    simp only [pay28_apply, hB]
    rw [embD512]
    unfold tr
    pointwise [H]
  · intro x
    obtain ⟨r, j, rfl⟩ := half_idx' x
    simp only [pay27_apply, hA]
    rw [embC512]
    unfold tr
    pointwise [H]

/-- The indexer's queries the body leaves in a later block. -/
theorem outB9 (hc0 : ¬cond0_0 i) (y : S1x512x512.Idx) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y = tr x0 x1 x3 ⟨512 + (y 1).val, by have := (y 1).isLt; simp at this; omega⟩ (y 2) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0)]
  refine View.canon_apply_of_pieces (Val := Elt Ideal) (fun y : S1x512x512.Idx => tr x0 x1 x3 ⟨512 + (y 1).val, by have := (y 1).isLt; simp at this; omega⟩ (y 2)) _ ?_ y (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y)
  unfold kernelRun0_B
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx' x
    simp only [pay28_apply, hB]
    rw [embD512]
    unfold tr
    pointwise [H]
  · intro x
    obtain ⟨r, j, rfl⟩ := half_idx' x
    simp only [pay27_apply, hA]
    rw [embC512]
    unfold tr
    pointwise [H]

/-- The values the body leaves in a sequence's first block. -/
theorem outA10 (hc0 : cond0_0 i) (y : S1x2x80x256.Idx) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y = vals x0 x1 x3 (y 1) (y 2) (y 3) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  refine View.canon_apply_of_pieces (Val := Elt Ideal) (fun y : S1x2x80x256.Idx => vals x0 x1 x3 (y 1) (y 2) (y 3)) _ ?_ y (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y)
  unfold kernelRun0_A
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx4 x
    simp only [pay3_apply, hB]
    rw [embV1]
    unfold vals tr
    pointwise [H]
    by_cases h : r.val < 64
    · rw [if_pos h, dif_pos h]
    · rw [if_neg h, dif_neg h]
      rfl
  · intro x
    obtain ⟨r, j, rfl⟩ := half_idx4 x
    simp only [pay31_apply, hA]
    rw [embV0]
    unfold vals tr
    pointwise [H]
    by_cases h : r.val < 64
    · rw [if_pos h, dif_pos h]
    · rw [if_neg h, dif_neg h]
      rfl

/-- The values the body leaves in a later block. -/
theorem outB10 (hc0 : ¬cond0_0 i) (y : S1x2x80x256.Idx) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y = vals x0 x1 x3 (y 1) (y 2) (y 3) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0)]
  refine View.canon_apply_of_pieces (Val := Elt Ideal) (fun y : S1x2x80x256.Idx => vals x0 x1 x3 (y 1) (y 2) (y 3)) _ ?_ y (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y)
  unfold kernelRun0_B
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx4 x
    simp only [pay3_apply, hB]
    rw [embV1]
    unfold vals tr
    pointwise [H]
    by_cases h : r.val < 64
    · rw [if_pos h, dif_pos h]
    · rw [if_neg h, dif_neg h]
      rfl
  · intro x
    obtain ⟨r, j, rfl⟩ := half_idx4 x
    simp only [pay31_apply, hA]
    rw [embV0]
    unfold vals tr
    pointwise [H]
    by_cases h : r.val < 64
    · rw [if_pos h, dif_pos h]
    · rw [if_neg h, dif_neg h]
      rfl

/-- The indexer's weights the body leaves in a sequence's first block. -/
theorem outA11 (hc0 : cond0_0 i) (y : S1x8x512.Idx) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y = tr x0 x1 x3 ⟨1088 + (y 1).val, by have := (y 1).isLt; simp at this; omega⟩ (y 2) * Ideal.ofBits .f32 0x3D3504F3#32 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  refine View.canon_apply_of_pieces (Val := Elt Ideal) (fun y : S1x8x512.Idx => tr x0 x1 x3 ⟨1088 + (y 1).val, by have := (y 1).isLt; simp at this; omega⟩ (y 2) * Ideal.ofBits .f32 0x3D3504F3#32) _ ?_ y (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y)
  unfold kernelRun0_A
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx' x
    simp only [pay4_apply, hB]
    rw [embD8]
    unfold tr
    pointwise [H]
    refine congrArg₂ (· * ·) (Finset.sum_congr rfl fun k _ => congrArg₂ (· * ·) (congrArg x3 ?_) rfl) rfl
    exact congrArg (fun a : Fin 1104 => (ix2 a k : S1104x1024.Idx)) (Fin.ext (by show 1024 + (64 + r.val) = 1088 + r.val; omega))
  · intro x
    obtain ⟨r, j, rfl⟩ := half_idx' x
    simp only [pay1_apply, hA]
    rw [embC8]
    unfold tr
    pointwise [H]
    refine congrArg₂ (· * ·) (Finset.sum_congr rfl fun k _ => congrArg₂ (· * ·) (congrArg x3 ?_) rfl) rfl
    exact congrArg (fun a : Fin 1104 => (ix2 a k : S1104x1024.Idx)) (Fin.ext (by show 1024 + (64 + r.val) = 1088 + r.val; omega))

/-- The indexer's weights the body leaves in a later block. -/
theorem outB11 (hc0 : ¬cond0_0 i) (y : S1x8x512.Idx) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y = tr x0 x1 x3 ⟨1088 + (y 1).val, by have := (y 1).isLt; simp at this; omega⟩ (y 2) * Ideal.ofBits .f32 0x3D3504F3#32 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0)]
  refine View.canon_apply_of_pieces (Val := Elt Ideal) (fun y : S1x8x512.Idx => tr x0 x1 x3 ⟨1088 + (y 1).val, by have := (y 1).isLt; simp at this; omega⟩ (y 2) * Ideal.ofBits .f32 0x3D3504F3#32) _ ?_ y (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y)
  unfold kernelRun0_B
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx' x
    simp only [pay4_apply, hB]
    rw [embD8]
    unfold tr
    pointwise [H]
    refine congrArg₂ (· * ·) (Finset.sum_congr rfl fun k _ => congrArg₂ (· * ·) (congrArg x3 ?_) rfl) rfl
    exact congrArg (fun a : Fin 1104 => (ix2 a k : S1104x1024.Idx)) (Fin.ext (by show 1024 + (64 + r.val) = 1088 + r.val; omega))
  · intro x
    obtain ⟨r, j, rfl⟩ := half_idx' x
    simp only [pay1_apply, hA]
    rw [embC8]
    unfold tr
    pointwise [H]
    refine congrArg₂ (· * ·) (Finset.sum_congr rfl fun k _ => congrArg₂ (· * ·) (congrArg x3 ?_) rfl) rfl
    exact congrArg (fun a : Fin 1104 => (ix2 a k : S1104x1024.Idx)) (Fin.ext (by show 1024 + (64 + r.val) = 1088 + r.val; omega))

/-- The eight rows carried to the next block: the convolution's input on the block's last eight rows. -/
theorem soutA (hc0 : cond0_0 i) (n : Fin 520) (h : n.val < 8) (j : Fin 512) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 (ix2 n j) = U x0 x1 x2 ⟨504 + n.val, by omega⟩ j := by
  unfold sout0_A_0 kernelRun0_A
  dsimp only
  sl_unfold_words
  simp only [View.readAt_eq_ld, harg2.read_unread, harg3.read_unread, harg4.read_unread, harg5.read_unread, harg6.read_unread]
  refine (View.read_writes_cons_rows_of_mem _ _ _ _ _ (ix2 n j) (ix2 (⟨n.val, h⟩ : Fin 8) j) rfl (by show n.val = 0 + n.val; omega) rfl).trans ?_
  rw [pay16_apply, uB]
  congr 1
  exact Fin.ext (by show 256 + (248 + n.val) = 504 + n.val; omega)

/-- The eight rows carried to the next block: the convolution's input on the block's last eight rows. -/
theorem soutB (hc0 : ¬cond0_0 i) (n : Fin 520) (h : n.val < 8) (j : Fin 512) :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 (ix2 n j) = U x0 x1 x2 ⟨504 + n.val, by omega⟩ j := by
  unfold sout0_B_0 kernelRun0_B
  dsimp only
  sl_unfold_words
  simp only [View.readAt_eq_ld, harg2.read_unread, harg3.read_unread, harg4.read_unread, harg5.read_unread, harg6.read_unread]
  refine (View.read_writes_cons_rows_of_mem _ _ _ _ _ (ix2 n j) (ix2 (⟨n.val, h⟩ : Fin 8) j) rfl (by show n.val = 0 + n.val; omega) rfl).trans ?_
  rw [pay16_apply, uB]
  congr 1
  exact Fin.ext (by show 256 + (248 + n.val) = 504 + n.val; omega)

end outs

end Cert.ProjBlock

end
-- ==== Proof.ProjMix.lean ====
/-
  The gated convolution's block the projection kernel's body leaves, at a sequence's first block and at a later one.
-/
module

public import proofs.«01_k».proof.Proof.ProjBlock

@[expose] public section

set_option maxRecDepth 16384

noncomputable section

namespace Cert.ProjBlock

open Cert.Kernel2Ideal Cert.Kernel2Ideal.Gen Idealize.ShloMosaic Cert.ProjPay

section outs
variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1664 .bf16) (harg4 : arg4.IsWhole) (arg5 : Memref sig .tc .vmem S1104x1024 .bf16) (harg5 : arg5.IsWhole) (arg6 : Memref sig .tc .vmem S3x512 .f32) (harg6 : arg6.IsWhole) (arg7 : Memref sig .tc .vmem S1x512x512 .bf16) (harg7 : arg7.IsWhole) (arg8 : Memref sig .tc .vmem S1x512x64 .bf16) (harg8 : arg8.IsWhole) (arg9 : Memref sig .tc .vmem S1x512x64 .bf16) (harg9 : arg9.IsWhole) (arg10 : Memref sig .tc .vmem S1x512x512 .bf16) (harg10 : arg10.IsWhole) (arg11 : Memref sig .tc .vmem S1x512x512 .bf16) (harg11 : arg11.IsWhole) (arg12 : Memref sig .tc .vmem S1x2x80x256 .bf16) (harg12 : arg12.IsWhole) (arg13 : Memref sig .tc .vmem S1x8x512 .f32) (harg13 : arg13.IsWhole) (arg14 : Memref sig .tc .vmem S520x512 .f32) (harg14 : arg14.IsWhole)
  (x0 : Vec Ideal S1x512x1024 .f32) (x1 : Vec Ideal S1x1024 .f32) (x2 : Vec Ideal S1024x1664 .bf16) (x3 : Vec Ideal S1104x1024 .bf16) (x4 : Vec Ideal S3x512 .f32) (xs0 : Vec Ideal S520x512 .f32)

set_option maxHeartbeats 1000000 in
/-- The gated convolution the body leaves in a sequence's first block. -/
theorem outA5 (hc0 : cond0_0 i) (y : S1x512x512.Idx) :
    out0_A_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y = mix x0 x1 x2 x4 (fun _ _ => 0) (y 1) (y 2) := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4)]
  have hs := fun n j => scratch_eq x0 x1 x2 (arg14 := arg14) arg14.view.junk [⟨Rect.unit ![0, 0] ![8, 512] inb_S520x512_S8x512_0_0, k0_pay7 (F := Ideal)⟩] (fun _ _ => 0)
    (fun n h j => by
      refine (View.read_writes_cons_rows_of_mem _ _ _ _ _ (ix2 n j) (ix2 (⟨n.val, h⟩ : Fin 8) j) rfl (by show n.val = 0 + n.val; omega) rfl).trans ?_
      exact pay7_apply _ _) n j
  refine View.canon_apply_of_pieces (Val := Elt Ideal) (fun y : S1x512x512.Idx => mix x0 x1 x2 x4 (fun _ _ => 0) (y 1) (y 2)) _ ?_ y (cover0_A_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 y)
  unfold kernelRun0_A
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx x
    simp only [pay15_apply, uB, hB]
    rw [embB512]
    show _ = nat x0 x1 x2 ⟨256 + r.val, by omega⟩ ⟨j.val, by omega⟩ * (x4 (ix2 0 j) * ext x0 x1 x2 (fun _ _ => 0) ⟨6 + (256 + r.val), by omega⟩ j
      + x4 (ix2 1 j) * ext x0 x1 x2 (fun _ _ => 0) ⟨7 + (256 + r.val), by omega⟩ j + x4 (ix2 2 j) * U x0 x1 x2 ⟨256 + r.val, by omega⟩ j)
    refine congrArg₂ (· * ·) ?_ (congrArg₂ (· + ·) (congrArg₂ (· + ·) (congrArg₂ (· * ·) ?_ ?_) (congrArg₂ (· * ·) ?_ ?_)) (congrArg₂ (· * ·) ?_ rfl))
    · unfold nat Row.lin
      pointwise [H]
    · pointwise
    · refine (loadA262 x0 x1 x2 _ arg14 _ hs r j).trans ?_
      exact ext_congr x0 x1 x2 _ (by show 262 + r.val = 6 + (256 + r.val); omega) j
    · pointwise
    · refine (loadA263 x0 x1 x2 _ arg14 _ hs r j).trans ?_
      exact ext_congr x0 x1 x2 _ (by show 263 + r.val = 7 + (256 + r.val); omega) j
    · pointwise
  · intro x
    obtain ⟨r, j, rfl⟩ := half_idx x
    simp only [pay14_apply, pay13_apply, uA, hA]
    rw [embA512]
    show _ = nat x0 x1 x2 ⟨r.val, by omega⟩ ⟨j.val, by omega⟩ * (x4 (ix2 0 j) * ext x0 x1 x2 (fun _ _ => 0) ⟨6 + (r.val), by omega⟩ j
      + x4 (ix2 1 j) * ext x0 x1 x2 (fun _ _ => 0) ⟨7 + (r.val), by omega⟩ j + x4 (ix2 2 j) * U x0 x1 x2 ⟨r.val, by omega⟩ j)
    refine congrArg₂ (· * ·) ?_ (congrArg₂ (· + ·) (congrArg₂ (· + ·) (congrArg₂ (· * ·) ?_ ?_) (congrArg₂ (· * ·) ?_ ?_)) (congrArg₂ (· * ·) ?_ rfl))
    · unfold nat Row.lin
      pointwise [H]
    · pointwise
    · refine (loadA6 x0 x1 x2 _ arg14 _ hs r j).trans ?_
      rfl
    · pointwise
    · refine (loadA7 x0 x1 x2 _ arg14 _ hs r j).trans ?_
      rfl
    · pointwise

set_option maxHeartbeats 1000000 in
/-- The gated convolution the body leaves in a later block. -/
theorem outB5 (hc0 : ¬cond0_0 i) (y : S1x512x512.Idx) :
    out0_B_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y = mix x0 x1 x2 x4 (fun n j => xs0 (ix2 ⟨n.val, by omega⟩ j)) (y 1) (y 2) := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0)]
  have hs := fun n j => scratch_eq x0 x1 x2 (arg14 := arg14) (harg14.unread xs0) [] (fun n j => xs0 (ix2 ⟨n.val, by omega⟩ j))
    (fun n h j => congrFun (harg14.read_unread xs0) (ix2 n j)) n j
  have hs0 := fun n j => scratch_eq x0 x1 x2 (arg14 := arg14) arg14.view.junk [] (fun n j => View.read (Elt Ideal) arg14.view arg14.view.junk (ix2 ⟨n.val, by omega⟩ j))
    (fun n h j => rfl) n j
  refine View.canon_apply_of_pieces (Val := Elt Ideal) (fun y : S1x512x512.Idx => mix x0 x1 x2 x4 (fun n j => xs0 (ix2 ⟨n.val, by omega⟩ j)) (y 1) (y 2)) _ ?_ y (cover0_B_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 y)
  unfold kernelRun0_B
  dsimp only
  sl_unfold_words
  simp only [View.readAt_eq_ld, harg2.read_unread, harg3.read_unread, harg4.read_unread, harg5.read_unread, harg6.read_unread]
  intro q hq
  simp only [List.mem_cons, List.not_mem_nil, or_false] at hq
  rcases hq with rfl | rfl
  · intro x
    obtain ⟨r, j, rfl⟩ := half_idx x
    simp only [pay15_apply, uB, hB]
    rw [embB512]
    show _ = nat x0 x1 x2 ⟨256 + r.val, by omega⟩ ⟨j.val, by omega⟩ * (x4 (ix2 0 j) * ext x0 x1 x2 (fun n j => xs0 (ix2 ⟨n.val, by omega⟩ j)) ⟨6 + (256 + r.val), by omega⟩ j
      + x4 (ix2 1 j) * ext x0 x1 x2 (fun n j => xs0 (ix2 ⟨n.val, by omega⟩ j)) ⟨7 + (256 + r.val), by omega⟩ j + x4 (ix2 2 j) * U x0 x1 x2 ⟨256 + r.val, by omega⟩ j)
    refine congrArg₂ (· * ·) ?_ (congrArg₂ (· + ·) (congrArg₂ (· + ·) (congrArg₂ (· * ·) ?_ ?_) (congrArg₂ (· * ·) ?_ ?_)) (congrArg₂ (· * ·) ?_ rfl))
    · unfold nat Row.lin
      pointwise [H]
    · pointwise
    · refine (loadA262 x0 x1 x2 _ arg14 _ hs0 r j).trans ((ext_high x0 x1 x2 _ (fun n j => xs0 (ix2 ⟨n.val, by omega⟩ j)) ⟨262 + r.val, by omega⟩ (by show 8 ≤ 262 + r.val; omega) j).trans ?_)
      exact ext_congr x0 x1 x2 _ (by show 262 + r.val = 6 + (256 + r.val); omega) j
    · pointwise
    · refine (loadA263 x0 x1 x2 _ arg14 _ hs0 r j).trans ((ext_high x0 x1 x2 _ (fun n j => xs0 (ix2 ⟨n.val, by omega⟩ j)) ⟨263 + r.val, by omega⟩ (by show 8 ≤ 263 + r.val; omega) j).trans ?_)
      exact ext_congr x0 x1 x2 _ (by show 263 + r.val = 7 + (256 + r.val); omega) j
    · pointwise
  · intro x
    obtain ⟨r, j, rfl⟩ := half_idx x
    simp only [pay14_apply, pay13_apply, uA, hA]
    rw [embA512]
    show _ = nat x0 x1 x2 ⟨r.val, by omega⟩ ⟨j.val, by omega⟩ * (x4 (ix2 0 j) * ext x0 x1 x2 (fun n j => xs0 (ix2 ⟨n.val, by omega⟩ j)) ⟨6 + (r.val), by omega⟩ j
      + x4 (ix2 1 j) * ext x0 x1 x2 (fun n j => xs0 (ix2 ⟨n.val, by omega⟩ j)) ⟨7 + (r.val), by omega⟩ j + x4 (ix2 2 j) * U x0 x1 x2 ⟨r.val, by omega⟩ j)
    refine congrArg₂ (· * ·) ?_ (congrArg₂ (· + ·) (congrArg₂ (· + ·) (congrArg₂ (· * ·) ?_ ?_) (congrArg₂ (· * ·) ?_ ?_)) (congrArg₂ (· * ·) ?_ rfl))
    · unfold nat Row.lin
      pointwise [H]
    · pointwise
    · refine (loadB6 x0 x1 x2 _ _ _ hs r j).trans ?_
      rfl
    · pointwise
    · refine (loadB7 x0 x1 x2 _ _ _ hs r j).trans ?_
      rfl
    · pointwise

end outs

end Cert.ProjBlock

end
-- ==== Proof.ProjRow.lean ====
/-
  The arrays the layer's first projection computes, as functions of its four argument arrays: the gated causal convolution,
  the keys and queries of the attention and of its indexer, the values in tiles of 256 positions, and the indexer's weights.
-/
module

public import proofs.«01_k».proof.Proof.Row
public import Idealize.ShloMosaic.Lib.IdealHost

@[expose] public section

noncomputable section

namespace Cert.ProjRow

open Idealize.ShloMosaic

section fns
variable (x : Vec Ideal ⟨3, ![8, 4096, 1024]⟩ .f32) (g : Vec Ideal ⟨2, ![1, 1024]⟩ .f32)
  (w : Vec Ideal ⟨3, ![1, 1024, 4808]⟩ .f32) (cw : Vec Ideal ⟨3, ![1, 3, 512]⟩ .f32)

/-- Position `s` of sequence `b`, normalised. -/
def normed (b : Fin 8) (s : Fin 4096) : Fin 1024 → EReal := Row.norm (fun k => x (ix3 b s k)) (fun k => g (ix2 0 k))

/-- Column `j` of the projection of position `s` of sequence `b`. -/
def proj (b : Fin 8) (s : Fin 4096) (j : Fin 4808) : EReal := Row.lin (normed x g b s) (fun k j => w (ix3 0 k j)) j

/-- The convolution's input. -/
def u (b : Fin 8) (s : Fin 4096) (j : Fin 512) : EReal :=
  proj x g w b s ⟨512 + j.val, by omega⟩ * proj x g w b s ⟨1024 + j.val, by omega⟩

/-- The convolution's input `n` positions earlier, zero before the sequence begins. -/
def shifted (n : Nat) (b : Fin 8) (s : Fin 4096) (j : Fin 512) : EReal :=
  if s.val < n then 0 else u x g w b ⟨s.val - n, by omega⟩ j

/-- The gated convolution: the gate times three taps over the present and the two earlier positions. -/
def mixAt (b : Fin 8) (s : Fin 4096) (j : Fin 512) : EReal :=
  proj x g w b s ⟨j.val, by omega⟩ * (cw (ix3 0 0 j) * shifted x g w 2 b s j + cw (ix3 0 1 j) * shifted x g w 1 b s j
    + cw (ix3 0 2 j) * u x g w b s j)

/-- Column `r` of the values tile at position `s`: a value, then a one, then zeros. -/
def valueAt (b : Fin 8) (s : Fin 4096) (r : Fin 80) : EReal :=
  if h : r.val < 64 then proj x g w b s ⟨2112 + r.val, by omega⟩ else if r.val = 64 then 1 else 0

/-- The gated convolution of every position. -/
def mix : Vec Ideal ⟨3, ![8, 4096, 512]⟩ .bf16 := fun i => mixAt x g w cw (i 0) (i 1) (i 2)

/-- Sixty-four columns of the projection, from column `o` on, of every position. -/
def keys (o : Nat) (ho : o + 64 ≤ 4808) : Vec Ideal ⟨3, ![8, 4096, 64]⟩ .bf16 := fun i =>
  proj x g w (i 0) (i 1) ⟨o + (i 2).val, by have h : (i 2).val < 64 := (i 2).isLt; omega⟩

/-- The queries, scaled for base-two logits, channels before positions. -/
def queries : Vec Ideal ⟨3, ![8, 512, 4096]⟩ .bf16 := fun i =>
  proj x g w (i 0) (i 2) ⟨1536 + (i 1).val, by have h : (i 1).val < 512 := (i 1).isLt; omega⟩ * Ideal.ofBits .f32 0x3E38AA3B#32

/-- The indexer's queries, channels before positions. -/
def iqueries : Vec Ideal ⟨3, ![8, 512, 4096]⟩ .bf16 := fun i =>
  proj x g w (i 0) (i 2) ⟨2176 + (i 1).val, by have h : (i 1).val < 512 := (i 1).isLt; omega⟩

/-- The values in sixteen tiles of 256 positions, channels before positions. -/
def values : Vec Ideal ⟨4, ![8, 16, 80, 256]⟩ .bf16 := fun i =>
  valueAt x g w (i 0) ⟨256 * (i 1).val + (i 3).val, by
    have h : (i 1).val < 16 := (i 1).isLt
    have h' : (i 3).val < 256 := (i 3).isLt
    omega⟩ (i 2)

/-- The indexer's weights, scaled, heads before positions. -/
def iweights : Vec Ideal ⟨3, ![8, 8, 4096]⟩ .f32 := fun i =>
  proj x g w (i 0) (i 2) ⟨2752 + (i 1).val, by have h : (i 1).val < 8 := (i 1).isLt; omega⟩ * Ideal.ofBits .f32 0x3D3504F3#32

end fns

/-- The queries' scale is a positive finite number. -/
theorem scale_pos : 0 ≤ Ideal.ofBits .f32 0x3E38AA3B#32 ∧ Ideal.ofBits .f32 0x3E38AA3B#32 ≠ ⊤ := by
  have h : ∃ a : ℝ, 0 ≤ a ∧ Ideal.ofBits .f32 0x3E38AA3B#32 = (a : EReal) := by
    refine ⟨12102203 * ((2 : ℝ) ^ 26)⁻¹, by positivity, ?_⟩
    simp [Ideal.ofBits, Ideal.ieee, -EReal.coe_mul]
  obtain ⟨a, h0, e⟩ := h
  rw [e]
  exact ⟨EReal.coe_nonneg.mpr h0, EReal.coe_ne_top a⟩

/-- A sum of products whose weights are all scaled by one nonnegative finite number is the scaled sum. -/
theorem lin_scaled {K : Nat} (h w : Fin K → EReal) (a : EReal) (ha : 0 ≤ a) (ha' : a ≠ ⊤) :
    ∑ k, w k * a * h k = (∑ k, h k * w k) * a := by
  have key : ∀ s : Finset (Fin K), ∑ k ∈ s, w k * a * h k = (∑ k ∈ s, h k * w k) * a := by
    intro s
    induction s using Finset.induction_on with
    | empty => simp
    | insert k s hk ih =>
      rw [Finset.sum_insert hk, Finset.sum_insert hk, ih, EReal.right_distrib_of_nonneg_of_ne_top ha ha']
      congr 1
      rw [mul_comm (w k * a), mul_assoc (h k)]
  exact key _

end Cert.ProjRow

end
-- ==== Proof.ProjArray.lean ====
/-
  The projection kernel's seven result arrays at the ideal values: their 64 blocks tile them, each what the body leaves of
  the argument rows it stages and of the eight rows of convolution input the block before it left, so that every array is
  the function of the arguments stated in ProjRow.lean.
-/
module
public import proofs.«01_k».proof.Proof.Gen.Kernel2Ideal.Value
public import proofs.«01_k».proof.Proof.ProjMix
public import proofs.«01_k».proof.Proof.ProjRow
public import Idealize.ShloMosaic.Lib.StableHlo.Run
@[expose] public section
set_option maxRecDepth 16384
noncomputable section
namespace Cert.ProjArray
open Cert.Kernel2Ideal Cert.Kernel2Ideal.Gen Idealize.ShloMosaic Idealize.ShloMosaic.TcCoe Idealize.SL.Sem
open Idealize.ShloMosaic.StableHlo
open Idealize.ShloMosaic.Pipeline (Dat)
variable (m : (ℓ : Loc nD τ sig) → Buf (Elt Ideal) ℓ) (ρ : Dev nD → PrngReg)

/-- The input, the normalisation's scale, the input weights and the convolution's weights on device `c`. -/
abbrev aX (c : Dev nD) : Vec Ideal S8x4096x1024 .f32 := m ((c : Thread nD τ).loc main_arg0)
@[inherit_doc aX] abbrev aG (c : Dev nD) : Vec Ideal S1x1024 .f32 := m ((c : Thread nD τ).loc main_arg1)
@[inherit_doc aX] abbrev aW (c : Dev nD) : Vec Ideal S1x1024x4808 .f32 := m ((c : Thread nD τ).loc main_arg2)
@[inherit_doc aX] abbrev aC (c : Dev nD) : Vec Ideal S1x3x512 .f32 := m ((c : Thread nD τ).loc main_arg3)

/-- Which column of the input weights column `j` of the first prepared weights is. -/
def natCol (j : Fin 1664) : Fin 4808 :=
  ⟨if j.val < 1536 then j.val else if j.val < 1600 then 512 + j.val else 1088 + j.val, by split_ifs <;> omega⟩

/-- What the region finds in the prepared array `main_v13`, at an index, of the arguments. -/
theorem V_v13 (c : Dev nD) (k : Fin 1024) (j : Fin 1664) :
    (V m c main_v13 : Vec Ideal _ _) (ix2 k j) = aW m c (ix3 0 k (natCol j)) := by
  unfold_abbrev_sides
  after_results
  pointwise
  split_ifs <;> after_results_simp <;> pointwise <;>
    exact congrArg (fun a : Fin 4808 => aW m c (ix3 0 k a)) (Fin.ext (by unfold natCol; dsimp only; split_ifs <;> omega))

/-- Which column of the input weights row `j` of the second prepared weights is. -/
def trCol (j : Fin 1104) : Fin 4808 :=
  ⟨if j.val < 512 then 1536 + j.val else if j.val < 1024 then 1664 + j.val else if j.val < 1088 then 1088 + j.val else 1664 + j.val,
    by split_ifs <;> omega⟩

/-- What the region finds in the prepared array `main_v19`, in its scaled rows, of the arguments. -/
theorem V_v19_scaled (c : Dev nD) (k : Fin 1024) (j : Fin 1104) (hj : j.val < 512) :
    (V m c main_v19 : Vec Ideal _ _) (ix2 j k) = aW m c (ix3 0 k (trCol j)) * Ideal.ofBits .f32 0x3E38AA3B#32 := by
  unfold_abbrev_sides
  after_results
  pointwise
  split_ifs <;> after_results_simp <;> pointwise <;>
    exact congrArg (fun a : Fin 4808 => aW m c (ix3 0 k a) * Ideal.ofBits .f32 0x3E38AA3B#32)
      (Fin.ext (by unfold trCol; dsimp only; split_ifs <;> omega))

/-- What the region finds in the prepared array `main_v19`, in its other rows but the last eight, of the arguments. -/
theorem V_v19 (c : Dev nD) (k : Fin 1024) (j : Fin 1104) (hj : 512 ≤ j.val) (hj' : j.val < 1096) :
    (V m c main_v19 : Vec Ideal _ _) (ix2 j k) = aW m c (ix3 0 k (trCol j)) := by
  unfold_abbrev_sides
  after_results
  pointwise
  split_ifs
  all_goals first
    | (exfalso; omega)
    | (after_results_simp
       pointwise
       first
       | done
       | exact congrArg (fun a : Fin 4808 => aW m c (ix3 0 k a)) (Fin.ext (by unfold trCol; dsimp only; split_ifs <;> omega)))

/-- What the region finds in the prepared array `main_v21`, at an index, of the arguments. -/
theorem V_v21 (c : Dev nD) (k : Fin 1024) :
    (V m c main_v21 : Vec Ideal _ _) (ix2 0 k) = aG m c (ix2 0 k) := by
  unfold_abbrev_sides
  after_results
  pointwise
/-- What the region finds in the prepared array `main_v22`, at an index, of the arguments. -/
theorem V_v22 (c : Dev nD) (n : Fin 3) (k : Fin 512) :
    (V m c main_v22 : Vec Ideal _ _) (ix2 n k) = aC m c (ix3 0 n k) := by
  unfold_abbrev_sides
  after_results
  pointwise

/-- Window 0's block index at point `t`: sequence `t / 8`, row block `t % 8`. -/
theorem idx0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- The sequence of point `t`. -/
def bt (t : Fin cfg0.N) : Fin 8 := ⟨t.val / 8, by have h : t.val < 64 := t.isLt.trans_eq N_0; omega⟩

/-- The position of row `r` of point `t`'s block. -/
def st (t : Fin cfg0.N) (r : Fin 512) : Fin 4096 := ⟨t.val % 8 * 512 + r.val, by omega⟩

/-- Window 0's block at point `t`: rows `512 (t % 8)` on of sequence `t / 8` of the input. -/
theorem iblk0 (c : Dev nD) (t : Fin cfg0.N) (r : Fin 512) (k : Fin 1024) :
    (iblk m c 0 t : Vec Ideal S1x512x1024 _) (ix3 0 r k) = aX m c (ix3 (bt t) (st t r) k) := by
  show (V m c main_arg0 : Vec Ideal S8x4096x1024 _) ((win0_0.rect t).emb (ix3 0 r k)) = _
  rw [V_main_arg0]
  refine congrArg (aX m c) ?_
  obtain ⟨h0, h1, h2⟩ := idx0 t
  funext a
  match a with
  | ⟨0, _⟩ => exact Fin.ext (by show win0_0.index t 0 * 1 + 1 * 0 = t.val / 8; omega)
  | ⟨1, _⟩ => exact Fin.ext (by show win0_0.index t 1 * 512 + 1 * r.val = t.val % 8 * 512 + r.val; omega)
  | ⟨2, _⟩ => exact Fin.ext (by show win0_0.index t 2 * 1024 + 1 * k.val = k.val; omega)

/-- Window 1's block at every point is its whole array. -/
theorem iblk1 (c : Dev nD) (t : Fin cfg0.N) (j : Fin 1) (k : Fin 1024) :
    (iblk m c 1 t : Vec Ideal S1x1024 _) (ix2 j k) = (V m c main_v21 : Vec Ideal S1x1024 _) (ix2 j k) := by
  show (V m c main_v21 : Vec Ideal S1x1024 _) ((win0_1.rect t).emb (ix2 j k)) = (V m c main_v21 : Vec Ideal S1x1024 _) (ix2 j k)
  congr 1
  funext a
  match a with
  | ⟨0, _⟩ => exact Fin.ext (by show 0 * 1 + 1 * j.val = j.val; omega)
  | ⟨1, _⟩ => exact Fin.ext (by show 0 * 1024 + 1 * k.val = k.val; omega)

/-- Window 2's block at every point is its whole array. -/
theorem iblk2 (c : Dev nD) (t : Fin cfg0.N) (j : Fin 1024) (k : Fin 1664) :
    (iblk m c 2 t : Vec Ideal S1024x1664 _) (ix2 j k) = (V m c main_v13 : Vec Ideal S1024x1664 _) (ix2 j k) := by
  show (V m c main_v13 : Vec Ideal S1024x1664 _) ((win0_2.rect t).emb (ix2 j k)) = (V m c main_v13 : Vec Ideal S1024x1664 _) (ix2 j k)
  congr 1
  funext a
  match a with
  | ⟨0, _⟩ => exact Fin.ext (by show 0 * 1024 + 1 * j.val = j.val; omega)
  | ⟨1, _⟩ => exact Fin.ext (by show 0 * 1664 + 1 * k.val = k.val; omega)

/-- Window 3's block at every point is its whole array. -/
theorem iblk3 (c : Dev nD) (t : Fin cfg0.N) (j : Fin 1104) (k : Fin 1024) :
    (iblk m c 3 t : Vec Ideal S1104x1024 _) (ix2 j k) = (V m c main_v19 : Vec Ideal S1104x1024 _) (ix2 j k) := by
  show (V m c main_v19 : Vec Ideal S1104x1024 _) ((win0_3.rect t).emb (ix2 j k)) = (V m c main_v19 : Vec Ideal S1104x1024 _) (ix2 j k)
  congr 1
  funext a
  match a with
  | ⟨0, _⟩ => exact Fin.ext (by show 0 * 1104 + 1 * j.val = j.val; omega)
  | ⟨1, _⟩ => exact Fin.ext (by show 0 * 1024 + 1 * k.val = k.val; omega)

/-- Window 4's block at every point is its whole array. -/
theorem iblk4 (c : Dev nD) (t : Fin cfg0.N) (j : Fin 3) (k : Fin 512) :
    (iblk m c 4 t : Vec Ideal S3x512 _) (ix2 j k) = (V m c main_v22 : Vec Ideal S3x512 _) (ix2 j k) := by
  show (V m c main_v22 : Vec Ideal S3x512 _) ((win0_4.rect t).emb (ix2 j k)) = (V m c main_v22 : Vec Ideal S3x512 _) (ix2 j k)
  congr 1
  funext a
  match a with
  | ⟨0, _⟩ => exact Fin.ext (by show 0 * 3 + 1 * j.val = j.val; omega)
  | ⟨1, _⟩ => exact Fin.ext (by show 0 * 512 + 1 * k.val = k.val; omega)

/-- A point's normalised rows are those of the input. -/
theorem H_eq (c : Dev nD) (t : Fin cfg0.N) (r : Fin 512) :
    ProjBlock.H (iblk m c 0 t) (iblk m c 1 t) r = ProjRow.normed (aX m c) (aG m c) (bt t) (st t r) := by
  have e0 : (fun k => (iblk m c 0 t : Vec Ideal S1x512x1024 _) (ix3 0 r k)) = fun k => aX m c (ix3 (bt t) (st t r) k) :=
    funext fun k => iblk0 m c t r k
  have e1 : (fun k => (iblk m c 1 t : Vec Ideal S1x1024 _) (ix2 0 k)) = fun k => aG m c (ix2 0 k) :=
    funext fun k => (iblk1 m c t 0 k).trans (V_v21 m c k)
  funext d
  exact congrArg₂ (fun a b => Row.norm a b d) e0 e1

/-- A point's products with the first weights are columns of the projection. -/
theorem nat_eq (c : Dev nD) (t : Fin cfg0.N) (r : Fin 512) (j : Fin 1664) (o : Fin 4808) (h : (natCol j).val = o.val) :
    ProjBlock.nat (iblk m c 0 t) (iblk m c 1 t) (iblk m c 2 t) r j = ProjRow.proj (aX m c) (aG m c) (aW m c) (bt t) (st t r) o := by
  rw [← Fin.ext h]
  unfold ProjBlock.nat ProjRow.proj Row.lin
  exact Finset.sum_congr rfl fun k _ => congrArg₂ (· * ·) (congrFun (H_eq m c t r) k) ((iblk2 m c t k j).trans (V_v13 m c k j))

/-- A point's products with the scaled rows of the second weights are scaled columns of the projection. -/
theorem tr_scaled (c : Dev nD) (t : Fin cfg0.N) (r : Fin 512) (j : Fin 1104) (hj : j.val < 512) (o : Fin 4808) (h : (trCol j).val = o.val) :
    ProjBlock.tr (iblk m c 0 t) (iblk m c 1 t) (iblk m c 3 t) j r
      = ProjRow.proj (aX m c) (aG m c) (aW m c) (bt t) (st t r) o * Ideal.ofBits .f32 0x3E38AA3B#32 := by
  rw [← Fin.ext h]
  refine Eq.trans (Finset.sum_congr rfl fun k _ =>
    congrArg₂ (· * ·) ((iblk3 m c t j k).trans (V_v19_scaled m c k j hj)) (congrFun (H_eq m c t r) k)) ?_
  exact ProjRow.lin_scaled _ _ _ ProjRow.scale_pos.1 ProjRow.scale_pos.2

/-- A point's products with the other rows of the second weights are columns of the projection. -/
theorem tr_eq (c : Dev nD) (t : Fin cfg0.N) (r : Fin 512) (j : Fin 1104) (hj : 512 ≤ j.val) (hj' : j.val < 1096) (o : Fin 4808)
    (h : (trCol j).val = o.val) :
    ProjBlock.tr (iblk m c 0 t) (iblk m c 1 t) (iblk m c 3 t) j r = ProjRow.proj (aX m c) (aG m c) (aW m c) (bt t) (st t r) o := by
  rw [← Fin.ext h]
  refine Eq.trans (Finset.sum_congr rfl fun k _ =>
    congrArg₂ (· * ·) ((iblk3 m c t j k).trans (V_v19 m c k j hj hj')) (congrFun (H_eq m c t r) k)) ?_
  exact Finset.sum_congr rfl fun k _ => mul_comm _ _

/-- The first weights' column below column 1536. -/
theorem natCol_low (j : Fin 1664) (h : j.val < 1536) : (natCol j).val = j.val := if_pos h

/-- A point's convolution input is the input's. -/
theorem U_eq (c : Dev nD) (t : Fin cfg0.N) (r j : Fin 512) :
    ProjBlock.U (iblk m c 0 t) (iblk m c 1 t) (iblk m c 2 t) r j = ProjRow.u (aX m c) (aG m c) (aW m c) (bt t) (st t r) j :=
  congrArg₂ (· * ·) (nat_eq m c t r _ _ (natCol_low _ (by show 512 + j.val < 1536; omega)))
    (nat_eq m c t r _ _ (natCol_low _ (by show 1024 + j.val < 1536; omega)))

/-- What point `t` leaves in the first eight rows of the scratch is its last eight rows' convolution input. -/
theorem left_eq (c : Dev nD) (t : Fin cfg0.N) (n : Fin 520) (h : n.val < 8) (j : Fin 512) :
    (outsAt0 m c t.val t.isLt).2.2.2.2.2.2.2 (ix2 n j)
      = ProjRow.u (aX m c) (aG m c) (aW m c) (bt t) (st t ⟨504 + n.val, by omega⟩) j := by
  refine Eq.trans ?_ (U_eq m c t ⟨504 + n.val, by omega⟩ j)
  by_cases h0 : t.val % 8 = 0
  · rw [outsAt0_A m c t h0]
    dsimp only
    exact ProjBlock.soutA (h := h) ..
  · rw [outsAt0_B m c t h0]
    dsimp only
    exact ProjBlock.soutB (h := h) ..

/-- The scratch's rows read by the tap `o` positions back are the convolution input shifted by `o`. -/
theorem ext_eq (c : Dev nD) (t : Fin cfg0.N) (p : Fin 8 → Fin 512 → EReal)
    (h0 : t.val % 8 = 0 → ∀ n j, p n j = 0)
    (h1 : t.val % 8 ≠ 0 → ∀ (n : Fin 8) (j : Fin 512) (s : Fin 4096), s.val = t.val % 8 * 512 + n.val - 8 →
      p n j = ProjRow.u (aX m c) (aG m c) (aW m c) (bt t) s j)
    (o : Nat) (ho : o ≤ 8) (r j : Fin 512) (n : Fin 520) (hn : n.val + o = 8 + r.val) :
    ProjBlock.ext (iblk m c 0 t) (iblk m c 1 t) (iblk m c 2 t) p n j
      = ProjRow.shifted (aX m c) (aG m c) (aW m c) o (bt t) (st t r) j := by
  unfold ProjBlock.ext ProjRow.shifted
  have hs : (st t r).val = t.val % 8 * 512 + r.val := rfl
  by_cases hn8 : n.val < 8
  · rw [dif_pos hn8]
    by_cases ht : t.val % 8 = 0
    · rw [if_pos (by omega)]
      exact h0 ht _ _
    · rw [if_neg (by omega)]
      exact h1 ht _ _ _ (by show (st t r).val - o = t.val % 8 * 512 + n.val - 8; omega)
  · rw [dif_neg hn8, if_neg (by omega), U_eq]
    exact congrArg (fun s => ProjRow.u (aX m c) (aG m c) (aW m c) (bt t) s j)
      (Fin.ext (by show t.val % 8 * 512 + (n.val - 8) = (st t r).val - o; omega))

/-- A point's gated convolution is the input's, over rows `p` that are zero in a sequence's first block and otherwise the
    convolution input before the block. -/
theorem mix_eq (c : Dev nD) (t : Fin cfg0.N) (p : Fin 8 → Fin 512 → EReal)
    (h0 : t.val % 8 = 0 → ∀ n j, p n j = 0)
    (h1 : t.val % 8 ≠ 0 → ∀ (n : Fin 8) (j : Fin 512) (s : Fin 4096), s.val = t.val % 8 * 512 + n.val - 8 →
      p n j = ProjRow.u (aX m c) (aG m c) (aW m c) (bt t) s j) (r j : Fin 512) :
    ProjBlock.mix (iblk m c 0 t) (iblk m c 1 t) (iblk m c 2 t) (iblk m c 4 t) p r j
      = ProjRow.mixAt (aX m c) (aG m c) (aW m c) (aC m c) (bt t) (st t r) j := by
  refine congrArg₂ (· * ·) (nat_eq m c t r _ _ (natCol_low _ (by show j.val < 1536; omega)))
    (congrArg₂ (· + ·) (congrArg₂ (· + ·)
      (congrArg₂ (· * ·) ((iblk4 m c t 0 j).trans (V_v22 m c 0 j)) (ext_eq m c t p h0 h1 2 (by omega) r j _ (by show 6 + r.val + 2 = 8 + r.val; omega)))
      (congrArg₂ (· * ·) ((iblk4 m c t 1 j).trans (V_v22 m c 1 j)) (ext_eq m c t p h0 h1 1 (by omega) r j _ (by show 7 + r.val + 1 = 8 + r.val; omega))))
      (congrArg₂ (· * ·) ((iblk4 m c t 2 j).trans (V_v22 m c 2 j)) (U_eq m c t r j)))

/-- A point's tile of values is the input's. -/
theorem vals_eq (c : Dev nD) (t : Fin cfg0.N) (n : Fin 2) (j : Fin 80) (l : Fin 256) :
    ProjBlock.vals (iblk m c 0 t) (iblk m c 1 t) (iblk m c 3 t) n j l
      = ProjRow.valueAt (aX m c) (aG m c) (aW m c) (bt t) (st t ⟨256 * n.val + l.val, by omega⟩) j := by
  unfold ProjBlock.vals ProjRow.valueAt
  by_cases h : j.val < 64
  · rw [dif_pos h, dif_pos h]
    exact tr_eq m c t _ ⟨1024 + j.val, by omega⟩ (by dsimp only; omega) (by dsimp only; omega) ⟨2112 + j.val, by omega⟩
      (by unfold trCol; dsimp only; split_ifs <;> omega)
  · rw [dif_neg h, dif_neg h]

/-- The gated convolution, as the array the kernel is shown to leave on device `c`. -/
abbrev result5 (c : Dev nD) : Buf (Elt Ideal) ((c : Thread nD τ).loc main_v23_0) := ProjRow.mix (aX m c) (aG m c) (aW m c) (aC m c)

/-- Its window's block index at point `t`. -/
theorem idx5 : ∀ t : Fin cfg0.N, win0_5.index t 0 = t.val / 8 ∧ win0_5.index t 1 = t.val % 8 ∧ win0_5.index t 2 = 0 :=
  (by decide +kernel : ∀ t : Fin grid0.N, win0_5.index t 0 = t.val / 8 ∧ win0_5.index t 1 = t.val % 8 ∧ win0_5.index t 2 = 0)

/-- Where an index of point `t`'s block lies in the result array. -/
theorem emb5 (t : Fin cfg0.N) (r : Fin 512) (d : Fin 512) : (win0_5.rect t).emb (ix3 0 r d) = (ix3 (bt t) (st t r) d : S8x4096x512.Idx) := by
  obtain ⟨h0, h1, h2⟩ := idx5 t
  funext a
  match a with
  | ⟨0, _⟩ => exact Fin.ext (by show win0_5.index t 0 * 1 + 1 * 0 = t.val / 8; omega)
  | ⟨1, _⟩ => exact Fin.ext (by show win0_5.index t 1 * 512 + 1 * r.val = t.val % 8 * 512 + r.val; omega)
  | ⟨2, _⟩ => exact Fin.ext (by show win0_5.index t 2 * 512 + 1 * d.val = d.val; omega)

/-- An index of a block names its two coordinates. -/
theorem block_idx {R C : Nat} (y : (⟨3, ![1, R, C]⟩ : Shape).Idx) : ∃ (r : Fin R) (d : Fin C), y = ix3 0 r d :=
  ⟨y 1, y 2, by
    funext a
    match a with
    | ⟨0, _⟩ => exact Subsingleton.elim (α := Fin 1) _ _
    | ⟨1, _⟩ => rfl
    | ⟨2, _⟩ => rfl⟩

/-- What a later block of a sequence finds in the first eight rows of the scratch is the convolution input before it. -/
theorem before_eq (c : Dev nD) (t : Fin cfg0.N) (ht : t.val % 8 ≠ 0) (n : Fin 8) (j : Fin 512) (s : Fin 4096)
    (hs : s.val = t.val % 8 * 512 + n.val - 8) :
    (outsAt0 m c (t.val - 1) (Nat.lt_of_le_of_lt (Nat.sub_le _ _) t.isLt)).2.2.2.2.2.2.2 (ix2 ⟨n.val, by omega⟩ j)
      = ProjRow.u (aX m c) (aG m c) (aW m c) (bt t) s j := by
  refine (left_eq m c ⟨t.val - 1, Nat.lt_of_le_of_lt (Nat.sub_le _ _) t.isLt⟩ ⟨n.val, by omega⟩ n.isLt j).trans ?_
  exact congrArg₂ (fun b s => ProjRow.u (aX m c) (aG m c) (aW m c) b s j)
    (Fin.ext (by show (t.val - 1) / 8 = t.val / 8; omega)) (Fin.ext (by show (t.val - 1) % 8 * 512 + (504 + n.val) = s.val; omega))

/-- What point `t` writes back is block `t` of that array. -/
theorem flushed5_eq (c : Dev nD) (t : Fin cfg0.N) :
    (dats m 0 c).flushed 5 t = (win0_5.blk t).view.read (Elt Ideal) (result5 m c) := by
  by_cases h0 : t.val % 8 = 0
  · rw [Value.flushed5_A m c t h0]
    funext y
    obtain ⟨r, d, rfl⟩ : ∃ (r : Fin 512) (d : Fin 512), (y : S1x512x512.Idx) = ix3 0 r d := block_idx y
    exact (ProjBlock.outA5 (y := ix3 0 r d) ..).trans ((mix_eq m c t _ (fun _ _ _ => rfl) (fun h => absurd h0 h) r d).trans (congrArg (result5 m c) (emb5 t r d)).symm)
  · rw [Value.flushed5_B m c t h0]
    funext y
    obtain ⟨r, d, rfl⟩ : ∃ (r : Fin 512) (d : Fin 512), (y : S1x512x512.Idx) = ix3 0 r d := block_idx y
    exact (ProjBlock.outB5 (y := ix3 0 r d) ..).trans ((mix_eq m c t _ (fun h => absurd h h0) (before_eq m c t) r d).trans (congrArg (result5 m c) (emb5 t r d)).symm)

/-- So the kernel leaves that array. -/
theorem final5 (c : Dev nD) : (dats m 0 c).arrAt 5 cfg0.N = result5 m c :=
  (dats m 0 c).arrAt_eq_of_cover 5 (result5 m c) (fun t _ => flushed5_eq m c t) fun i => (Value.covered_iff5 i).2 (by
    have h0 : (i 0).val < 8 := (i 0).isLt
    have h1 : (i 1).val < 4096 := (i 1).isLt
    have h2 : (i 2).val < 512 := (i 2).isLt
    omega)

/-- The keys, as the array the kernel is shown to leave on device `c`. -/
abbrev result6 (c : Dev nD) : Buf (Elt Ideal) ((c : Thread nD τ).loc main_v23_1) := ProjRow.keys (aX m c) (aG m c) (aW m c) 2048 (by omega)

/-- Its window's block index at point `t`. -/
theorem idx6 : ∀ t : Fin cfg0.N, win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0)

/-- Where an index of point `t`'s block lies in the result array. -/
theorem emb6 (t : Fin cfg0.N) (r : Fin 512) (d : Fin 64) : (win0_6.rect t).emb (ix3 0 r d) = (ix3 (bt t) (st t r) d : S8x4096x64.Idx) := by
  obtain ⟨h0, h1, h2⟩ := idx6 t
  funext a
  match a with
  | ⟨0, _⟩ => exact Fin.ext (by show win0_6.index t 0 * 1 + 1 * 0 = t.val / 8; omega)
  | ⟨1, _⟩ => exact Fin.ext (by show win0_6.index t 1 * 512 + 1 * r.val = t.val % 8 * 512 + r.val; omega)
  | ⟨2, _⟩ => exact Fin.ext (by show win0_6.index t 2 * 64 + 1 * d.val = d.val; omega)

/-- What point `t` leaves there at an index is that array's entry. -/
theorem blk6_eq (c : Dev nD) (t : Fin cfg0.N) (r : Fin 512) (d : Fin 64) :
    ProjBlock.nat (iblk m c 0 t) (iblk m c 1 t) (iblk m c 2 t) r ⟨1536 + d.val, by omega⟩ = result6 m c (ix3 (bt t) (st t r) d) :=
  nat_eq m c t r ⟨1536 + d.val, by omega⟩ ⟨2048 + d.val, by omega⟩ (by unfold natCol; dsimp only; split_ifs <;> omega)

/-- What point `t` writes back is block `t` of that array. -/
theorem flushed6_eq (c : Dev nD) (t : Fin cfg0.N) :
    (dats m 0 c).flushed 6 t = (win0_6.blk t).view.read (Elt Ideal) (result6 m c) := by
  by_cases h0 : t.val % 8 = 0
  · rw [Value.flushed6_A m c t h0]
    funext y
    obtain ⟨r, d, rfl⟩ : ∃ (r : Fin 512) (d : Fin 64), (y : S1x512x64.Idx) = ix3 0 r d := block_idx y
    exact (ProjBlock.outA6 (y := ix3 0 r d) ..).trans ((blk6_eq m c t r d).trans (congrArg (result6 m c) (emb6 t r d)).symm)
  · rw [Value.flushed6_B m c t h0]
    funext y
    obtain ⟨r, d, rfl⟩ : ∃ (r : Fin 512) (d : Fin 64), (y : S1x512x64.Idx) = ix3 0 r d := block_idx y
    exact (ProjBlock.outB6 (y := ix3 0 r d) ..).trans ((blk6_eq m c t r d).trans (congrArg (result6 m c) (emb6 t r d)).symm)

/-- So the kernel leaves that array. -/
theorem final6 (c : Dev nD) : (dats m 0 c).arrAt 6 cfg0.N = result6 m c :=
  (dats m 0 c).arrAt_eq_of_cover 6 (result6 m c) (fun t _ => flushed6_eq m c t) fun i => (Value.covered_iff6 i).2 (by
    have h0 : (i 0).val < 8 := (i 0).isLt
    have h1 : (i 1).val < 4096 := (i 1).isLt
    have h2 : (i 2).val < 64 := (i 2).isLt
    omega)

/-- The indexer's keys, as the array the kernel is shown to leave on device `c`. -/
abbrev result7 (c : Dev nD) : Buf (Elt Ideal) ((c : Thread nD τ).loc main_v23_2) := ProjRow.keys (aX m c) (aG m c) (aW m c) 2688 (by omega)

/-- Its window's block index at point `t`. -/
theorem idx7 : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)

/-- Where an index of point `t`'s block lies in the result array. -/
theorem emb7 (t : Fin cfg0.N) (r : Fin 512) (d : Fin 64) : (win0_7.rect t).emb (ix3 0 r d) = (ix3 (bt t) (st t r) d : S8x4096x64.Idx) := by
  obtain ⟨h0, h1, h2⟩ := idx7 t
  funext a
  match a with
  | ⟨0, _⟩ => exact Fin.ext (by show win0_7.index t 0 * 1 + 1 * 0 = t.val / 8; omega)
  | ⟨1, _⟩ => exact Fin.ext (by show win0_7.index t 1 * 512 + 1 * r.val = t.val % 8 * 512 + r.val; omega)
  | ⟨2, _⟩ => exact Fin.ext (by show win0_7.index t 2 * 64 + 1 * d.val = d.val; omega)

/-- What point `t` leaves there at an index is that array's entry. -/
theorem blk7_eq (c : Dev nD) (t : Fin cfg0.N) (r : Fin 512) (d : Fin 64) :
    ProjBlock.nat (iblk m c 0 t) (iblk m c 1 t) (iblk m c 2 t) r ⟨1600 + d.val, by omega⟩ = result7 m c (ix3 (bt t) (st t r) d) :=
  nat_eq m c t r ⟨1600 + d.val, by omega⟩ ⟨2688 + d.val, by omega⟩ (by unfold natCol; dsimp only; split_ifs <;> omega)

/-- What point `t` writes back is block `t` of that array. -/
theorem flushed7_eq (c : Dev nD) (t : Fin cfg0.N) :
    (dats m 0 c).flushed 7 t = (win0_7.blk t).view.read (Elt Ideal) (result7 m c) := by
  by_cases h0 : t.val % 8 = 0
  · rw [Value.flushed7_A m c t h0]
    funext y
    obtain ⟨r, d, rfl⟩ : ∃ (r : Fin 512) (d : Fin 64), (y : S1x512x64.Idx) = ix3 0 r d := block_idx y
    exact (ProjBlock.outA7 (y := ix3 0 r d) ..).trans ((blk7_eq m c t r d).trans (congrArg (result7 m c) (emb7 t r d)).symm)
  · rw [Value.flushed7_B m c t h0]
    funext y
    obtain ⟨r, d, rfl⟩ : ∃ (r : Fin 512) (d : Fin 64), (y : S1x512x64.Idx) = ix3 0 r d := block_idx y
    exact (ProjBlock.outB7 (y := ix3 0 r d) ..).trans ((blk7_eq m c t r d).trans (congrArg (result7 m c) (emb7 t r d)).symm)

/-- So the kernel leaves that array. -/
theorem final7 (c : Dev nD) : (dats m 0 c).arrAt 7 cfg0.N = result7 m c :=
  (dats m 0 c).arrAt_eq_of_cover 7 (result7 m c) (fun t _ => flushed7_eq m c t) fun i => (Value.covered_iff7 i).2 (by
    have h0 : (i 0).val < 8 := (i 0).isLt
    have h1 : (i 1).val < 4096 := (i 1).isLt
    have h2 : (i 2).val < 64 := (i 2).isLt
    omega)

/-- The queries, as the array the kernel is shown to leave on device `c`. -/
abbrev result8 (c : Dev nD) : Buf (Elt Ideal) ((c : Thread nD τ).loc main_v23_3) := ProjRow.queries (aX m c) (aG m c) (aW m c)

/-- Its window's block index at point `t`. -/
theorem idx8 : ∀ t : Fin cfg0.N, win0_8.index t 0 = t.val / 8 ∧ win0_8.index t 1 = 0 ∧ win0_8.index t 2 = t.val % 8 :=
  (by decide +kernel : ∀ t : Fin grid0.N, win0_8.index t 0 = t.val / 8 ∧ win0_8.index t 1 = 0 ∧ win0_8.index t 2 = t.val % 8)

/-- Where an index of point `t`'s block lies in the result array. -/
theorem emb8 (t : Fin cfg0.N) (r : Fin 512) (d : Fin 512) : (win0_8.rect t).emb (ix3 0 r d) = (ix3 (bt t) r (st t d) : S8x512x4096.Idx) := by
  obtain ⟨h0, h1, h2⟩ := idx8 t
  funext a
  match a with
  | ⟨0, _⟩ => exact Fin.ext (by show win0_8.index t 0 * 1 + 1 * 0 = t.val / 8; omega)
  | ⟨1, _⟩ => exact Fin.ext (by show win0_8.index t 1 * 512 + 1 * r.val = r.val; omega)
  | ⟨2, _⟩ => exact Fin.ext (by show win0_8.index t 2 * 512 + 1 * d.val = t.val % 8 * 512 + d.val; omega)

/-- What point `t` leaves there at an index is that array's entry. -/
theorem blk8_eq (c : Dev nD) (t : Fin cfg0.N) (r : Fin 512) (d : Fin 512) :
    ProjBlock.tr (iblk m c 0 t) (iblk m c 1 t) (iblk m c 3 t) ⟨r.val, by omega⟩ d = result8 m c (ix3 (bt t) r (st t d)) :=
  tr_scaled m c t d ⟨r.val, by omega⟩ r.isLt ⟨1536 + r.val, by omega⟩ (by unfold trCol; dsimp only; split_ifs <;> omega)

/-- What point `t` writes back is block `t` of that array. -/
theorem flushed8_eq (c : Dev nD) (t : Fin cfg0.N) :
    (dats m 0 c).flushed 8 t = (win0_8.blk t).view.read (Elt Ideal) (result8 m c) := by
  by_cases h0 : t.val % 8 = 0
  · rw [Value.flushed8_A m c t h0]
    funext y
    obtain ⟨r, d, rfl⟩ : ∃ (r : Fin 512) (d : Fin 512), (y : S1x512x512.Idx) = ix3 0 r d := block_idx y
    exact (ProjBlock.outA8 (y := ix3 0 r d) ..).trans ((blk8_eq m c t r d).trans (congrArg (result8 m c) (emb8 t r d)).symm)
  · rw [Value.flushed8_B m c t h0]
    funext y
    obtain ⟨r, d, rfl⟩ : ∃ (r : Fin 512) (d : Fin 512), (y : S1x512x512.Idx) = ix3 0 r d := block_idx y
    exact (ProjBlock.outB8 (y := ix3 0 r d) ..).trans ((blk8_eq m c t r d).trans (congrArg (result8 m c) (emb8 t r d)).symm)

/-- So the kernel leaves that array. -/
theorem final8 (c : Dev nD) : (dats m 0 c).arrAt 8 cfg0.N = result8 m c :=
  (dats m 0 c).arrAt_eq_of_cover 8 (result8 m c) (fun t _ => flushed8_eq m c t) fun i => (Value.covered_iff8 i).2 (by
    have h0 : (i 0).val < 8 := (i 0).isLt
    have h1 : (i 1).val < 512 := (i 1).isLt
    have h2 : (i 2).val < 4096 := (i 2).isLt
    omega)

/-- The indexer's queries, as the array the kernel is shown to leave on device `c`. -/
abbrev result9 (c : Dev nD) : Buf (Elt Ideal) ((c : Thread nD τ).loc main_v23_4) := ProjRow.iqueries (aX m c) (aG m c) (aW m c)

/-- Its window's block index at point `t`. -/
theorem idx9 : ∀ t : Fin cfg0.N, win0_9.index t 0 = t.val / 8 ∧ win0_9.index t 1 = 0 ∧ win0_9.index t 2 = t.val % 8 :=
  (by decide +kernel : ∀ t : Fin grid0.N, win0_9.index t 0 = t.val / 8 ∧ win0_9.index t 1 = 0 ∧ win0_9.index t 2 = t.val % 8)

/-- Where an index of point `t`'s block lies in the result array. -/
theorem emb9 (t : Fin cfg0.N) (r : Fin 512) (d : Fin 512) : (win0_9.rect t).emb (ix3 0 r d) = (ix3 (bt t) r (st t d) : S8x512x4096.Idx) := by
  obtain ⟨h0, h1, h2⟩ := idx9 t
  funext a
  match a with
  | ⟨0, _⟩ => exact Fin.ext (by show win0_9.index t 0 * 1 + 1 * 0 = t.val / 8; omega)
  | ⟨1, _⟩ => exact Fin.ext (by show win0_9.index t 1 * 512 + 1 * r.val = r.val; omega)
  | ⟨2, _⟩ => exact Fin.ext (by show win0_9.index t 2 * 512 + 1 * d.val = t.val % 8 * 512 + d.val; omega)

/-- What point `t` leaves there at an index is that array's entry. -/
theorem blk9_eq (c : Dev nD) (t : Fin cfg0.N) (r : Fin 512) (d : Fin 512) :
    ProjBlock.tr (iblk m c 0 t) (iblk m c 1 t) (iblk m c 3 t) ⟨512 + r.val, by omega⟩ d = result9 m c (ix3 (bt t) r (st t d)) :=
  tr_eq m c t d ⟨512 + r.val, by omega⟩ (by dsimp only; omega) (by dsimp only; omega) ⟨2176 + r.val, by omega⟩ (by unfold trCol; dsimp only; split_ifs <;> omega)

/-- What point `t` writes back is block `t` of that array. -/
theorem flushed9_eq (c : Dev nD) (t : Fin cfg0.N) :
    (dats m 0 c).flushed 9 t = (win0_9.blk t).view.read (Elt Ideal) (result9 m c) := by
  by_cases h0 : t.val % 8 = 0
  · rw [Value.flushed9_A m c t h0]
    funext y
    obtain ⟨r, d, rfl⟩ : ∃ (r : Fin 512) (d : Fin 512), (y : S1x512x512.Idx) = ix3 0 r d := block_idx y
    exact (ProjBlock.outA9 (y := ix3 0 r d) ..).trans ((blk9_eq m c t r d).trans (congrArg (result9 m c) (emb9 t r d)).symm)
  · rw [Value.flushed9_B m c t h0]
    funext y
    obtain ⟨r, d, rfl⟩ : ∃ (r : Fin 512) (d : Fin 512), (y : S1x512x512.Idx) = ix3 0 r d := block_idx y
    exact (ProjBlock.outB9 (y := ix3 0 r d) ..).trans ((blk9_eq m c t r d).trans (congrArg (result9 m c) (emb9 t r d)).symm)

/-- So the kernel leaves that array. -/
theorem final9 (c : Dev nD) : (dats m 0 c).arrAt 9 cfg0.N = result9 m c :=
  (dats m 0 c).arrAt_eq_of_cover 9 (result9 m c) (fun t _ => flushed9_eq m c t) fun i => (Value.covered_iff9 i).2 (by
    have h0 : (i 0).val < 8 := (i 0).isLt
    have h1 : (i 1).val < 512 := (i 1).isLt
    have h2 : (i 2).val < 4096 := (i 2).isLt
    omega)

/-- The values, as the array the kernel is shown to leave on device `c`. -/
abbrev result10 (c : Dev nD) : Buf (Elt Ideal) ((c : Thread nD τ).loc main_v23_5) := ProjRow.values (aX m c) (aG m c) (aW m c)

/-- The values window's block index at point `t`. -/
theorem idx10 : ∀ t : Fin cfg0.N, win0_10.index t 0 = t.val / 8 ∧ win0_10.index t 1 = t.val % 8 ∧ win0_10.index t 2 = 0 ∧ win0_10.index t 3 = 0 :=
  (by decide +kernel : ∀ t : Fin grid0.N, win0_10.index t 0 = t.val / 8 ∧ win0_10.index t 1 = t.val % 8 ∧ win0_10.index t 2 = 0 ∧ win0_10.index t 3 = 0)

/-- An index of a block of two tiles of values. -/
theorem tile_idx (y : S1x2x80x256.Idx) : ∃ (n : Fin 2) (j : Fin 80) (l : Fin 256), y = ix4 0 n j l :=
  ⟨y 1, y 2, y 3, by idx_vars y; rw [Subsingleton.elim y0 0]⟩

/-- Where an index of point `t`'s block of values lies in the result array. -/
theorem emb10 (t : Fin cfg0.N) (n : Fin 2) (j : Fin 80) (l : Fin 256) :
    (win0_10.rect t).emb (ix4 0 n j l) = (ix4 (bt t) ⟨t.val % 8 * 2 + n.val, by omega⟩ j l : S8x16x80x256.Idx) := by
  obtain ⟨h0, h1, h2, h3⟩ := idx10 t
  funext a
  match a with
  | ⟨0, _⟩ => exact Fin.ext (by show win0_10.index t 0 * 1 + 1 * 0 = t.val / 8; omega)
  | ⟨1, _⟩ => exact Fin.ext (by show win0_10.index t 1 * 2 + 1 * n.val = t.val % 8 * 2 + n.val; omega)
  | ⟨2, _⟩ => exact Fin.ext (by show win0_10.index t 2 * 80 + 1 * j.val = j.val; omega)
  | ⟨3, _⟩ => exact Fin.ext (by show win0_10.index t 3 * 256 + 1 * l.val = l.val; omega)

/-- What point `t` writes back is block `t` of that array. -/
theorem flushed10_eq (c : Dev nD) (t : Fin cfg0.N) :
    (dats m 0 c).flushed 10 t = (win0_10.blk t).view.read (Elt Ideal) (result10 m c) := by
  by_cases h0 : t.val % 8 = 0
  · rw [Value.flushed10_A m c t h0]
    funext y
    obtain ⟨r, j, l, rfl⟩ : ∃ (r : Fin 2) (j : Fin 80) (l : Fin 256), (y : S1x2x80x256.Idx) = ix4 0 r j l := tile_idx y
    refine (ProjBlock.outA10 (y := ix4 0 r j l) ..).trans ((vals_eq m c t r j l).trans (Eq.trans ?_ (congrArg (result10 m c) (emb10 t r j l)).symm))
    exact congrArg (fun s => ProjRow.valueAt (aX m c) (aG m c) (aW m c) (bt t) s j)
        (Fin.ext (by show t.val % 8 * 512 + (256 * r.val + l.val) = 256 * (t.val % 8 * 2 + r.val) + l.val; omega))
  · rw [Value.flushed10_B m c t h0]
    funext y
    obtain ⟨r, j, l, rfl⟩ : ∃ (r : Fin 2) (j : Fin 80) (l : Fin 256), (y : S1x2x80x256.Idx) = ix4 0 r j l := tile_idx y
    refine (ProjBlock.outB10 (y := ix4 0 r j l) ..).trans ((vals_eq m c t r j l).trans (Eq.trans ?_ (congrArg (result10 m c) (emb10 t r j l)).symm))
    exact congrArg (fun s => ProjRow.valueAt (aX m c) (aG m c) (aW m c) (bt t) s j)
        (Fin.ext (by show t.val % 8 * 512 + (256 * r.val + l.val) = 256 * (t.val % 8 * 2 + r.val) + l.val; omega))

/-- So the kernel leaves that array. -/
theorem final10 (c : Dev nD) : (dats m 0 c).arrAt 10 cfg0.N = result10 m c :=
  (dats m 0 c).arrAt_eq_of_cover 10 (result10 m c) (fun t _ => flushed10_eq m c t) fun i => (Value.covered_iff10 i).2 (by
    have h0 : (i 0).val < 8 := (i 0).isLt
    have h1 : (i 1).val < 16 := (i 1).isLt
    have h2 : (i 2).val < 80 := (i 2).isLt
    have h3 : (i 3).val < 256 := (i 3).isLt
    omega)

/-- The indexer's weights, as the array the kernel is shown to leave on device `c`. -/
abbrev result11 (c : Dev nD) : Buf (Elt Ideal) ((c : Thread nD τ).loc main_v23_6) := ProjRow.iweights (aX m c) (aG m c) (aW m c)

/-- Its window's block index at point `t`. -/
theorem idx11 : ∀ t : Fin cfg0.N, win0_11.index t 0 = t.val / 8 ∧ win0_11.index t 1 = 0 ∧ win0_11.index t 2 = t.val % 8 :=
  (by decide +kernel : ∀ t : Fin grid0.N, win0_11.index t 0 = t.val / 8 ∧ win0_11.index t 1 = 0 ∧ win0_11.index t 2 = t.val % 8)

/-- Where an index of point `t`'s block lies in the result array. -/
theorem emb11 (t : Fin cfg0.N) (r : Fin 8) (d : Fin 512) : (win0_11.rect t).emb (ix3 0 r d) = (ix3 (bt t) r (st t d) : S8x8x4096.Idx) := by
  obtain ⟨h0, h1, h2⟩ := idx11 t
  funext a
  match a with
  | ⟨0, _⟩ => exact Fin.ext (by show win0_11.index t 0 * 1 + 1 * 0 = t.val / 8; omega)
  | ⟨1, _⟩ => exact Fin.ext (by show win0_11.index t 1 * 8 + 1 * r.val = r.val; omega)
  | ⟨2, _⟩ => exact Fin.ext (by show win0_11.index t 2 * 512 + 1 * d.val = t.val % 8 * 512 + d.val; omega)

/-- What point `t` leaves there at an index is that array's entry. -/
theorem blk11_eq (c : Dev nD) (t : Fin cfg0.N) (r : Fin 8) (d : Fin 512) :
    ProjBlock.tr (iblk m c 0 t) (iblk m c 1 t) (iblk m c 3 t) ⟨1088 + r.val, by omega⟩ d * Ideal.ofBits .f32 0x3D3504F3#32 = result11 m c (ix3 (bt t) r (st t d)) :=
  congrArg (· * Ideal.ofBits .f32 0x3D3504F3#32) (tr_eq m c t d ⟨1088 + r.val, by omega⟩ (by dsimp only; omega) (by dsimp only; omega) ⟨2752 + r.val, by omega⟩ (by unfold trCol; dsimp only; split_ifs <;> omega))

/-- What point `t` writes back is block `t` of that array. -/
theorem flushed11_eq (c : Dev nD) (t : Fin cfg0.N) :
    (dats m 0 c).flushed 11 t = (win0_11.blk t).view.read (Elt Ideal) (result11 m c) := by
  by_cases h0 : t.val % 8 = 0
  · rw [Value.flushed11_A m c t h0]
    funext y
    obtain ⟨r, d, rfl⟩ : ∃ (r : Fin 8) (d : Fin 512), (y : S1x8x512.Idx) = ix3 0 r d := block_idx y
    exact (ProjBlock.outA11 (y := ix3 0 r d) ..).trans ((blk11_eq m c t r d).trans (congrArg (result11 m c) (emb11 t r d)).symm)
  · rw [Value.flushed11_B m c t h0]
    funext y
    obtain ⟨r, d, rfl⟩ : ∃ (r : Fin 8) (d : Fin 512), (y : S1x8x512.Idx) = ix3 0 r d := block_idx y
    exact (ProjBlock.outB11 (y := ix3 0 r d) ..).trans ((blk11_eq m c t r d).trans (congrArg (result11 m c) (emb11 t r d)).symm)

/-- So the kernel leaves that array. -/
theorem final11 (c : Dev nD) : (dats m 0 c).arrAt 11 cfg0.N = result11 m c :=
  (dats m 0 c).arrAt_eq_of_cover 11 (result11 m c) (fun t _ => flushed11_eq m c t) fun i => (Value.covered_iff11 i).2 (by
    have h0 : (i 0).val < 8 := (i 0).isLt
    have h1 : (i 1).val < 8 := (i 1).isLt
    have h2 : (i 2).val < 4096 := (i 2).isLt
    omega)

end Cert.ProjArray

end
-- ==== Proof.ProjRef.lean ====
/-
  The second reference read index by index: its projection is that of ProjRow.lean at every position, and each of its seven
  results is the array stated there.
-/
module

public import proofs.«01_k».proof.Proof.Gen.Reference2Ideal.Run
public import proofs.«01_k».proof.Proof.ProjRow
public import Idealize.ShloMosaic.Lib.Pointwise

@[expose] public section

set_option maxRecDepth 16384

noncomputable section

namespace Cert.ProjRef

open Cert.Reference2Ideal Cert.Reference2Ideal.Gen Cert.Reference2Ideal.Value Idealize.ShloMosaic Idealize.ShloMosaic.TcCoe
open Idealize.ShloMosaic.StableHlo

section of
variable (x : Vec Ideal S8x4096x1024 .f32) (g : Vec Ideal S1x1024 .f32) (w : Vec Ideal S1x1024x4808 .f32) (C : Vec Ideal S1x3x512 .f32)
  (P : Vec Ideal S8x4096x4808 .f32)

/-- The reference's product of the normalised input and the input weights. -/
abbrev product : Vec Ideal S8x4096x4808 .f32 :=
  Host.dotGeneral (F := Ideal) dot_S8x4096x1024_S1024x4808_S8x4096x4808_2_0_01_1_n_n none (mulf (F := Ideal) (mulf (F := Ideal) x (broadcastInDim S8x4096x1024 ![0, 1, 2] bcast_S8x4096x1_S8x4096x1024_0_1_2 (Host.rsqrt (F := Ideal) (addf (F := Ideal) (Host.divf (F := Ideal) (broadcastInDim S8x4096x1 ![0, 1] bcast_S8x4096_S8x4096x1_0_1 (Host.reduceAdd (F := Ideal) (mulf (F := Ideal) x x) (constant (F := Ideal) S_ .f32 0x00000000#32) reducesTo_S8x4096x1024_S8x4096_d2 h_S_)) (broadcastInDim S8x4096x1 ![] bcast_S_S8x4096x1 (constant (F := Ideal) S_ .f32 0x44800000#32))) (broadcastInDim S8x4096x1 ![] bcast_S_S8x4096x1 (constant (F := Ideal) S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))) (shapeCast _ w shapeCasts_S1x1024x4808_S1024x4808 : FVec Ideal S1024x4808 .f32)

/-- It is the projection. -/
theorem product_apply (b : Fin 8) (s : Fin 4096) (j : Fin 4808) : product x g w (ix3 b s j) = ProjRow.proj x g w b s j := by
  pointwise [product, ProjRow.proj, ProjRow.normed, Row.lin, Row.norm, Row.invRms]

variable (hP : ∀ b s j, P (ix3 b s j) = ProjRow.proj x g w b s j)
include hP

/-- The gated convolution as the reference writes them, over any array equal to the projection. -/
theorem mix_of : (truncf (F := Ideal) .bf16 (mulf (F := Ideal) (extractStridedSlice S8x4096x512 ![0, 0, 0] P slices_S8x4096x4808_S8x4096x512_0_0_0) (addf (F := Ideal) (addf (F := Ideal) (mulf (F := Ideal) (broadcastInDim S8x4096x512 ![0, 1, 2] bcast_S1x1x512_S8x4096x512_0_1_2 (broadcastInDim S1x1x512 ![2] bcast_S512_S1x1x512_2 (shapeCast _ (extractStridedSlice S1x1x512 ![0, 0, 0] C slices_S1x3x512_S1x1x512_0_0_0) shapeCasts_S1x1x512_S512))) (concatenate S8x4096x512 1 [⟨S8x2x512, (broadcastInDim S8x2x512 ![] bcast_S_S8x2x512 (constant (F := Ideal) S_ .f32 0x00000000#32))⟩, ⟨S8x4094x512, (extractStridedSlice S8x4094x512 ![0, 0, 0] (mulf (F := Ideal) (extractStridedSlice S8x4096x512 ![0, 0, 512] P slices_S8x4096x4808_S8x4096x512_0_0_512) (extractStridedSlice S8x4096x512 ![0, 0, 1024] P slices_S8x4096x4808_S8x4096x512_0_0_1024)) slices_S8x4096x512_S8x4094x512_0_0_0)⟩] concatenates_S8x2x512_S8x4094x512_S8x4096x512_d1)) (mulf (F := Ideal) (broadcastInDim S8x4096x512 ![0, 1, 2] bcast_S1x1x512_S8x4096x512_0_1_2 (broadcastInDim S1x1x512 ![2] bcast_S512_S1x1x512_2 (shapeCast _ (extractStridedSlice S1x1x512 ![0, 1, 0] C slices_S1x3x512_S1x1x512_0_1_0) shapeCasts_S1x1x512_S512))) (concatenate S8x4096x512 1 [⟨S8x1x512, (broadcastInDim S8x1x512 ![] bcast_S_S8x1x512 (constant (F := Ideal) S_ .f32 0x00000000#32))⟩, ⟨S8x4095x512, (extractStridedSlice S8x4095x512 ![0, 0, 0] (mulf (F := Ideal) (extractStridedSlice S8x4096x512 ![0, 0, 512] P slices_S8x4096x4808_S8x4096x512_0_0_512) (extractStridedSlice S8x4096x512 ![0, 0, 1024] P slices_S8x4096x4808_S8x4096x512_0_0_1024)) slices_S8x4096x512_S8x4095x512_0_0_0)⟩] concatenates_S8x1x512_S8x4095x512_S8x4096x512_d1))) (mulf (F := Ideal) (broadcastInDim S8x4096x512 ![0, 1, 2] bcast_S1x1x512_S8x4096x512_0_1_2 (broadcastInDim S1x1x512 ![2] bcast_S512_S1x1x512_2 (shapeCast _ (extractStridedSlice S1x1x512 ![0, 2, 0] C slices_S1x3x512_S1x1x512_0_2_0) shapeCasts_S1x1x512_S512))) (mulf (F := Ideal) (extractStridedSlice S8x4096x512 ![0, 0, 512] P slices_S8x4096x4808_S8x4096x512_0_0_512) (extractStridedSlice S8x4096x512 ![0, 0, 1024] P slices_S8x4096x4808_S8x4096x512_0_0_1024))))) bitsLt_bf16_f32 : Vec Ideal S8x4096x512 .bf16) = ProjRow.mix x g w C := by
  funext i
  idx_vars i
  pointwise
  simp only [hP, dite_eq_ite]
  rfl

/-- The keys as the reference writes them, over any array equal to the projection. -/
theorem keys_of : (truncf (F := Ideal) .bf16 (extractStridedSlice S8x4096x64 ![0, 0, 2048] P slices_S8x4096x4808_S8x4096x64_0_0_2048) bitsLt_bf16_f32 : Vec Ideal S8x4096x64 .bf16) = ProjRow.keys x g w 2048 (by omega) := by
  funext i
  idx_vars i
  refine Eq.trans ?_ (hP _ _ _)
  pointwise

/-- The indexer's keys as the reference writes them, over any array equal to the projection. -/
theorem ikeys_of : (truncf (F := Ideal) .bf16 (extractStridedSlice S8x4096x64 ![0, 0, 2688] P slices_S8x4096x4808_S8x4096x64_0_0_2688) bitsLt_bf16_f32 : Vec Ideal S8x4096x64 .bf16) = ProjRow.keys x g w 2688 (by omega) := by
  funext i
  idx_vars i
  refine Eq.trans ?_ (hP _ _ _)
  pointwise

/-- The queries as the reference writes them, over any array equal to the projection. -/
theorem queries_of : (truncf (F := Ideal) .bf16 (transpose S8x512x4096 [0, 2, 1] (mulf (F := Ideal) (extractStridedSlice S8x4096x512 ![0, 0, 1536] P slices_S8x4096x4808_S8x4096x512_0_0_1536) (broadcastInDim S8x4096x512 ![] bcast_S_S8x4096x512 (constant (F := Ideal) S_ .f32 0x3E38AA3B#32))) transposes_S8x4096x512_S8x512x4096_0_2_1) bitsLt_bf16_f32 : Vec Ideal S8x512x4096 .bf16) = ProjRow.queries x g w := by
  funext i
  idx_vars i
  refine Eq.trans ?_ (congrArg (· * Ideal.ofBits .f32 0x3E38AA3B#32) (hP _ _ _))
  pointwise

/-- The indexer's queries as the reference writes them, over any array equal to the projection. -/
theorem iqueries_of : (truncf (F := Ideal) .bf16 (transpose S8x512x4096 [0, 2, 1] (extractStridedSlice S8x4096x512 ![0, 0, 2176] P slices_S8x4096x4808_S8x4096x512_0_0_2176) transposes_S8x4096x512_S8x512x4096_0_2_1) bitsLt_bf16_f32 : Vec Ideal S8x512x4096 .bf16) = ProjRow.iqueries x g w := by
  funext i
  idx_vars i
  refine Eq.trans ?_ (hP _ _ _)
  pointwise

/-- The values as the reference writes them, over any array equal to the projection. -/
theorem values_of : (truncf (F := Ideal) .bf16 ((concatenate S8x16x80x256 2 [⟨S8x16x64x256, ((transpose S8x16x64x256 [0, 1, 3, 2] (shapeCast _ (extractStridedSlice S8x4096x64 ![0, 0, 2112] P slices_S8x4096x4808_S8x4096x64_0_0_2112) shapeCasts_S8x4096x64_S8x16x256x64) transposes_S8x16x256x64_S8x16x64x256_0_1_3_2) : (⟨S8x16x64x256, .f32⟩ : BufTy).Contents (Elt Ideal))⟩, ⟨S8x16x1x256, ((broadcastInDim S8x16x1x256 ![] bcast_S_S8x16x1x256 (constant (F := Ideal) S_ .f32 0x3F800000#32)) : (⟨S8x16x1x256, .f32⟩ : BufTy).Contents (Elt Ideal))⟩, ⟨S8x16x15x256, ((broadcastInDim S8x16x15x256 ![] bcast_S_S8x16x15x256 (constant (F := Ideal) S_ .f32 0x00000000#32)) : (⟨S8x16x15x256, .f32⟩ : BufTy).Contents (Elt Ideal))⟩] concatenates_S8x16x64x256_S8x16x1x256_S8x16x15x256_S8x16x80x256_d2 : (⟨S8x16x80x256, .f32⟩ : BufTy).Contents (Elt Ideal))) bitsLt_bf16_f32 : Vec Ideal S8x16x80x256 .bf16) = ProjRow.values x g w := by
  funext i
  idx_vars i
  pointwise
  simp only [hP]
  unfold ProjRow.values ProjRow.valueAt
  simp only [ix4_0, ix4_1, ix4_2, ix4_3]
  by_cases h : i2.val < 64
  · refine (dif_pos h).trans (Eq.trans ?_ (dif_pos h).symm)
    exact congrArg (fun s => ProjRow.proj x g w i0 s ⟨2112 + i2.val, by omega⟩) (Fin.ext (by show i1.val * 256 + i3.val = 256 * i1.val + i3.val; omega))
  · refine (dif_neg h).trans (Eq.trans ?_ (dif_neg h).symm)
    simp only [dite_eq_ite]
    by_cases h' : i2.val = 64
    · exact (if_pos (by omega)).trans (if_pos h').symm
    · exact (if_neg (by omega)).trans (if_neg h').symm

/-- The indexer's weights as the reference writes them, over any array equal to the projection. -/
theorem iweights_of : (transpose S8x8x4096 [0, 2, 1] (mulf (F := Ideal) (extractStridedSlice S8x4096x8 ![0, 0, 2752] P slices_S8x4096x4808_S8x4096x8_0_0_2752) (broadcastInDim S8x4096x8 ![] bcast_S_S8x4096x8 (constant (F := Ideal) S_ .f32 0x3D3504F3#32))) transposes_S8x4096x8_S8x8x4096_0_2_1 : Vec Ideal S8x8x4096 .f32) = ProjRow.iweights x g w := by
  funext i
  idx_vars i
  refine Eq.trans ?_ (congrArg (· * Ideal.ofBits .f32 0x3D3504F3#32) (hP _ _ _))
  pointwise

end of

end Cert.ProjRef

end
-- ==== Proof.ProjClaims.lean ====
/-
  The claims about the projection kernel: it runs and leaves its arguments alone, and at the ideal values its seven results
  are the reference's.
-/
module

public import proofs.«01_k».proof.Defs
public import proofs.«01_k».proof.Proof.Gen.Kernel2.Frame
public import proofs.«01_k».proof.Proof.Gen.Reference2Ideal
public import proofs.«01_k».proof.Proof.ProjArray
public import proofs.«01_k».proof.Proof.ProjRef
public import Idealize.ShloMosaic.Lib.Quiescent

@[expose] public section

set_option maxRecDepth 16384

noncomputable section

open Idealize.ShloMosaic Idealize.ShloMosaic.TcCoe Idealize.SL.Sem

namespace Cert.Proj

/-- The projection kernel runs, ends with every semaphore at zero, and leaves its arguments alone. -/
theorem frame_kernel : Cert.quiescent_Kernel2 := fun m ρ _ => Cert.Kernel2.Gen.frame m ρ

/-- The same of the projection kernel at the ideal values. -/
theorem frame_ideal : Cert.quiescent_Kernel2Ideal := fun m ρ _ => Cert.Kernel2Ideal.Gen.frame m ρ

/-- Its reference runs and leaves its arguments alone; it has no semaphore. -/
theorem frame_reference : Cert.quiescent_Reference2Ideal := fun m ρ _ =>
  (θ_run Cert.Reference2Ideal.defs _ _).mono (fun r h => ⟨fun c => (h c).2.2.2.2.2.2.2,
      Idealize.ShloMosaic.sem_eq_zero_of_no_sems (by decide) r.2⟩)
    (Cert.Reference2Ideal.Value.run (F := Ideal) m ρ)

/-- No operation was rewritten between the projection kernel and its ideal reading. -/
theorem preserves : Cert.preserves_Kernel2_Kernel2Ideal := trivial

/-- The keys at a column are equal when the arguments are. -/
theorem keys_congr {x x' : FVec Ideal Cert.Kernel2Ideal.S8x4096x1024 .f32} {g g' : FVec Ideal Cert.Kernel2Ideal.S1x1024 .f32}
    {w w' : FVec Ideal Cert.Kernel2Ideal.S1x1024x4808 .f32} {o : Nat} {ho : o + 64 ≤ 4808} (hx : x = x') (hg : g = g') (hw : w = w') :
    ProjRow.keys x g w o ho = ProjRow.keys x' g' w' o ho := by
  subst hx hg hw
  rfl

/-- At the ideal values the projection kernel and its reference leave the same seven results from the same arguments: the
    arrays of ProjRow.lean. -/
theorem algebraic : Cert.algebraic_Kernel2Ideal_Reference2Ideal := fun m ρ m' ρ' _ hag =>
  ⟨fun c => ProjArray.result5 m c, fun c => ProjArray.result6 m c, fun c => ProjArray.result7 m c, fun c => ProjArray.result8 m c,
    fun c => ProjArray.result9 m c, fun c => ProjArray.result10 m c, fun c => ProjArray.result11 m c,
    (θ_run Cert.Kernel2Ideal.defs _ _).mono (fun _ h c => ⟨(h c).1.trans (ProjArray.final5 m c),
        (h c).2.1.trans (ProjArray.final6 m c),
        (h c).2.2.1.trans (ProjArray.final7 m c),
        (h c).2.2.2.1.trans (ProjArray.final8 m c),
        (h c).2.2.2.2.1.trans (ProjArray.final9 m c),
        (h c).2.2.2.2.2.1.trans (ProjArray.final10 m c),
        (h c).2.2.2.2.2.2.1.trans (ProjArray.final11 m c),
        (h c).2.2.2.2.2.2.2⟩)
      (Cert.Kernel2Ideal.Value.run_blocks m ρ),
    (θ_run Cert.Reference2Ideal.defs _ _).mono (fun _ h c => ⟨((h c).1.trans (ProjRef.mix_of _ _ _ _ _ (ProjRef.product_apply _ _ _))).trans (congr (congr (congr (congrArg ProjRow.mix (hag c).1) (hag c).2.1) (hag c).2.2.1) (hag c).2.2.2),
        ((h c).2.1.trans (ProjRef.keys_of _ _ _ _ (ProjRef.product_apply _ _ _))).trans (keys_congr (hag c).1 (hag c).2.1 (hag c).2.2.1),
        ((h c).2.2.1.trans (ProjRef.ikeys_of _ _ _ _ (ProjRef.product_apply _ _ _))).trans (keys_congr (hag c).1 (hag c).2.1 (hag c).2.2.1),
        ((h c).2.2.2.1.trans (ProjRef.queries_of _ _ _ _ (ProjRef.product_apply _ _ _))).trans (congr (congr (congrArg ProjRow.queries (hag c).1) (hag c).2.1) (hag c).2.2.1),
        ((h c).2.2.2.2.1.trans (ProjRef.iqueries_of _ _ _ _ (ProjRef.product_apply _ _ _))).trans (congr (congr (congrArg ProjRow.iqueries (hag c).1) (hag c).2.1) (hag c).2.2.1),
        ((h c).2.2.2.2.2.1.trans (ProjRef.values_of _ _ _ _ (ProjRef.product_apply _ _ _))).trans (congr (congr (congrArg ProjRow.values (hag c).1) (hag c).2.1) (hag c).2.2.1),
        ((h c).2.2.2.2.2.2.1.trans (ProjRef.iweights_of _ _ _ _ (ProjRef.product_apply _ _ _))).trans (congr (congr (congrArg ProjRow.iweights (hag c).1) (hag c).2.1) (hag c).2.2.1),
        (h c).2.2.2.2.2.2.2⟩)
      (Cert.Reference2Ideal.Value.run m' ρ')⟩

end Cert.Proj

end
-- ==== Proof.Calm.lean ====
/-
  Programs that keep a fixed statement about memory. `Calm J p` says: if `J` holds, `p` runs, and `J` holds again when it is
  done. Loads and stores through memory `J` owns keep it, and so does every program built from such ones by sequence, choice
  and loop; nothing has to be said about the values.
-/
module

public import Idealize.ShloMosaic.Lib.Pipeline.FrameBody
public import Idealize.ShloMosaic.Lib.Tactic
public import Idealize.ShloMosaic.Lib.Scf

@[expose] public section

noncomputable section

namespace Cert.Calm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} {Λ : Labels}

local notation "𝕄" => MT nD τ sig Unit Val ℕ (UR sig nD τ) ℕ

variable (defs : Defs nD τ sig Val Λ) (c : Dev nD)

/-- From `J`, the program runs and `J` holds at its end, whatever it returns. -/
def Calm (J : sProp 𝕄) {α : Type} (p : Prog (TpuEff nD τ sig Val Λ .tc) α) : Prop :=
  (J : sProp 𝕄) ⊢ wp frame (wpE (Ix := Unit) (Name := ℕ) (U := UR sig nD τ) (Lvl := ℕ) defs Variants.none (c : Thread nD τ) none) Set.univ p (fun _ => J)

/-- `J` owns a share of the memory `m` names, at some contents. -/
def Reads (J : sProp 𝕄) {sp : Space} {s : Shape} {e : EltTy} (m : Memref sig .tc sp s e) : Prop :=
  J ⊢ iprop(∃ q, ∃ f : Buf Val (m.view.loc (c : Thread nD τ)), (m.view.loc (c : Thread nD τ) ↦[m.view.set]{q} f) ∗ ((m.view.loc (c : Thread nD τ) ↦[m.view.set]{q} f) -∗ J))

/-- `J` owns the memory `m` names at some contents, and takes it back at any. -/
def Writes (J : sProp 𝕄) {sp : Space} {s : Shape} {e : EltTy} (m : Memref sig .tc sp s e) : Prop :=
  J ⊢ iprop(∃ f : Buf Val (m.view.loc (c : Thread nD τ)), (m.view.loc (c : Thread nD τ) ↦[m.view.set]{fullShare} f)
    ∗ (∀ g : Buf Val (m.view.loc (c : Thread nD τ)), (m.view.loc (c : Thread nD τ) ↦[m.view.set]{fullShare} g) -∗ J))

variable {defs c} {J : sProp (MT nD τ sig Unit Val ℕ (UR sig nD τ) ℕ)}

theorem Writes.reads {sp : Space} {s : Shape} {e : EltTy} {m : Memref sig .tc sp s e} (h : Writes c J m) : Reads c J m := by
  unfold Reads
  refine BIBase.Entails.trans h ?_
  iintro ⟨%f, Hf, Hk⟩
  iexists fullShare; iexists f
  isplitl [Hf]; · iexact Hf
  iapply Hk

variable {α β : Type}

theorem Calm.ret (a : α) : Calm defs c J (.ret a) := by
  unfold Calm
  rw [wp_ret]
  iintro H; imodintro; iexact H

theorem Calm.pure (a : α) : Calm defs c J (Pure.pure a) := Calm.ret a

theorem Calm.bind {p : Prog (TpuEff nD τ sig Val Λ .tc) α} {k : α → Prog (TpuEff nD τ sig Val Λ .tc) β}
    (hp : Calm defs c J p) (hk : ∀ a, Calm defs c J (k a)) : Calm defs c J (p >>= k) := by
  unfold Calm
  rw [wp_bind]
  exact hp.trans (wp_mono _ _ _ fun a => hk a)

theorem Calm.load {cs : CoreSpace} {s : Shape} {e : EltTy} {m : Memref sig .tc cs s e} (hm : Reads c J m) (r : LoadRect s)
    (hl : m.view.LoadsAt r) : Calm defs c J (Prog.lift (.load m r hl)) := by
  unfold Calm
  refine BIBase.Entails.trans hm ?_
  iintro ⟨%q, %f, Hf, Hk⟩
  iapply (wp_load Variants.none (c : Thread nD τ) none Set.univ (View.setOn_subset_set m.view r.set)) $$ Hf
  iintro Hf
  rw [wp_ret]; imodintro
  iapply Hk; iexact Hf

theorem Calm.store {cs : CoreSpace} {s : Shape} {e : EltTy} {m : Memref sig .tc cs s e} (hm : Writes c J m) (r : Rect s)
    (w : r.shape.Idx → Val e) (Mk : Finset r.shape.Idx) (hx : (m.access r).Stores Mk) (hu : Mk = Finset.univ ∨ ∀ a, r.stride a = 1) :
    Calm defs c J (Prog.lift (.store m r w Mk hx hu)) := by
  unfold Calm
  refine BIBase.Entails.trans hm ?_
  iintro ⟨%f, Hf, Hk⟩
  iapply (wp_store (m := m) (r := r) (w := w) (Mk := Mk) (hx := hx) (hm := hu) (k := Prog.ret) (S := m.view.set) (f := f)
    Variants.none (c : Thread nD τ) none Set.univ
    ((View.setOn_subset_set _ Mk).trans (by rw [View.set_slice]; exact View.setOn_subset_set m.view _))) $$ Hf
  iintro Hf
  rw [wp_ret]; imodintro
  iapply Hk; iexact Hf

theorem Calm.word {s : Shape} {e : EltTy} {m : Memref sig .tc .smem s e} (hm : Reads c J m) (r : Rect s)
    (h1 : r.shape.numel = 1) (hp : e.packing = 1) : Calm defs c J (smemLoad m r h1 hp) := by
  unfold smemLoad smemLoadElt
  exact (Calm.load hm r.toLoadRect _).bind fun a => Calm.ret _

theorem Calm.loop {w : ℕ} {σ : Type} (lb ub st : BitVec w) (hok : Scf.OK lb ub st) (init : σ)
    {body : Fin (Scf.trips lb ub st) → σ → Prog (TpuEff nD τ sig Val Λ .tc) σ} (hb : ∀ k a, Calm defs c J (body k a)) :
    Calm defs c J (Scf.for lb ub st hok init body) := by
  unfold Calm
  iintro H
  iapply (Scf.wp_for frame (wpE defs Variants.none (c : Thread nD τ) none) Set.univ lb ub st hok init body (fun _ _ => J) (fun k a => hb k a))
  isplitl [H]; · iexact H
  iintro %a H; iexact H

theorem Calm.cond {P : Prop} [Decidable P] {p : P → Prog (TpuEff nD τ sig Val Λ .tc) α} {q : ¬P → Prog (TpuEff nD τ sig Val Λ .tc) α}
    (hp : ∀ h, Calm defs c J (p h)) (hq : ∀ h, Calm defs c J (q h)) : Calm defs c J (if h : P then p h else q h) := by
  by_cases h : P
  · rw [dif_pos h]; exact hp h
  · rw [dif_neg h]; exact hq h

theorem Calm.choose {P : Prop} [Decidable P] {p q : Prog (TpuEff nD τ sig Val Λ .tc) α}
    (hp : Calm defs c J p) (hq : Calm defs c J q) : Calm defs c J (if P then p else q) := by
  by_cases h : P
  · rw [if_pos h]; exact hp
  · rw [if_neg h]; exact hq

/-! ### What a conjunction owns -/

section Owned

variable {K : sProp (MT nD τ sig Unit Val ℕ (UR sig nD τ) ℕ)} {sp : Space} {s : Shape} {e : EltTy} {m : Memref sig .tc sp s e}

theorem Reads.first (h : Reads c J m) : Reads c iprop(J ∗ K) m := by
  unfold Reads
  refine BIBase.Entails.trans (sep_mono_left h) ?_
  iintro ⟨⟨%q, %f, Hf, Hk⟩, HK⟩
  iexists q; iexists f
  isplitl [Hf]; · iexact Hf
  iintro Hf
  isplitr [HK]
  · iapply Hk; iexact Hf
  · iexact HK

theorem Reads.later (h : Reads c K m) : Reads c iprop(J ∗ K) m := by
  unfold Reads
  refine BIBase.Entails.trans (sep_mono_right h) ?_
  iintro ⟨HJ, ⟨%q, %f, Hf, Hk⟩⟩
  iexists q; iexists f
  isplitl [Hf]; · iexact Hf
  iintro Hf
  isplitl [HJ]
  · iexact HJ
  · iapply Hk; iexact Hf

theorem Reads.owned (q : PosShare TreeShare) (X : s.Idx → Val e) : Reads c (owns (c : Thread nD τ) m q X) m := by
  unfold Reads owns
  iintro ⟨%f, %hf, Hf⟩
  iexists q; iexists f
  isplitl [Hf]; · iexact Hf
  iintro Hf
  iexists f
  isplitr
  · ipureintro; exact hf
  · iexact Hf

theorem Writes.first (h : Writes c J m) : Writes c iprop(J ∗ K) m := by
  unfold Writes
  refine BIBase.Entails.trans (sep_mono_left h) ?_
  iintro ⟨⟨%f, Hf, Hk⟩, HK⟩
  iexists f
  isplitl [Hf]; · iexact Hf
  iintro %g Hg
  isplitr [HK]
  · iapply Hk; iexact Hg
  · iexact HK

theorem Writes.later (h : Writes c K m) : Writes c iprop(J ∗ K) m := by
  unfold Writes
  refine BIBase.Entails.trans (sep_mono_right h) ?_
  iintro ⟨HJ, ⟨%f, Hf, Hk⟩⟩
  iexists f
  isplitl [Hf]; · iexact Hf
  iintro %g Hg
  isplitl [HJ]
  · iexact HJ
  · iapply Hk; iexact Hg

theorem Writes.owned : Writes c iprop(∃ X : s.Idx → Val e, owns (c : Thread nD τ) m fullShare X) m := by
  unfold Writes owns
  iintro ⟨%X, %f, %hf, Hf⟩
  iexists f
  isplitl [Hf]; · iexact Hf
  iintro %g Hg
  iexists (m.view.read Val g); iexists g
  isplitr
  · ipureintro; rfl
  · iexact Hg

/-- A whole buffer held at some contents. -/
theorem Writes.buffer (b : Ref sig .tc) :
    Writes c iprop(∃ f : Buf Val ((c : Thread nD τ).loc b), ((c : Thread nD τ).loc b) ↦{fullShare} f) (Memref.whole b) := by
  unfold Writes
  rw [show (Memref.whole b).view.set = Finset.univ from View.set_whole b]
  iintro ⟨%f, Hf⟩
  iexists f
  isplitl [Hf]; · iexact Hf
  iintro %g Hg
  iexists g
  iexact Hg

end Owned

end Cert.Calm

end
-- ==== Proof.DsaBody.lean ====
/-
  The body of the attention call, from start to end, whatever the buffers hold: if the argument blocks can be read, and the
  output's block and the scratch buffers read and written, the body runs and gives them all back.
-/
module

public import proofs.«01_k».proof.Kernel3
public import proofs.«01_k».proof.Proof.Calm

@[expose] public section

noncomputable section

namespace Cert.Kernel3

open Idealize.ShloMosaic Idealize.ShloMosaic.TcCoe Idealize.SL Idealize.SL.RA Idealize.SL.BI Idealize.SL.Sem
open Cert.Calm

variable {F : FTy → Type} [BitOps F] [Facts]
  {c : Dev nD} {J : sProp (MT nD τ sig Unit (Elt F) ℕ (UR sig nD τ) ℕ)}
variable (i : grid0.Coords) (arg2 : Memref sig .tc .smem S32x8 .f32) (harg2 : arg2.IsWhole) (arg3 : Memref sig .tc .vmem S1x512x256 .bf16) (harg3 : arg3.IsWhole) (arg4 : Memref sig .tc .vmem S1x8x256 .f32) (harg4 : arg4.IsWhole) (arg5 : Memref sig .tc .vmem S1x4096x64 .bf16) (harg5 : arg5.IsWhole) (arg6 : Memref sig .tc .vmem S1x512x256 .bf16) (harg6 : arg6.IsWhole) (arg7 : Memref sig .tc .vmem S1x4096x64 .bf16) (harg7 : arg7.IsWhole) (arg8 : Memref sig .tc .vmem S1x16x80x256 .bf16) (harg8 : arg8.IsWhole) (arg9 : Memref sig .tc .vmem S1x256x512 .bf16) (harg9 : arg9.IsWhole) (arg10 : Memref sig .tc .vmem S16x256x256 .i32) (harg10 : arg10.IsWhole) (arg11 : Memref sig .tc .vmem S16x32x8x256 .i32) (harg11 : arg11.IsWhole) (arg12 : Memref sig .tc .vmem S16x8x256 .i32) (harg12 : arg12.IsWhole) (arg13 : Memref sig .tc .vmem S32x256x256 .f32) (harg13 : arg13.IsWhole) (arg14 : Memref sig .tc .vmem S2x8x256x256 .f32) (harg14 : arg14.IsWhole) (arg15 : Memref sig .tc .vmem S512x256 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256x256 .f32) (harg19 : arg19.IsWhole) (arg20 : Memref sig .tc .vmem S8x256x256 .f32) (harg20 : arg20.IsWhole)
  (h2 : Reads c J arg2) (h3 : Reads c J arg3) (h4 : Reads c J arg4) (h5 : Reads c J arg5) (h6 : Reads c J arg6) (h7 : Reads c J arg7) (h8 : Reads c J arg8) (h9 : Writes c J arg9) (h10 : Writes c J arg10) (h11 : Writes c J arg11) (h12 : Writes c J arg12) (h13 : Writes c J arg13) (h14 : Writes c J arg14) (h15 : Writes c J arg15) (h16 : Writes c J arg16) (h17 : Writes c J arg17) (h18 : Writes c J arg18) (h19 : Writes c J arg19) (h20 : Writes c J arg20)

include h2 h3 h4 h5 h6 h7 h8 h9 h10 h11 h12 h13 h14 h15 h16 h17 h18 h19 h20

set_option backward.isDefEq.respectTransparency.types false in
set_option maxHeartbeats 0 in
/-- The whole body keeps what it is handed. The parts named in the proof are those that begin with a conditional. -/
theorem whole : Calm defs₀ c J (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) := by
  (repeat' first
    | with_reducible exact Calm.pure _
    | with_reducible exact Calm.ret _
    | with_reducible exact Calm.word h2 _ _ _
    | with_reducible exact Calm.load (by first | assumption | exact Writes.reads (by assumption)) _ _
    | with_reducible exact Calm.store (by assumption) _ _ _ _ _
    | with_reducible refine Calm.bind ?_ fun _ => ?_
    | with_reducible refine Calm.cond (fun _ => ?_) fun _ => ?_
    | with_reducible refine Calm.choose ?_ ?_
    | with_reducible refine Calm.loop _ _ _ _ _ fun _ _ => ?_
    | unfold k0_part598
    | unfold k0_part601
    | unfold k0_part604
    | unfold k0_part610
    | refine Calm.bind ?_ fun _ => ?_
    | exact Calm.pure _)

end Cert.Kernel3
end
-- ==== Proof.DsaFrame.lean ====
/-
  The attention call leaves its arguments as they were, and ends with every semaphore at zero. What its body writes into the
  output's block and into its scratch buffers is not named: at each point of the grid the body is handed the seven argument
  blocks, some contents of the output's block and of the scratch buffers, and gives the same back (Proof/DsaBody.lean).
-/
module

public import proofs.«01_k».proof.Defs
public import proofs.«01_k».proof.Proof.Gen.Kernel3.Frame
public import proofs.«01_k».proof.Proof.DsaBody

@[expose] public section

set_option maxRecDepth 16384

noncomputable section

namespace Cert.Dsa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel3 Cert.Kernel3.Gen Cert.Calm

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ### What the body is handed at a point -/

/-- The scratch buffers, each at some contents. -/
def scratch (c : Dev nD) : sProp 𝕄 :=
  Pipeline.scopedRest (Ix := Unit) (Name := ℕ) (U := UR sig nD τ) (Lvl := ℕ) (Val := Elt F) spec0 c

/-- The argument blocks at a point, some contents of the output's block, and the scratch buffers. -/
def held (c : Dev nD) (t : Fin cfg0.N) : sProp 𝕄 :=
  iprop(owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ (∃ d, owns (c : Thread nD τ) (st0_7 t) fullShare d)
    ∗ scratch c)

theorem body_calm (c : Dev nD) (t : Fin cfg0.N) : Calm (defs₀ (F := F)) c (held m c t) (bodyAt0 t) := by
  unfold held scratch
  rw [scopedRest0_eq]
  refine whole _ _ _ _ _ _ _ _ _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_
  · exact Reads.first (Reads.owned _ _)
  · iterate 1 refine Reads.later ?_
    exact Reads.first (Reads.owned _ _)
  · iterate 2 refine Reads.later ?_
    exact Reads.first (Reads.owned _ _)
  · iterate 3 refine Reads.later ?_
    exact Reads.first (Reads.owned _ _)
  · iterate 4 refine Reads.later ?_
    exact Reads.first (Reads.owned _ _)
  · iterate 5 refine Reads.later ?_
    exact Reads.first (Reads.owned _ _)
  · iterate 6 refine Reads.later ?_
    exact Reads.first (Reads.owned _ _)
  · iterate 7 refine Writes.later ?_
    exact Writes.first Writes.owned
  · iterate 8 refine Writes.later ?_
    exact Writes.first (Writes.buffer _)
  · iterate 9 refine Writes.later ?_
    exact Writes.first (Writes.buffer _)
  · iterate 10 refine Writes.later ?_
    exact Writes.first (Writes.buffer _)
  · iterate 11 refine Writes.later ?_
    exact Writes.first (Writes.buffer _)
  · iterate 12 refine Writes.later ?_
    exact Writes.first (Writes.buffer _)
  · iterate 13 refine Writes.later ?_
    exact Writes.first (Writes.buffer _)
  · iterate 14 refine Writes.later ?_
    exact Writes.first (Writes.buffer _)
  · iterate 15 refine Writes.later ?_
    exact Writes.first (Writes.buffer _)
  · iterate 16 refine Writes.later ?_
    exact Writes.first (Writes.buffer _)
  · iterate 17 refine Writes.later ?_
    exact Writes.first (Writes.buffer _)
  · iterate 18 refine Writes.later ?_
    exact Writes.buffer _

/-! ### The launch -/

/-- The output's window: what the body leaves in it is not named. -/
def loose : Fin 8 → Bool := fun w => w.val == 7

/-- The pipeline's data: every argument's block stays what it was. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed (cfg := cfg0) ⟨7, h⟩ t
  Φ _ := Pipeline.ΦA spec0 c
  q _ := fullShare
  owed _ := 0

theorem arrays (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = iblk m c 2 t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d
theorem before4 (c : Dev nD) (t : Fin cfg0.N) (d) : (dats m 0 c).before 4 t d = iblk m c 4 t :=
  before0_4_of m (dats m 0 c) (arrays m c 4) (after4 m c) t d
theorem before5 (c : Dev nD) (t : Fin cfg0.N) (d) : (dats m 0 c).before 5 t d = iblk m c 5 t :=
  before0_5_of m (dats m 0 c) (arrays m c 5) (after5 m c) t d
theorem before6 (c : Dev nD) (t : Fin cfg0.N) (d) : (dats m 0 c).before 6 t d = iblk m c 6 t :=
  before0_6_of m (dats m 0 c) (arrays m c 6) (after6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d))

theorem pre_held (c : Dev nD) (t : Fin cfg0.N) :
    bodyPre m c t ⊢ iprop(((∃ r, prngReg c r) ∗ (dats m 0 c).owesAt () t.castSucc) ∗ held m c t) := by
  unfold bodyPre held scratch
  simp only [before0, before1, before2, before3, before4, before5, before6]
  rw [show (dats m 0 c).Φ t.castSucc = Pipeline.ΦA spec0 c from rfl]
  unfold Pipeline.ΦA
  iintro ⟨⟨Hs, Hr⟩, Ho, ⟨%_, H0⟩, ⟨%_, H1⟩, ⟨%_, H2⟩, ⟨%_, H3⟩, ⟨%_, H4⟩, ⟨%_, H5⟩, ⟨%_, H6⟩, H7⟩
  isplitl [Hr Ho]
  · isplitl [Hr]
    · iexact Hr
    · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact Hs

theorem held_post (c : Dev nD) (t : Fin cfg0.N) :
    iprop(((∃ r, prngReg c r) ∗ (dats m 0 c).owesAt () t.castSucc) ∗ held m c t) ⊢ bodyPost m c t := by
  unfold bodyPost held scratch
  rw [show (dats m 0 c).Φ t.succ = Pipeline.ΦA spec0 c from rfl,
    show (dats m 0 c).owesAt () t.succ = (dats m 0 c).owesAt () t.castSucc from rfl, after0, after1, after2, after3, after4, after5, after6]
  unfold Pipeline.ΦA
  iintro ⟨⟨Hr, Ho⟩, H0, H1, H2, H3, H4, H5, H6, H7, Hs⟩
  isplitl [Hs Hr]
  · isplitl [Hs]
    · iexact Hs
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (c : Dev nD) (t : Fin cfg0.N) :
    bodyPre m c t ⊢ wp frame (wpE (defs₀ (F := F)) Variants.none c none) Set.univ (bodyAt0 t) (fun _ => bodyPost m c t) := by
  refine BIBase.Entails.trans (pre_held m c t) ?_
  refine BIBase.Entails.trans (sep_mono_right (body_calm m c t)) ?_
  exact BIBase.Entails.trans (wp_frame_l _ _ _) (wp_mono _ _ _ fun _ => held_post m c t)

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ loose := fun t => by
  rw [bigSep_W0, bigSep_W0, row]
  exact triple_restated (sound_body m c t) rfl .rfl fun _ => .rfl

theorem run : θ_run defs (onTc (τ := τ) (main (F := F))) (s₀ m ρ)
    (fun r => Pipeline.RDat.FramePost (cfgs 0) (fun c => (dats m 0 c).toRForget loose) (V m) r ∧ r.2.sem = fun _ => 0) :=
  Pipeline.θ_run_frame_forget (Q' := _) cfgs (dats m) (0 : Fin 1) launch0 defs₀ Variants.none loose m ρ main
    (hbody := fun c => (body_obligation m c).loose) (hshare := fun c => (dats m 0 c).share_full fun _ => rfl)
    (howed := fun _ _ => rfl) (V := V m) (hmain := hmain m Variants.none) (hA := arrays m) (hΦ := fun _ _ => rfl)

/-- An argument's array ends as it was launched. -/
theorem kept {r} (h : Pipeline.RDat.FramePost (cfgs 0) (fun c => (dats m 0 c).toRForget loose) (V m) r) (c : Dev nD) (w : Fin 8)
    (hw : (cfg0.win w).isOut = false) :
    r.2.mem ((c : Thread nD τ).loc (Pipeline.arrRef spec0 w)) = m ((c : Thread nD τ).loc (Pipeline.arrRef spec0 w)) :=
  (Pipeline.RDat.FramePost.arr_in h c w hw).trans (arrays m c w)

theorem frame_kernel : Cert.quiescent_Kernel3 (hKernel3 := Cert.Kernel3.Gen.facts) := fun m g _ =>
  (θ_run defs _ _).mono (fun _ ⟨h, hz⟩ => ⟨fun c => ⟨kept m h c 0 rfl, kept m h c 1 rfl, kept m h c 2 rfl, kept m h c 3 rfl,
    kept m h c 4 rfl, kept m h c 5 rfl, kept m h c 6 rfl⟩, hz⟩) (run m g)

end Cert.Dsa

end
-- ==== Proof.lean ====
/-
  The claim of this directory: the conjunction of the claims that Proof/Merge.lean, Proof/ProjClaims.lean and
  Proof/DsaFrame.lean prove.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Merge
public import proofs.«01_k».proof.Proof.ProjClaims
public import proofs.«01_k».proof.Proof.DsaFrame

@[expose] public section

/-- Every claim, with the side conditions of every program. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts,
    Cert.Merge.frame_kernel, Cert.Merge.frame_ideal, Cert.Merge.frame_reference,
    Cert.Proj.frame_kernel, Cert.Proj.frame_ideal, Cert.Proj.frame_reference,
    Cert.Dsa.frame_kernel,
    Cert.Merge.preserves, Cert.Merge.algebraic, Cert.Proj.preserves, Cert.Proj.algebraic⟩
